-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_b" .f32 0x3D922279#32 ((80338380498831 / 1125899906842624 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v42_3)) (v4 : (c : Dev Cert.Kernel3Ideal.nD) → Buf (Elt Ideal) ((c.tc : Thread Cert.Kernel3Ideal.nD Cert.Kernel3Ideal.τ).loc Cert.Kernel3Ideal.main_v42_4)) (v5 : (c : Dev Cert.Kernel3Ideal.nD) → Buf (Elt Ideal) ((c.tc : Thread Cert.Kernel3Ideal.nD Cert.Kernel3Ideal.τ).loc Cert.Kernel3Ideal.main_v42_5)) (v6 : (c : Dev Cert.Kernel3Ideal.nD) → Buf (Elt Ideal) ((c.tc : Thread Cert.Kernel3Ideal.nD Cert.Kernel3Ideal.τ).loc Cert.Kernel3Ideal.main_v42_6)) (v7 : (c : Dev Cert.Kernel3Ideal.nD) → Buf (Elt Ideal) ((c.tc : Thread Cert.Kernel3Ideal.nD Cert.Kernel3Ideal.τ).loc Cert.Kernel3Ideal.main_v42_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v42_3) = v3 c
          ∧ r.2.mem ((c.tc : Thread Cert.Kernel3Ideal.nD Cert.Kernel3Ideal.τ).loc Cert.Kernel3Ideal.main_v42_4) = v4 c
          ∧ r.2.mem ((c.tc : Thread Cert.Kernel3Ideal.nD Cert.Kernel3Ideal.τ).loc Cert.Kernel3Ideal.main_v42_5) = v5 c
          ∧ r.2.mem ((c.tc : Thread Cert.Kernel3Ideal.nD Cert.Kernel3Ideal.τ).loc Cert.Kernel3Ideal.main_v42_6) = v6 c
          ∧ r.2.mem ((c.tc : Thread Cert.Kernel3Ideal.nD Cert.Kernel3Ideal.τ).loc Cert.Kernel3Ideal.main_v42_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v110) = v0 c
          ∧ r.2.mem ((c.tc : Thread Cert.Reference3Ideal.nD Cert.Reference3Ideal.τ).loc Cert.Reference3Ideal.main_v112) = v1 c
          ∧ r.2.mem ((c.tc : Thread Cert.Reference3Ideal.nD Cert.Reference3Ideal.τ).loc Cert.Reference3Ideal.main_v114) = v2 c
          ∧ r.2.mem ((c.tc : Thread Cert.Reference3Ideal.nD Cert.Reference3Ideal.τ).loc Cert.Reference3Ideal.main_v116) = v3 c
          ∧ r.2.mem ((c.tc : Thread Cert.Reference3Ideal.nD Cert.Reference3Ideal.τ).loc Cert.Reference3Ideal.main_v117) = v4 c
          ∧ r.2.mem ((c.tc : Thread Cert.Reference3Ideal.nD Cert.Reference3Ideal.τ).loc Cert.Reference3Ideal.main_v119) = v5 c
          ∧ r.2.mem ((c.tc : Thread Cert.Reference3Ideal.nD Cert.Reference3Ideal.τ).loc Cert.Reference3Ideal.main_v121) = v6 c
          ∧ r.2.mem ((c.tc : Thread Cert.Reference3Ideal.nD Cert.Reference3Ideal.τ).loc Cert.Reference3Ideal.main_v122) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_decays.lean ====
abbrev S65536x256 : Shape := ⟨2, ![65536, 256]⟩
abbrev S65536x512 : Shape := ⟨2, ![65536, 512]⟩
abbrev S1x512 : Shape := ⟨2, ![1, 512]⟩
abbrev S_ : Shape := ⟨0, ![]⟩

class Facts : Prop where
  bcast_S_S65536x256 : S_.BroadcastsInDim S65536x256 (![] : Fin 0 → Fin S65536x256.rank)

variable [Facts]

def fn {F : FTy → Type} [FloatOps F] (main_arg0 : FVec F S65536x256 .bf16) (main_arg1 : FVec F S65536x256 .bf16) (main_arg2 : FVec F S65536x512 .bf16) (main_arg3 : FVec F S65536x512 .bf16) (main_arg4 : FVec F S65536x256 .f32) (main_arg5 : FVec F S1x512 .f32) : IVec S65536x256 1 :=
  let main_cst : FVec F S_ .f32 := constant S_ .f32 0x7F800000#32
  let main_v0 : FVec F S65536x256 .f32 := broadcastInDim S65536x256 ![] bcast_S_S65536x256 main_cst
  let main_v1 : IVec S65536x256 1 := cmpf .olt main_arg4 main_v0
  main_v1
-- ==== Kernel.lean ====
abbrev S65536x256 : Shape := ⟨2, ![65536, 256]⟩
abbrev S65536x512 : Shape := ⟨2, ![65536, 512]⟩
abbrev S1x512 : Shape := ⟨2, ![1, 512]⟩
abbrev S512 : Shape := ⟨1, ![512]⟩
abbrev S512x256 : Shape := ⟨2, ![512, 256]⟩
abbrev S512x512 : Shape := ⟨2, ![512, 512]⟩
abbrev S256x128 : Shape := ⟨2, ![256, 128]⟩
abbrev S64x64 : Shape := ⟨2, ![64, 64]⟩
abbrev S1x256 : Shape := ⟨2, ![1, 256]⟩
abbrev S256x64 : Shape := ⟨2, ![256, 64]⟩
abbrev S64x256 : Shape := ⟨2, ![64, 256]⟩
abbrev S256x256 : Shape := ⟨2, ![256, 256]⟩
abbrev S8x256 : Shape := ⟨2, ![8, 256]⟩
abbrev S256x8 : Shape := ⟨2, ![256, 8]⟩
abbrev S256x1 : Shape := ⟨2, ![256, 1]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 9
  | .vmem => 14
  | .smem => 0
  | _ => 0

abbrev bufTy : (tb : Table) → Fin (tcTables nBuf tb) → BufTy
  | .hbm, ⟨0, _⟩ => ⟨S65536x256, .bf16⟩
  | .hbm, ⟨1, _⟩ => ⟨S65536x256, .bf16⟩
  | .hbm, ⟨2, _⟩ => ⟨S65536x512, .bf16⟩
  | .hbm, ⟨3, _⟩ => ⟨S65536x512, .bf16⟩
  | .hbm, ⟨4, _⟩ => ⟨S65536x256, .f32⟩
  | .hbm, ⟨5, _⟩ => ⟨S1x512, .f32⟩
  | .hbm, ⟨6, _⟩ => ⟨S512, .f32⟩
  | .hbm, ⟨7, _⟩ => ⟨S1x512, .f32⟩
  | .hbm, ⟨8, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S256x128, .f32⟩
  | _, _ => ⟨S65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S65536x256 : Shape := ⟨2, ![65536, 256]⟩
abbrev S65536x512 : Shape := ⟨2, ![65536, 512]⟩
abbrev S1x512 : Shape := ⟨2, ![1, 512]⟩
abbrev S16x64x64x4x64 : Shape := ⟨5, ![16, 64, 64, 4, 64]⟩
abbrev S16x64x64x4x128 : Shape := ⟨5, ![16, 64, 64, 4, 128]⟩
abbrev S_ : Shape := ⟨0, ![]⟩
abbrev S16x64x1x4x64 : Shape := ⟨5, ![16, 64, 1, 4, 64]⟩
abbrev S16x64x4x64x64 : Shape := ⟨5, ![16, 64, 4, 64, 64]⟩
abbrev S64x64 : Shape := ⟨2, ![64, 64]⟩
abbrev S16x64x4x128x64 : Shape := ⟨5, ![16, 64, 4, 128, 64]⟩
abbrev S16x64x4x64x128 : Shape := ⟨5, ![16, 64, 4, 64, 128]⟩
abbrev S16x64x4x64 : Shape := ⟨4, ![16, 64, 4, 64]⟩
abbrev S16x4x64x128 : Shape := ⟨4, ![16, 4, 64, 128]⟩
abbrev S64x16x4x64 : Shape := ⟨4, ![64, 16, 4, 64]⟩
abbrev S64x16x4x64x128 : Shape := ⟨5, ![64, 16, 4, 64, 128]⟩
abbrev S1x16x4x64 : Shape := ⟨4, ![1, 16, 4, 64]⟩
abbrev S16x4x64 : Shape := ⟨3, ![16, 4, 64]⟩
abbrev S1x16x4x64x128 : Shape := ⟨5, ![1, 16, 4, 64, 128]⟩
abbrev S16x4x64x1 : Shape := ⟨4, ![16, 4, 64, 1]⟩
abbrev S16x4096x4x128 : Shape := ⟨4, ![16, 4096, 4, 128]⟩
abbrev S512 : Shape := ⟨1, ![512]⟩
abbrev S4x128 : Shape := ⟨2, ![4, 128]⟩
abbrev S16x4096x4 : Shape := ⟨3, ![16, 4096, 4]⟩
abbrev S16x4096x4x1 : Shape := ⟨4, ![16, 4096, 4, 1]⟩
abbrev S1x1x4x128 : Shape := ⟨4, ![1, 1, 4, 128]⟩

abbrev nBuf : Space → Nat
  | .hbm => 121
  | .vmem => 0
  | .smem => 0
  | _ => 0

abbrev bufTy : (tb : Table) → Fin (tcTables nBuf tb) → BufTy
  | .hbm, ⟨0, _⟩ => ⟨S65536x256, .bf16⟩
  | .hbm, ⟨1, _⟩ => ⟨S65536x256, .bf16⟩
  | .hbm, ⟨2, _⟩ => ⟨S65536x512, .bf16⟩
  | .hbm, ⟨3, _⟩ => ⟨S65536x512, .bf16⟩
  | .hbm, ⟨4, _⟩ => ⟨S65536x256, .f32⟩
  | .hbm, ⟨5, _⟩ => ⟨S1x512, .f32⟩
  | .hbm, ⟨6, _⟩ => ⟨S65536x256, .f32⟩
  | .hbm, ⟨7, _⟩ => ⟨S16x64x64x4x64, .f32⟩
  | .hbm, ⟨8, _⟩ => ⟨S65536x256, .f32⟩
  | .hbm, ⟨9, _⟩ => ⟨S16x64x64x4x64, .f32⟩
  | .hbm, ⟨10, _⟩ => ⟨S65536x512, .f32⟩
  | .hbm, ⟨11, _⟩ => ⟨S16x64x64x4x128, .f32⟩
  | .hbm, ⟨12, _⟩ => ⟨S16x64x64x4x64, .f32⟩
  | .hbm, ⟨13, _⟩ => ⟨S_, .f32⟩
  | .hbm, ⟨14, _⟩ => ⟨S_, .f32⟩
  | .hbm, ⟨15, _⟩ => ⟨S16x64x64x4x64, .f32⟩
  | .hbm, ⟨16, _⟩ => ⟨S16x64x1x4x64, .f32⟩
  | .hbm, ⟨17, _⟩ => ⟨S16x64x64x4x64, .f32⟩
  | .hbm, ⟨18, _⟩ => ⟨S16x64x64x4x64, .f32⟩
  | .hbm, ⟨19, _⟩ => ⟨S16x64x64x4x64, .f32⟩
  | .hbm, ⟨20, _⟩ => ⟨S16x64x64x4x64, .f32⟩
  | .hbm, ⟨21, _⟩ => ⟨S16x64x64x4x64, .f32⟩
  | .hbm, ⟨22, _⟩ => ⟨S16x64x4x64x64, .f32⟩
  | .hbm, ⟨23, _⟩ => ⟨S16x64x64x4x64, .f32⟩
  | .hbm, ⟨24, _⟩ => ⟨S16x64x64x4x64, .f32⟩
  | .hbm, ⟨25, _⟩ => ⟨S16x64x4x64x64, .f32⟩
  | .hbm, ⟨26, _⟩ => ⟨S_, .i1⟩
  | .hbm, ⟨27, _⟩ => ⟨S64x64, .i1⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .i1⟩
  | .hbm, ⟨35, _⟩ => ⟨S64x64, .i1⟩
  | .hbm, ⟨36, _⟩ => ⟨S64x64, .i1⟩
  | .hbm, ⟨37, _⟩ => ⟨S16x64x4x64x64, .i1⟩
  | .hbm, ⟨38, _⟩ => ⟨S16x64x4x64x64, .f32⟩
  | .hbm, ⟨39, _⟩ => ⟨S16x64x4x128x64, .f32⟩
  | .hbm, ⟨40, _⟩ => ⟨S16x64x64x4x128, .f32⟩
  | .hbm, ⟨41, _⟩ => ⟨S16x64x64x4x64, .f32⟩
  | .hbm, ⟨42, _⟩ => ⟨S16x64x64x4x64, .f32⟩
  | .hbm, ⟨43, _⟩ => ⟨S16x64x64x4x64, .f32⟩
  | .hbm, ⟨44, _⟩ => ⟨S16x64x64x4x64, .f32⟩
  | .hbm, ⟨45, _⟩ => ⟨S16x64x4x64x128, .f32⟩
  | .hbm, ⟨46, _⟩ => ⟨S16x64x4x64, .f32⟩
  | .hbm, ⟨47, _⟩ => ⟨S16x64x4x64, .f32⟩
  | .hbm, ⟨48, _⟩ => ⟨S_, .f32⟩
  | .hbm, ⟨49, _⟩ => ⟨S16x4x64x128, .f32⟩
  | .hbm, ⟨50, _⟩ => ⟨S64x16x4x64, .f32⟩
  | .hbm, ⟨51, _⟩ => ⟨S64x16x4x64x128, .f32⟩
  | .hbm, ⟨52, _⟩ => ⟨S_, .f32⟩
  | .hbm, ⟨53, _⟩ => ⟨S64x16x4x64x128, .f32⟩
  | .hbm, ⟨54, _⟩ => ⟨S_, .i32⟩
  | .hbm, ⟨55, _⟩ => ⟨S64x16x4x64, .f32⟩
  | .hbm, ⟨56, _⟩ => ⟨S64x16x4x64x128, .f32⟩
  | .hbm, ⟨57, _⟩ => ⟨S_, .i32⟩
  | .hbm, ⟨58, _⟩ => ⟨S16x4x64x128, .f32⟩
  | .hbm, ⟨59, _⟩ => ⟨S64x16x4x64x128, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x16x4x64, .f32⟩
  | .hbm, ⟨66, _⟩ => ⟨S16x4x64, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x16x4x64x128, .f32⟩
  | .hbm, ⟨72, _⟩ => ⟨S16x4x64x128, .f32⟩
  | .hbm, ⟨73, _⟩ => ⟨S16x4x64x1, .f32⟩
  | .hbm, ⟨74, _⟩ => ⟨S16x4x64x128, .f32⟩
  | .hbm, ⟨75, _⟩ => ⟨S16x4x64x128, .f32⟩
  | .hbm, ⟨76, _⟩ => ⟨S16x4x64x128, .f32⟩
  | .hbm, ⟨77, _⟩ => ⟨S1x16x4x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S64x16x4x64x128, .f32⟩
  | .hbm, ⟨83, _⟩ => ⟨S_, .i32⟩
  | .hbm, ⟨84, _⟩ => ⟨S_, .i32⟩
  | .hbm, ⟨85, _⟩ => ⟨S16x64x4x64x128, .f32⟩
  | .hbm, ⟨86, _⟩ => ⟨S16x64x4x128x64, .f32⟩
  | .hbm, ⟨87, _⟩ => ⟨S16x64x64x4x128, .f32⟩
  | .hbm, ⟨88, _⟩ => ⟨S16x64x64x4x128, .f32⟩
  | .hbm, ⟨89, _⟩ => ⟨S16x4096x4x128, .f32⟩
  | .hbm, ⟨90, _⟩ => ⟨S512, .f32⟩
  | .hbm, ⟨91, _⟩ => ⟨S4x128, .f32⟩
  | .hbm, ⟨92, _⟩ => ⟨S16x4096x4x128, .f32⟩
  | .hbm, ⟨93, _⟩ => ⟨S_, .f32⟩
  | .hbm, ⟨94, _⟩ => ⟨S16x4096x4, .f32⟩
  | .hbm, ⟨95, _⟩ => ⟨S16x4096x4x1, .f32⟩
  | .hbm, ⟨96, _⟩ => ⟨S_, .f32⟩
  | .hbm, ⟨97, _⟩ => ⟨S16x4096x4x1, .f32⟩
  | .hbm, ⟨98, _⟩ => ⟨S16x4096x4x1, .f32⟩
  | .hbm, ⟨99, _⟩ => ⟨S_, .f32⟩
  | .hbm, ⟨100, _⟩ => ⟨S16x4096x4x1, .f32⟩
  | .hbm, ⟨101, _⟩ => ⟨S16x4096x4x1, .f32⟩
  | .hbm, ⟨102, _⟩ => ⟨S16x4096x4x1, .f32⟩
  | .hbm, ⟨103, _⟩ => ⟨S16x4096x4x128, .f32⟩
  | .hbm, ⟨104, _⟩ => ⟨S16x4096x4x128, .f32⟩
  | .hbm, ⟨105, _⟩ => ⟨S1x1x4x128, .f32⟩
  | .hbm, ⟨106, _⟩ => ⟨S16x4096x4x128, .f32⟩
  | .hbm, ⟨107, _⟩ => ⟨S16x4096x4x128, .f32⟩
  | .hbm, ⟨108, _⟩ => ⟨S65536x512, .f32⟩
  | .hbm, ⟨109, _⟩ => ⟨S65536x512, .f32⟩
  | .hbm, ⟨110, _⟩ => ⟨S65536x512, .f32⟩
  | .hbm, ⟨111, _⟩ => ⟨S65536x512, .f32⟩
  | .hbm, ⟨112, _⟩ => ⟨S_, .f32⟩
  | .hbm, ⟨113, _⟩ => ⟨S65536x512, .f32⟩
  | .hbm, ⟨114, _⟩ => ⟨S65536x512, .f32⟩
  | .hbm, ⟨115, _⟩ => ⟨S_, .f32⟩
  | .hbm, ⟨116, _⟩ => ⟨S65536x512, .f32⟩
  | .hbm, ⟨117, _⟩ => ⟨S65536x512, .f32⟩
  | .hbm, ⟨118, _⟩ => ⟨S65536x512, .f32⟩
  | .hbm, ⟨119, _⟩ => ⟨S65536x512, .f32⟩
  | .hbm, ⟨120, _⟩ => ⟨S65536x512, .bf16⟩
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_call0_cst : Ref sig .tc := ⟨.hbm, 13, rfl⟩
abbrev main_call0_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v19 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_v33 : Ref sig .tc := ⟨.hbm, 53, rfl⟩
abbrev main_c_1 : Ref sig .tc := ⟨.hbm, 54, rfl⟩
abbrev main_v34_0 : Ref sig .tc := ⟨.hbm, 55, rfl⟩
abbrev main_v34_1 : Ref sig .tc := ⟨.hbm, 56, rfl⟩
abbrev main_v34_2 : Ref sig .tc := ⟨.hbm, 57, rfl⟩
abbrev main_v34_3 : Ref sig .tc := ⟨.hbm, 58, rfl⟩
abbrev main_v34_4 : Ref sig .tc := ⟨.hbm, 59, rfl⟩
abbrev main_while0c_c_9 : Ref sig .tc := ⟨.hbm, 60, rfl⟩
abbrev main_while0c_v60 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v60 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_call5_v0 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_c_2 : Ref sig .tc := ⟨.hbm, 81, rfl⟩
abbrev main_while0b_v66 : Ref sig .tc := ⟨.hbm, 82, rfl⟩
abbrev main_while0b_c_9 : Ref sig .tc := ⟨.hbm, 83, rfl⟩
abbrev main_while0b_v67 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_2 : Ref sig .tc := ⟨.hbm, 93, rfl⟩
abbrev main_v43 : Ref sig .tc := ⟨.hbm, 94, rfl⟩
abbrev main_v44 : Ref sig .tc := ⟨.hbm, 95, rfl⟩
abbrev main_cst_3 : Ref sig .tc := ⟨.hbm, 96, rfl⟩
abbrev main_v45 : Ref sig .tc := ⟨.hbm, 97, rfl⟩
abbrev main_v46 : Ref sig .tc := ⟨.hbm, 98, rfl⟩
abbrev main_cst_4 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_call6_v0 : Ref sig .tc := ⟨.hbm, 110, rfl⟩
abbrev main_call6_v1 : Ref sig .tc := ⟨.hbm, 111, rfl⟩
abbrev main_call6_cst : Ref sig .tc := ⟨.hbm, 112, rfl⟩
abbrev main_call6_v2 : Ref sig .tc := ⟨.hbm, 113, rfl⟩
abbrev main_call6_v3 : Ref sig .tc := ⟨.hbm, 114, rfl⟩
abbrev main_call6_cst_0 : Ref sig .tc := ⟨.hbm, 115, rfl⟩
abbrev main_call6_v4 : Ref sig .tc := ⟨.hbm, 116, rfl⟩
abbrev main_call6_v5 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16x4096x1024 : Shape := ⟨3, ![16, 4096, 1024]⟩
abbrev S65536x512 : Shape := ⟨2, ![65536, 512]⟩
abbrev S1x16x4096x256 : Shape := ⟨4, ![1, 16, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024 : Shape := ⟨1, ![1024]⟩
abbrev S65536x1024 : Shape := ⟨2, ![65536, 1024]⟩
abbrev S16x4096x256 : Shape := ⟨3, ![16, 4096, 256]⟩
abbrev S65536x256 : Shape := ⟨2, ![65536, 256]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S11x16x512 : Shape := ⟨3, ![11, 16, 512]⟩
abbrev S8x576x128 : Shape := ⟨3, ![8, 576, 128]⟩
abbrev S512x2816 : Shape := ⟨2, ![512, 2816]⟩
abbrev S512 : Shape := ⟨1, ![512]⟩
abbrev S512x1 : Shape := ⟨2, ![512, 1]⟩
abbrev S64x128 : Shape := ⟨2, ![64, 128]⟩
abbrev S1x64x128 : Shape := ⟨3, ![1, 64, 128]⟩
abbrev S1x8x128 : Shape := ⟨3, ![1, 8, 128]⟩
abbrev S8x128 : Shape := ⟨2, ![8, 128]⟩
abbrev S512x128 : Shape := ⟨2, ![512, 128]⟩
abbrev S8x512 : Shape := ⟨2, ![8, 512]⟩
abbrev S1024x256 : Shape := ⟨2, ![1024, 256]⟩
abbrev S1x16x512 : Shape := ⟨3, ![1, 16, 512]⟩
abbrev S16x512 : Shape := ⟨2, ![16, 512]⟩
abbrev S504x512 : Shape := ⟨2, ![504, 512]⟩
abbrev S496x512 : Shape := ⟨2, ![496, 512]⟩
abbrev S3x256 : Shape := ⟨2, ![3, 256]⟩
abbrev S3x512 : Shape := ⟨2, ![3, 512]⟩
abbrev S1x256 : Shape := ⟨2, ![1, 256]⟩
abbrev S1x512 : Shape := ⟨2, ![1, 512]⟩

abbrev nBuf : Space → Nat
  | .hbm => 36
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S1x16x4096x256, .f32⟩
  | .hbm, ⟨4, _⟩ => ⟨S1x1024x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S1024, .f32⟩
  | .hbm, ⟨14, _⟩ => ⟨S65536x1024, .f32⟩
  | .hbm, ⟨15, _⟩ => ⟨S16x4096x256, .f32⟩
  | .hbm, ⟨16, _⟩ => ⟨S65536x256, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x5632, .f32⟩
  | .hbm, ⟨22, _⟩ => ⟨S1024x5632, .bf16⟩
  | .hbm, ⟨23, _⟩ => ⟨S3x5632, .f32⟩
  | .hbm, ⟨24, _⟩ => ⟨S5632, .f32⟩
  | .hbm, ⟨25, _⟩ => ⟨S1x5632, .f32⟩
  | .hbm, ⟨26, _⟩ => ⟨S2816x1024, .f32⟩
  | .hbm, ⟨27, _⟩ => ⟨S2816x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S1x1024, .f32⟩
  | .hbm, ⟨35, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S11x16x512, .f32⟩
  | .local _ .vmem, ⟨21, _⟩ => ⟨S8x576x128, .f32⟩
  | .local _ .vmem, ⟨22, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel2Ideal.lean ====
variable {F : FTy → Type} [FloatOps F] [Named F]
def κ : String → Option EReal := fun
  | "gelu_b" => some ((80338380498831 / 1125899906842624 : ℝ) : EReal)
  | _ => none
-- ==== Reference2Ideal.lean ====
abbrev S16x4096x1024 : Shape := ⟨3, ![16, 4096, 1024]⟩
abbrev S65536x512 : Shape := ⟨2, ![65536, 512]⟩
abbrev S1x16x4096x256 : Shape := ⟨4, ![1, 16, 4096, 256]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1024 : Shape := ⟨1, ![1024]⟩
abbrev S16x4096x512 : Shape := ⟨3, ![16, 4096, 512]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x4096x5632 : Shape := ⟨3, ![16, 4096, 5632]⟩
abbrev S16x4098x5632 : Shape := ⟨3, ![16, 4098, 5632]⟩
abbrev S1x1x5632 : Shape := ⟨3, ![1, 1, 5632]⟩
abbrev S16x4096x2816 : Shape := ⟨3, ![16, 4096, 2816]⟩
abbrev S16x4096x256 : Shape := ⟨3, ![16, 4096, 256]⟩
abbrev S256x1024 : Shape := ⟨2, ![256, 1024]⟩
abbrev S65536x1024 : Shape := ⟨2, ![65536, 1024]⟩

abbrev nBuf : Space → Nat
  | .hbm => 144
  | .vmem => 0
  | .smem => 0
  | _ => 0

abbrev hbmTy0_0 (i : Nat) : BufTy := match i % 128 with
  | 0 => ⟨S16x4096x1024, .f32⟩
  | 1 => ⟨S65536x512, .bf16⟩
  | 2 => ⟨S65536x512, .bf16⟩
  | 3 => ⟨S1x16x4096x256, .f32⟩
  | 4 => ⟨S1x1024x1024, .f32⟩
  | 5 => ⟨S1x1024, .f32⟩
  | 6 => ⟨S1x1024x5632, .f32⟩
  | 7 => ⟨S1x3x5632, .f32⟩
  | 8 => ⟨S1x5632, .f32⟩
  | 9 => ⟨S1x2816x1024, .f32⟩
  | 10 => ⟨S1x1024, .f32⟩
  | 11 => ⟨S1x1024x1024, .f32⟩
  | 12 => ⟨S1x256x1024, .f32⟩
  | 13 => ⟨S1024, .f32⟩
  | 14 => ⟨S65536x512, .f32⟩
  | 15 => ⟨S16x4096x512, .f32⟩
  | 16 => ⟨S65536x512, .f32⟩
  | 17 => ⟨S16x4096x512, .f32⟩
  | 18 => ⟨S16x4096x1024, .f32⟩
  | 19 => ⟨S1024x1024, .f32⟩
  | 20 => ⟨S16x4096x1024, .f32⟩
  | 21 => ⟨S16x4096x1024, .f32⟩
  | 22 => ⟨S1024, .f32⟩
  | 23 => ⟨S16x4096x1024, .f32⟩
  | 24 => ⟨S_, .f32⟩
  | 25 => ⟨S16x4096, .f32⟩
  | 26 => ⟨S16x4096x1, .f32⟩
  | 27 => ⟨S_, .f32⟩
  | 28 => ⟨S16x4096x1, .f32⟩
  | 29 => ⟨S16x4096x1, .f32⟩
  | 30 => ⟨S_, .f32⟩
  | 31 => ⟨S16x4096x1, .f32⟩
  | 32 => ⟨S16x4096x1, .f32⟩
  | 33 => ⟨S16x4096x1, .f32⟩
  | 34 => ⟨S16x4096x1024, .f32⟩
  | 35 => ⟨S16x4096x1024, .f32⟩
  | 36 => ⟨S1x1x1024, .f32⟩
  | 37 => ⟨S16x4096x1024, .f32⟩
  | 38 => ⟨S16x4096x1024, .f32⟩
  | 39 => ⟨S1024x5632, .f32⟩
  | 40 => ⟨S3x5632, .f32⟩
  | 41 => ⟨S5632, .f32⟩
  | 42 => ⟨S2816x1024, .f32⟩
  | 43 => ⟨S16x4096x5632, .f32⟩
  | 44 => ⟨S_, .i32⟩
  | 45 => ⟨S_, .f32⟩
  | 46 => ⟨S16x4098x5632, .f32⟩
  | 47 => ⟨S16x4096x5632, .f32⟩
  | 48 => ⟨S1x5632, .f32⟩
  | 49 => ⟨S5632, .f32⟩
  | 50 => ⟨S1x1x5632, .f32⟩
  | 51 => ⟨S16x4096x5632, .f32⟩
  | 52 => ⟨S16x4096x5632, .f32⟩
  | 53 => ⟨S_, .f32⟩
  | 54 => ⟨S16x4096x5632, .f32⟩
  | 55 => ⟨S16x4096x5632, .f32⟩
  | 56 => ⟨S16x4096x5632, .f32⟩
  | 57 => ⟨S1x5632, .f32⟩
  | 58 => ⟨S5632, .f32⟩
  | 59 => ⟨S1x1x5632, .f32⟩
  | 60 => ⟨S16x4096x5632, .f32⟩
  | 61 => ⟨S16x4096x5632, .f32⟩
  | 62 => ⟨S16x4096x5632, .f32⟩
  | 63 => ⟨S16x4096x5632, .f32⟩
  | 64 => ⟨S1x5632, .f32⟩
  | 65 => ⟨S5632, .f32⟩
  | 66 => ⟨S1x1x5632, .f32⟩
  | 67 => ⟨S16x4096x5632, .f32⟩
  | 68 => ⟨S16x4096x5632, .f32⟩
  | 69 => ⟨S16x4096x5632, .f32⟩
  | 70 => ⟨S1x1x5632, .f32⟩
  | 71 => ⟨S16x4096x5632, .f32⟩
  | 72 => ⟨S16x4096x5632, .f32⟩
  | 73 => ⟨S16x4096x2816, .f32⟩
  | 74 => ⟨S16x4096x2816, .f32⟩
  | 75 => ⟨S16x4096x2816, .f32⟩
  | 76 => ⟨S16x4096x2816, .f32⟩
  | 77 => ⟨S_, .f32⟩
  | 78 => ⟨S16x4096x2816, .f32⟩
  | 79 => ⟨S16x4096x2816, .f32⟩
  | 80 => ⟨S16x4096x2816, .f32⟩
  | 81 => ⟨S_, .f32⟩
  | 82 => ⟨S16x4096x2816, .f32⟩
  | 83 => ⟨S16x4096x2816, .f32⟩
  | 84 => ⟨S16x4096x2816, .f32⟩
  | 85 => ⟨S_, .f32⟩
  | 86 => ⟨S16x4096x2816, .f32⟩
  | 87 => ⟨S16x4096x2816, .f32⟩
  | 88 => ⟨S_, .f32⟩
  | 89 => ⟨S16x4096x2816, .f32⟩
  | 90 => ⟨S16x4096x2816, .f32⟩
  | 91 => ⟨S16x4096x2816, .f32⟩
  | 92 => ⟨S16x4096x2816, .f32⟩
  | 93 => ⟨S16x4096x1024, .f32⟩
  | 94 => ⟨S16x4096x1024, .f32⟩
  | 95 => ⟨S1024, .f32⟩
  | 96 => ⟨S16x4096x1024, .f32⟩
  | 97 => ⟨S_, .f32⟩
  | 98 => ⟨S16x4096, .f32⟩
  | 99 => ⟨S16x4096x1, .f32⟩
  | 100 => ⟨S_, .f32⟩
  | 101 => ⟨S16x4096x1, .f32⟩
  | 102 => ⟨S16x4096x1, .f32⟩
  | 103 => ⟨S_, .f32⟩
  | 104 => ⟨S16x4096x1, .f32⟩
  | 105 => ⟨S16x4096x1, .f32⟩
  | 106 => ⟨S16x4096x1, .f32⟩
  | 107 => ⟨S16x4096x1024, .f32⟩
  | 108 => ⟨S16x4096x1024, .f32⟩
  | 109 => ⟨S1x1x1024, .f32⟩
  | 110 => ⟨S16x4096x1024, .f32⟩
  | 111 => ⟨S16x4096x1024, .f32⟩
  | 112 => ⟨S1024x1024, .f32⟩
  | 113 => ⟨S16x4096x1024, .f32⟩
  | 114 => ⟨S16x4096x1024, .f32⟩
  | 115 => ⟨S16x4096x1024, .f32⟩
  | 116 => ⟨S_, .f32⟩
  | 117 => ⟨S16x4096x1024, .f32⟩
  | 118 => ⟨S16x4096x1024, .f32⟩
  | 119 => ⟨S_, .f32⟩
  | 120 => ⟨S16x4096x1024, .f32⟩
  | 121 => ⟨S16x4096x1024, .f32⟩
  | 122 => ⟨S16x4096x256, .f32⟩
  | 123 => ⟨S256x1024, .f32⟩
  | 124 => ⟨S16x4096x1024, .f32⟩
  | 125 => ⟨S16x4096x1024, .f32⟩
  | 126 => ⟨S16x4096x1024, .f32⟩
  | 127 => ⟨S16x4096x1024, .f32⟩
  | _ => ⟨S16x4096x1024, .f32⟩

abbrev hbmTy0_1 (i : Nat) : BufTy := match i % 128 with
  | 0 => ⟨S_, .f32⟩
  | 1 => ⟨S16x4096, .f32⟩
  | 2 => ⟨S16x4096x1, .f32⟩
  | 3 => ⟨S_, .f32⟩
  | 4 => ⟨S16x4096x1, .f32⟩
  | 5 => ⟨S16x4096x1, .f32⟩
  | 6 => ⟨S_, .f32⟩
  | 7 => ⟨S16x4096x1, .f32⟩
  | 8 => ⟨S16x4096x1, .f32⟩
  | 9 => ⟨S16x4096x1, .f32⟩
  | 10 => ⟨S16x4096x1024, .f32⟩
  | 11 => ⟨S16x4096x1024, .f32⟩
  | 12 => ⟨S1x1x1024, .f32⟩
  | 13 => ⟨S16x4096x1024, .f32⟩
  | 14 => ⟨S16x4096x1024, .f32⟩
  | 15 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_5 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_7 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_10 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_12 : Ref sig .tc := ⟨.hbm, 128, rfl⟩
abbrev main_v99 : Ref sig .tc := ⟨.hbm, 129, rfl⟩
abbrev main_v100 : Ref sig .tc := ⟨.hbm, 130, rfl⟩
abbrev main_cst_13 : Ref sig .tc := ⟨.hbm, 131, rfl⟩
abbrev main_v101 : Ref sig .tc := ⟨.hbm, 132, rfl⟩
abbrev main_v102 : Ref sig .tc := ⟨.hbm, 133, rfl⟩
abbrev main_cst_14 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096 : Shape := ⟨2, ![16, 4096]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S65536x1024 : Shape := ⟨2, ![65536, 1024]⟩
abbrev S65536x1 : Shape := ⟨2, ![65536, 1]⟩
abbrev S1024x3088 : Shape := ⟨2, ![1024, 3088]⟩
abbrev S1024x1536 : Shape := ⟨2, ![1024, 1536]⟩
abbrev S1024x1024 : Shape := ⟨2, ![1024, 1024]⟩
abbrev S1024x16 : Shape := ⟨2, ![1024, 16]⟩
abbrev S1024x112 : Shape := ⟨2, ![1024, 112]⟩
abbrev S1024x2688 : Shape := ⟨2, ![1024, 2688]⟩
abbrev S1024x512 : Shape := ⟨2, ![1024, 512]⟩
abbrev S512x1024 : Shape := ⟨2, ![512, 1024]⟩
abbrev S16x256 : Shape := ⟨2, ![16, 256]⟩
abbrev S112x256 : Shape := ⟨2, ![112, 256]⟩
abbrev S128x256 : Shape := ⟨2, ![128, 256]⟩
abbrev S1024 : Shape := ⟨1, ![1024]⟩
abbrev S256 : Shape := ⟨1, ![256]⟩
abbrev S65536x256 : Shape := ⟨2, ![65536, 256]⟩
abbrev S65536x512 : Shape := ⟨2, ![65536, 512]⟩
abbrev S256x512x256 : Shape := ⟨3, ![256, 512, 256]⟩
abbrev S512x1 : Shape := ⟨2, ![512, 1]⟩
abbrev S512x256 : Shape := ⟨2, ![512, 256]⟩
abbrev S512x512 : Shape := ⟨2, ![512, 512]⟩
abbrev S2x512x256 : Shape := ⟨3, ![2, 512, 256]⟩
abbrev S128x128 : Shape := ⟨2, ![128, 128]⟩
abbrev S128x1 : Shape := ⟨2, ![128, 1]⟩
abbrev S512x128 : Shape := ⟨2, ![512, 128]⟩
abbrev S512 : Shape := ⟨1, ![512]⟩
abbrev S1024x256 : Shape := ⟨2, ![1024, 256]⟩
abbrev S1024x128 : Shape := ⟨2, ![1024, 128]⟩
abbrev S1x512x256 : Shape := ⟨3, ![1, 512, 256]⟩

abbrev nBuf : Space → Nat
  | .hbm => 64
  | .vmem => 27
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S1x1024, .f32⟩
  | .hbm, ⟨3, _⟩ => ⟨S1x1024x3088, .f32⟩
  | .hbm, ⟨4, _⟩ => ⟨S1x16x256, .f32⟩
  | .hbm, ⟨5, _⟩ => ⟨S1x256, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S64, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S65536x1024, .f32⟩
  | .hbm, ⟨35, _⟩ => ⟨S65536x1, .i32⟩
  | .hbm, ⟨36, _⟩ => ⟨S1024x3088, .f32⟩
  | .hbm, ⟨37, _⟩ => ⟨S1024x1536, .f32⟩
  | .hbm, ⟨38, _⟩ => ⟨S1024x1024, .f32⟩
  | .hbm, ⟨39, _⟩ => ⟨S1024x16, .f32⟩
  | .hbm, ⟨40, _⟩ => ⟨S_, .f32⟩
  | .hbm, ⟨41, _⟩ => ⟨S1024x112, .f32⟩
  | .hbm, ⟨42, _⟩ => ⟨S1024x2688, .f32⟩
  | .hbm, ⟨43, _⟩ => ⟨S1024x2688, .bf16⟩
  | .hbm, ⟨44, _⟩ => ⟨S1024x512, .f32⟩
  | .hbm, ⟨45, _⟩ => ⟨S512x1024, .f32⟩
  | .hbm, ⟨46, _⟩ => ⟨S512x1024, .bf16⟩
  | .hbm, ⟨47, _⟩ => ⟨S16x256, .f32⟩
  | .hbm, ⟨48, _⟩ => ⟨S_, .f32⟩
  | .hbm, ⟨49, _⟩ => ⟨S112x256, .f32⟩
  | .hbm, ⟨50, _⟩ => ⟨S128x256, .f32⟩
  | .hbm, ⟨51, _⟩ => ⟨S128x256, .bf16⟩
  | .hbm, ⟨52, _⟩ => ⟨S1024, .f32⟩
  | .hbm, ⟨53, _⟩ => ⟨S1x1024, .f32⟩
  | .hbm, ⟨54, _⟩ => ⟨S256, .f32⟩
  | .hbm, ⟨55, _⟩ => ⟨S1x256, .f32⟩
  | .hbm, ⟨56, _⟩ => ⟨S65536x256, .bf16⟩
  | .hbm, ⟨57, _⟩ => ⟨S65536x256, .bf16⟩
  | .hbm, ⟨58, _⟩ => ⟨S65536x512, .bf16⟩
  | .hbm, ⟨59, _⟩ => ⟨S65536x512, .bf16⟩
  | .hbm, ⟨60, _⟩ => ⟨S65536x256, .f32⟩
  | .hbm, ⟨61, _⟩ => ⟨S65536x512, .bf16⟩
  | .hbm, ⟨62, _⟩ => ⟨S65536x512, .bf16⟩
  | .hbm, ⟨63, _⟩ => ⟨S256x512x256, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x2688, .bf16⟩
  | .local _ .vmem, ⟨6, _⟩ => ⟨S512x1024, .bf16⟩
  | .local _ .vmem, ⟨7, _⟩ => ⟨S128x256, .bf16⟩
  | .local _ .vmem, ⟨8, _⟩ => ⟨S1x256, .f32⟩
  | .local _ .vmem, ⟨9, _⟩ => ⟨S1x128, .f32⟩
  | .local _ .vmem, ⟨10, _⟩ => ⟨S1x128, .f32⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x256, .f32⟩
  | .local _ .vmem, ⟨20, _⟩ => ⟨S512x256, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S2x512x256, .bf16⟩
  | .local _ .vmem, ⟨26, _⟩ => ⟨S2x512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v42_4 : Ref sig .tc := ⟨.hbm, 60, rfl⟩
abbrev main_v42_5 : Ref sig .tc := ⟨.hbm, 61, rfl⟩
abbrev main_v42_6 : Ref sig .tc := ⟨.hbm, 62, rfl⟩
abbrev main_v42_7 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S16x4096x1024 : Shape := ⟨3, ![16, 4096, 1024]⟩
abbrev S16x4096 : Shape := ⟨2, ![16, 4096]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1024 : Shape := ⟨1, ![1024]⟩
abbrev S_ : Shape := ⟨0, ![]⟩
abbrev S16x4096x1 : Shape := ⟨3, ![16, 4096, 1]⟩
abbrev S1x1x1024 : Shape := ⟨3, ![1, 1, 1024]⟩
abbrev S1024x3088 : Shape := ⟨2, ![1024, 3088]⟩
abbrev S16x4096x3088 : Shape := ⟨3, ![16, 4096, 3088]⟩
abbrev S16x4096x256 : Shape := ⟨3, ![16, 4096, 256]⟩
abbrev S16x4096x512 : Shape := ⟨3, ![16, 4096, 512]⟩
abbrev S16x4096x16 : Shape := ⟨3, ![16, 4096, 16]⟩
abbrev S16x256 : Shape := ⟨2, ![16, 256]⟩
abbrev S256 : Shape := ⟨1, ![256]⟩
abbrev S1x1x256 : Shape := ⟨3, ![1, 1, 256]⟩
abbrev S16x4096x8x64 : Shape := ⟨4, ![16, 4096, 8, 64]⟩
abbrev S32 : Shape := ⟨1, ![32]⟩
abbrev S1x1x32 : Shape := ⟨3, ![1, 1, 32]⟩
abbrev S16x4096x32 : Shape := ⟨3, ![16, 4096, 32]⟩
abbrev S16x4096x1x32 : Shape := ⟨4, ![16, 4096, 1, 32]⟩
abbrev S16x4096x8x32 : Shape := ⟨4, ![16, 4096, 8, 32]⟩
abbrev S256x256x512 : Shape := ⟨3, ![256, 256, 512]⟩
abbrev S256x512x256 : Shape := ⟨3, ![256, 512, 256]⟩
abbrev S65536x256 : Shape := ⟨2, ![65536, 256]⟩
abbrev S65536x512 : Shape := ⟨2, ![65536, 512]⟩

abbrev nBuf : Space → Nat
  | .hbm => 159
  | .vmem => 0
  | .smem => 0
  | _ => 0

abbrev hbmTy0_0 (i : Nat) : BufTy := match i % 128 with
  | 0 => ⟨S16x4096x1024, .f32⟩
  | 1 => ⟨S16x4096, .i32⟩
  | 2 => ⟨S1x1024, .f32⟩
  | 3 => ⟨S1x1024x3088, .f32⟩
  | 4 => ⟨S1x16x256, .f32⟩
  | 5 => ⟨S1x256, .f32⟩
  | 6 => ⟨S1024, .f32⟩
  | 7 => ⟨S16x4096x1024, .f32⟩
  | 8 => ⟨S_, .f32⟩
  | 9 => ⟨S16x4096, .f32⟩
  | 10 => ⟨S16x4096x1, .f32⟩
  | 11 => ⟨S_, .f32⟩
  | 12 => ⟨S16x4096x1, .f32⟩
  | 13 => ⟨S16x4096x1, .f32⟩
  | 14 => ⟨S_, .f32⟩
  | 15 => ⟨S16x4096x1, .f32⟩
  | 16 => ⟨S16x4096x1, .f32⟩
  | 17 => ⟨S16x4096x1, .f32⟩
  | 18 => ⟨S16x4096x1024, .f32⟩
  | 19 => ⟨S16x4096x1024, .f32⟩
  | 20 => ⟨S1x1x1024, .f32⟩
  | 21 => ⟨S16x4096x1024, .f32⟩
  | 22 => ⟨S16x4096x1024, .f32⟩
  | 23 => ⟨S1024x3088, .f32⟩
  | 24 => ⟨S16x4096x3088, .f32⟩
  | 25 => ⟨S16x4096x256, .f32⟩
  | 26 => ⟨S16x4096x256, .f32⟩
  | 27 => ⟨S16x4096x512, .f32⟩
  | 28 => ⟨S16x4096x512, .f32⟩
  | 29 => ⟨S16x4096x16, .f32⟩
  | 30 => ⟨S16x4096x512, .f32⟩
  | 31 => ⟨S16x4096x512, .f32⟩
  | 32 => ⟨S16x4096x512, .f32⟩
  | 33 => ⟨S_, .f32⟩
  | 34 => ⟨S16x4096x256, .f32⟩
  | 35 => ⟨S16x4096x256, .f32⟩
  | 36 => ⟨S16x256, .f32⟩
  | 37 => ⟨S16x4096x256, .f32⟩
  | 38 => ⟨S256, .f32⟩
  | 39 => ⟨S1x1x256, .f32⟩
  | 40 => ⟨S16x4096x256, .f32⟩
  | 41 => ⟨S16x4096x256, .f32⟩
  | 42 => ⟨S16x4096x256, .f32⟩
  | 43 => ⟨S_, .f32⟩
  | 44 => ⟨S16x4096x256, .f32⟩
  | 45 => ⟨S16x4096x256, .f32⟩
  | 46 => ⟨S16x4096x256, .f32⟩
  | 47 => ⟨S16x4096x256, .f32⟩
  | 48 => ⟨S16x4096x256, .i1⟩
  | 49 => ⟨S16x4096x256, .f32⟩
  | 50 => ⟨S16x4096x256, .f32⟩
  | 51 => ⟨S16x4096x256, .f32⟩
  | 52 => ⟨S16x4096x256, .f32⟩
  | 53 => ⟨S16x4096x256, .f32⟩
  | 54 => ⟨S16x4096x256, .f32⟩
  | 55 => ⟨S16x4096x256, .f32⟩
  | 56 => ⟨S16x4096x256, .f32⟩
  | 57 => ⟨S16x4096x256, .f32⟩
  | 58 => ⟨S_, .f32⟩
  | 59 => ⟨S16x4096x256, .f32⟩
  | 60 => ⟨S16x4096x256, .f32⟩
  | 61 => ⟨S16x4096x8x64, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S16x4096, .f32⟩
  | 77 => ⟨S16x4096x1, .f32⟩
  | 78 => ⟨S1x1x32, .f32⟩
  | 79 => ⟨S16x4096x32, .f32⟩
  | 80 => ⟨S16x4096x32, .f32⟩
  | 81 => ⟨S16x4096x32, .f32⟩
  | 82 => ⟨S16x4096x32, .f32⟩
  | 83 => ⟨S16x4096x1x32, .f32⟩
  | 84 => ⟨S16x4096x32, .f32⟩
  | 85 => ⟨S16x4096x1x32, .f32⟩
  | 86 => ⟨S16x4096x8x32, .f32⟩
  | 87 => ⟨S16x4096x8x32, .f32⟩
  | 88 => ⟨S16x4096x8x32, .f32⟩
  | 89 => ⟨S16x4096x8x32, .f32⟩
  | 90 => ⟨S16x4096x8x32, .f32⟩
  | 91 => ⟨S16x4096x8x32, .f32⟩
  | 92 => ⟨S16x4096x8x32, .f32⟩
  | 93 => ⟨S16x4096x8x32, .f32⟩
  | 94 => ⟨S16x4096x8x32, .f32⟩
  | 95 => ⟨S16x4096x8x32, .f32⟩
  | 96 => ⟨S16x4096x8x32, .f32⟩
  | 97 => ⟨S16x4096x8x32, .f32⟩
  | 98 => ⟨S16x4096x8x64, .f32⟩
  | 99 => ⟨S_, .f32⟩
  | 100 => ⟨S16x4096x8x64, .f32⟩
  | 101 => ⟨S16x4096x8x64, .f32⟩
  | 102 => ⟨S_, .f32⟩
  | 103 => ⟨S16x4096x8x64, .f32⟩
  | 104 => ⟨S16x4096x8x64, .f32⟩
  | 105 => ⟨S16x4096x8x64, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S16x4096, .f32⟩
  | 121 => ⟨S16x4096x1, .f32⟩
  | 122 => ⟨S1x1x32, .f32⟩
  | 123 => ⟨S16x4096x32, .f32⟩
  | 124 => ⟨S16x4096x32, .f32⟩
  | 125 => ⟨S16x4096x32, .f32⟩
  | 126 => ⟨S16x4096x32, .f32⟩
  | 127 => ⟨S16x4096x1x32, .f32⟩
  | _ => ⟨S16x4096x1024, .f32⟩

abbrev hbmTy0_1 (i : Nat) : BufTy := match i % 128 with
  | 0 => ⟨S16x4096x32, .f32⟩
  | 1 => ⟨S16x4096x1x32, .f32⟩
  | 2 => ⟨S16x4096x8x32, .f32⟩
  | 3 => ⟨S16x4096x8x32, .f32⟩
  | 4 => ⟨S16x4096x8x32, .f32⟩
  | 5 => ⟨S16x4096x8x32, .f32⟩
  | 6 => ⟨S16x4096x8x32, .f32⟩
  | 7 => ⟨S16x4096x8x32, .f32⟩
  | 8 => ⟨S16x4096x8x32, .f32⟩
  | 9 => ⟨S16x4096x8x32, .f32⟩
  | 10 => ⟨S16x4096x8x32, .f32⟩
  | 11 => ⟨S16x4096x8x32, .f32⟩
  | 12 => ⟨S16x4096x8x32, .f32⟩
  | 13 => ⟨S16x4096x8x32, .f32⟩
  | 14 => ⟨S16x4096x8x64, .f32⟩
  | 15 => ⟨S256x256x512, .f32⟩
  | 16 => ⟨S256x512x256, .f32⟩
  | 17 => ⟨S65536x256, .f32⟩
  | 18 => ⟨S65536x256, .bf16⟩
  | 19 => ⟨S65536x256, .f32⟩
  | 20 => ⟨S65536x256, .bf16⟩
  | 21 => ⟨S65536x512, .f32⟩
  | 22 => ⟨S65536x512, .bf16⟩
  | 23 => ⟨S65536x512, .f32⟩
  | 24 => ⟨S65536x512, .bf16⟩
  | 25 => ⟨S65536x256, .f32⟩
  | 26 => ⟨S65536x512, .f32⟩
  | 27 => ⟨S65536x512, .bf16⟩
  | 28 => ⟨S65536x512, .f32⟩
  | 29 => ⟨S65536x512, .bf16⟩
  | 30 => ⟨S256x512x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_8 : Ref sig .tc := ⟨.hbm, 99, rfl⟩
abbrev main_v69 : Ref sig .tc := ⟨.hbm, 100, rfl⟩
abbrev main_v70 : Ref sig .tc := ⟨.hbm, 101, rfl⟩
abbrev main_cst_9 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_10 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== Proof.Spec.lean ====
module
public import proofs.«01_k».proof.Proof.Gen.KernelIdeal.Value
public import Idealize.ShloMosaic.Lib.Pipeline.ValueKit
@[expose] public section
set_option maxRecDepth 16384
noncomputable section
namespace Cert.Gla
open Idealize.ShloMosaic

/-- Channel `d` of head `h` among the 256 key channels. -/
abbrev kc (h : Fin 4) (d : Fin 64) : Fin 256 := ⟨64 * h.val + d.val, by omega⟩

/-- The data of one chunk of 64 tokens: log decays, queries, keys, and per head the values and
the gates. -/
structure Chunk where
  la : Fin 64 → Fin 256 → EReal
  q : Fin 64 → Fin 256 → EReal
  k : Fin 64 → Fin 256 → EReal
  v : Fin 4 → Fin 64 → Fin 128 → EReal
  g : Fin 4 → Fin 64 → Fin 128 → EReal

/-- Chunks with the same data are one. -/
theorem Chunk.ext_of {C D : Chunk} (h1 : C.la = D.la) (h2 : C.q = D.q) (h3 : C.k = D.k)
    (h4 : C.v = D.v) (h5 : C.g = D.g) : C = D := by
  cases C; cases D; simp_all

variable (C : Chunk)

/-- Running sum of the log decays inside the chunk. -/
def Chunk.cum (t : Fin 64) (j : Fin 256) : EReal := ∑ s : Fin 64, if s ≤ t then C.la s j else 0

/-- Score of token `t` on token `s`: decayed product up to the diagonal, the mirrored product
above it. -/
def Chunk.att (h : Fin 4) (t s : Fin 64) : EReal :=
  if s ≤ t then
    ∑ d : Fin 64, (C.q t (kc h d) * Ideal.exp (C.cum t (kc h d))) *
      (C.k s (kc h d) * Ideal.exp (-(C.cum s (kc h d))))
  else
    ∑ d : Fin 64, (C.q t (kc h d) * Ideal.exp (-(C.cum t (kc h d)))) *
      (C.k s (kc h d) * Ideal.exp (C.cum s (kc h d)))

/-- What the chunk adds to the state. -/
def Chunk.upd (h : Fin 4) (d : Fin 64) (x : Fin 128) : EReal :=
  ∑ s : Fin 64, (C.k s (kc h d) * Ideal.exp (C.cum 63 (kc h d) - C.cum s (kc h d))) * C.v h s x

/-- The state after the chunk. -/
def Chunk.next (S : Fin 4 → Fin 64 → Fin 128 → EReal) (h : Fin 4) (d : Fin 64) (x : Fin 128) :
    EReal :=
  S h d x * Ideal.exp (C.cum 63 (kc h d)) + C.upd h d x

/-- The mixed value of a token: its own chunk's part and the state's part. -/
def Chunk.mix (S : Fin 4 → Fin 64 → Fin 128 → EReal) (h : Fin 4) (t : Fin 64) (x : Fin 128) :
    EReal :=
  (∑ s : Fin 64, C.att h t s * C.v h s x) +
    ∑ d : Fin 64, (C.q t (kc h d) * Ideal.exp (C.cum t (kc h d))) * S h d x

/-- A head's row normed, scaled and gated. -/
def finish (o gn gate : Fin 128 → EReal) (x : Fin 128) : EReal :=
  o x * Ideal.rsqrt (Ideal.div (∑ y : Fin 128, o y * o y) (Ideal.ofBits FTy.f32 1124073472#32) +
    Ideal.ofBits FTy.f32 897988541#32) * gn x * (gate x * Ideal.logistic (gate x))

/-- The layer's output of a chunk entered with state `S`. -/
def Chunk.out (gn : Fin 4 → Fin 128 → EReal) (S : Fin 4 → Fin 64 → Fin 128 → EReal) (h : Fin 4)
    (t : Fin 64) (x : Fin 128) : EReal :=
  finish (C.mix S h t) (gn h) (C.g h t) x

/-- A sum over the 256 channels that keeps one head's channels is the sum over that head. -/
theorem sum_head (h : Fin 4) (f g : Fin 256 → EReal) :
    ∑ j : Fin 256, (if j.val / 64 = h.val then f j else 0) * g j =
      ∑ d : Fin 64, f (kc h d) * g (kc h d) := by
  symm
  refine Finset.sum_of_injOn (kc h) (fun a _ b _ e => ?_) (fun _ _ => Finset.mem_coe.2 (Finset.mem_univ _))
    (fun j _ hj => ?_) (fun d _ => ?_)
  · have := congrArg Fin.val e; simp only at this; exact Fin.ext (by omega)
  · rw [if_neg, zero_mul]
    intro e
    exact hj ⟨⟨j.val % 64, Nat.mod_lt _ (by norm_num)⟩, Finset.mem_coe.2 (Finset.mem_univ _),
      Fin.ext (by simp only; omega)⟩
  · rw [if_pos (by simp only; omega)]

/-- A lower triangular product of a split summand: the remainder `x − x` adds nothing unless
`x` is `⊤`. -/
theorem tri_split (L : Fin 64 → EReal) (hL : ∀ s, L s ≠ ⊤) (t : Fin 64) :
    (∑ s : Fin 64, (if s ≤ t then (1 : EReal) else 0) * L s) +
        ∑ s : Fin 64, (if s ≤ t then (1 : EReal) else 0) * (L s - L s) =
      ∑ s : Fin 64, if s ≤ t then L s else 0 := by
  rw [← Finset.sum_add_distrib]
  refine Finset.sum_congr rfl fun s _ => ?_
  split
  · rw [one_mul, one_mul]
    rcases eq_or_ne (L s) ⊥ with h | h
    · rw [h, EReal.bot_add]
    · rw [EReal.sub_self (hL s) h, add_zero]
  · rw [zero_mul, zero_mul, add_zero]

/-- A case distinction over four stacked row groups, read at row `t` of group `h`. -/
theorem four {α : Type*} (f0 f1 f2 f3 : Fin 64 → α) (h : Fin 4) (t : Fin 64)
    (p : (kc h t).val - 64 - 64 - 64 < 64) :
    (if h0 : (kc h t).val < 64 then f0 ⟨(kc h t).val, h0⟩
      else if h1 : (kc h t).val - 64 < 64 then f1 ⟨(kc h t).val - 64, h1⟩
      else if h2 : (kc h t).val - 64 - 64 < 64 then f2 ⟨(kc h t).val - 64 - 64, h2⟩
      else f3 ⟨(kc h t).val - 64 - 64 - 64, p⟩) = (![f0, f1, f2, f3] h) t := by
  match h with
  | 0 => rw [dif_pos (by simp [kc])]; exact congrArg f0 (Fin.ext (by simp [kc]))
  | 1 =>
    rw [dif_neg (by simp [kc]), dif_pos (by simp [kc])]
    exact congrArg f1 (Fin.ext (by simp [kc]))
  | 2 =>
    rw [dif_neg (by simp [kc]; omega), dif_neg (by simp [kc]; omega), dif_pos (by simp [kc]; omega)]
    exact congrArg f2 (Fin.ext (by simp [kc]; omega))
  | 3 =>
    rw [dif_neg (by simp [kc]; omega), dif_neg (by simp [kc]; omega), dif_neg (by simp [kc]; omega)]
    exact congrArg f3 (Fin.ext (by simp [kc]; omega))

end Cert.Gla
-- ==== Proof.KChunk.lean ====
module
public import proofs.«01_k».proof.Proof.Spec
@[expose] public section
set_option maxRecDepth 16384
noncomputable section
namespace Cert.KernelIdeal.Gen
open Idealize.ShloMosaic Idealize.ShloMosaic.TcCoe Idealize.ShloMosaic.Tactic
open Idealize.SL Idealize.SL.Sem Cert.Gla
open Idealize.ShloMosaic.Pipeline (Dat Cfg Window BodyObligation cellOf)

variable (L : Vec Ideal S64x256 .f32) (q k : Vec Ideal S64x256 .bf16)
  (v0 v1 v2 v3 g : Vec Ideal S64x128 .bf16) (S : Vec Ideal S256x128 .f32)
  (x5 : Vec Ideal S1x512 .f32)

/-- Running sums of the log decays, as the chunk computes them. -/
def cB : FVec Ideal S64x256 .f32 := k0_pay11 k0_pay3 L

/-- The decayed queries, one masked copy per head, stacked. -/
def cQF : FVec Ideal S256x256 .bf16 := k0_pay30 k0_pay5 k0_pay6 k0_pay7 k0_pay8 (cB L) q

/-- The mirrored queries, stacked likewise. -/
def cQB : FVec Ideal S256x256 .bf16 :=
  k0_pay35 (k0_pay31 k0_pay5 (cB L) q) (k0_pay32 k0_pay6 (cB L) q) (k0_pay33 k0_pay7 (cB L) q)
    (k0_pay34 k0_pay8 (cB L) q)

/-- The triangle, stacked. -/
def cTri : IVec S256x64 1 := k0_pay9 (iota Kind.tc S256x64 32 [0] iota_S256x64_d0_w32) 64#32

/-- The stacked scores. -/
def cA : FVec Ideal S256x64 .bf16 :=
  k0_pay136 cTri (cQB L q) (k0_pay38 (k0_pay25 (cB L)) (k0_pay28 k))
    (k0_pay134 (cQF L q) (k0_pay37 (k0_pay26 (cB L)) (k0_pay28 k)))

/-- What the chunk adds to the state. -/
def cD : FVec Ideal S256x128 .f32 :=
  k0_pay180 (k0_pay39 (cB L) (k0_pay28 k)) (k0_pay179 (k0_pay39 (cB L) (k0_pay28 k))) v0
    (constant S64x128 .f32 0#32) v1 v2 v3

/-- The state after the chunk. -/
def cS : FVec Ideal S256x128 .f32 :=
  addf (mulf S (broadcastTo S256x128 (k0_pay36 (cB L)) broadcasts_S256x1_S256x128))
    (cD L k v0 v1 v2 v3)

/-- The output tile of each head. -/
def cO0 : FVec Ideal S64x128 .bf16 :=
  k0_pay214 (k0_pay10 x5)
    (k0_pay144 cTri (cQB L q) (k0_pay38 (k0_pay25 (cB L)) (k0_pay28 k))
      (k0_pay134 (cQF L q) (k0_pay37 (k0_pay26 (cB L)) (k0_pay28 k))) v0)
    (k0_pay206 (cQF L q) S) g
def cO1 : FVec Ideal S64x128 .bf16 :=
  k0_pay216 (k0_pay215 (k0_pay10 x5)
    (k0_pay145 cTri (cQB L q) (k0_pay38 (k0_pay25 (cB L)) (k0_pay28 k))
      (k0_pay134 (cQF L q) (k0_pay37 (k0_pay26 (cB L)) (k0_pay28 k))) v1)
    (k0_pay206 (cQF L q) S)) g
def cO2 : FVec Ideal S64x128 .bf16 :=
  k0_pay217 (k0_pay10 x5)
    (k0_pay147 (k0_pay146 cTri (cQB L q) (k0_pay38 (k0_pay25 (cB L)) (k0_pay28 k))
      (k0_pay134 (cQF L q) (k0_pay37 (k0_pay26 (cB L)) (k0_pay28 k)))) v2
      (constant S64x128 .f32 0#32))
    (k0_pay206 (cQF L q) S) g
def cO3 : FVec Ideal S64x128 .bf16 :=
  k0_pay219 (k0_pay218 (k0_pay10 x5) (k0_pay148 (cA L q k) v3) (k0_pay206 (cQF L q) S)) g

/-- The data of the chunk the loaded blocks hold. -/
abbrev chunkOf (g0 g1 g2 g3 : Vec Ideal S64x128 .bf16) : Chunk where
  la t j := L (ix2 t j)
  q t j := q (ix2 t j)
  k t j := k (ix2 t j)
  v h t x := (![v0, v1, v2, v3] h) (ix2 t x)
  g h t x := (![g0, g1, g2, g3] h) (ix2 t x)

theorem tri_apply (t s : Fin 64) :
    (FloatOps.sitofp FTy.f32 (BitVec.setWidth 32 (IntOp.cmpi CmpIPredicate.sge
      (BitVec.ofNat 32 t.val) (BitVec.ofNat 32 s.val))) : Ideal .f32) =
      if s ≤ t then (1 : EReal) else 0 := by
  have h : ∀ t s : Fin 64, IntOp.cmpi CmpIPredicate.sge
      (BitVec.ofNat 32 t.val) (BitVec.ofNat 32 s.val) = if s ≤ t then 1#1 else 0#1 := by
    decide +kernel
  rw [h]
  split <;> simp [FloatOps.sitofp]

theorem cB_apply (hL : ∀ i, L i ≠ ⊤) (t : Fin 64) (j : Fin 256) :
    cB L (ix2 t j) = ∑ s : Fin 64, if s ≤ t then L (ix2 s j) else 0 := by
  rw [← tri_split (fun s => L (ix2 s j)) (fun s => hL _) t]
  pointwise [cB, k0_pay11, k0_pay3]
  simp only [tri_apply]

theorem head_apply (j : Fin 256) :
    k0_pay5 (ix2 0 j) = (if j.val / 64 = 0 then 1#1 else 0#1) ∧
    k0_pay6 (ix2 0 j) = (if j.val / 64 = 1 then 1#1 else 0#1) ∧
    k0_pay7 (ix2 0 j) = (if j.val / 64 = 2 then 1#1 else 0#1) ∧
    k0_pay8 (ix2 0 j) = (if j.val / 64 = 3 then 1#1 else 0#1) := by
  revert j
  pointwise [k0_pay5, k0_pay6, k0_pay7, k0_pay8, k0_pay4]
  decide +kernel

theorem cQF_apply (h : Fin 4) (t : Fin 64) (j : Fin 256) :
    cQF L q (ix2 (kc h t) j) =
      if j.val / 64 = h.val then q (ix2 t j) * Ideal.exp (cB L (ix2 t j)) else 0 := by
  pointwise [cQF, k0_pay30, k0_pay27, k0_pay25]
  refine (four
    (fun t => Scalar.select (k0_pay5 (ix2 0 j)) (q (ix2 t j) * Ideal.exp (cB L (ix2 t j))) 0)
    (fun t => Scalar.select (k0_pay6 (ix2 0 j)) (q (ix2 t j) * Ideal.exp (cB L (ix2 t j))) 0)
    (fun t => Scalar.select (k0_pay7 (ix2 0 j)) (q (ix2 t j) * Ideal.exp (cB L (ix2 t j))) 0)
    (fun t => Scalar.select (k0_pay8 (ix2 0 j)) (q (ix2 t j) * Ideal.exp (cB L (ix2 t j))) 0)
    h t (by omega)).trans ?_
  obtain ⟨e0, e1, e2, e3⟩ := head_apply j
  rw [e0, e1, e2, e3]
  fin_cases h <;> (simp only [Fin.isValue]; split_ifs <;> simp_all [Scalar.select])

theorem cQB_apply (h : Fin 4) (t : Fin 64) (j : Fin 256) :
    cQB L q (ix2 (kc h t) j) =
      if j.val / 64 = h.val then q (ix2 t j) * Ideal.exp (0 - cB L (ix2 t j)) else 0 := by
  pointwise [cQB, k0_pay31, k0_pay32, k0_pay33, k0_pay34, k0_pay35, k0_pay29, k0_pay27, k0_pay26]
  refine (four
    (fun t => Scalar.select (k0_pay5 (ix2 0 j)) (q (ix2 t j) * Ideal.exp (0 - cB L (ix2 t j))) 0)
    (fun t => Scalar.select (k0_pay6 (ix2 0 j)) (q (ix2 t j) * Ideal.exp (0 - cB L (ix2 t j))) 0)
    (fun t => Scalar.select (k0_pay7 (ix2 0 j)) (q (ix2 t j) * Ideal.exp (0 - cB L (ix2 t j))) 0)
    (fun t => Scalar.select (k0_pay8 (ix2 0 j)) (q (ix2 t j) * Ideal.exp (0 - cB L (ix2 t j))) 0)
    h t (by omega)).trans ?_
  obtain ⟨e0, e1, e2, e3⟩ := head_apply j
  rw [e0, e1, e2, e3]
  fin_cases h <;> (simp only [Fin.isValue]; split_ifs <;> simp_all [Scalar.select])

theorem cTri_apply (r : Fin 256) (s : Fin 64) :
    cTri (ix2 r s) = if s.val ≤ r.val % 64 then 1#1 else 0#1 := by
  revert r s
  pointwise [cTri, k0_pay9]
  decide +kernel

variable (g0 g1 g2 g3 : Vec Ideal S64x128 .bf16)

theorem cum_eq (hL : ∀ i, L i ≠ ⊤) (t : Fin 64) (j : Fin 256) :
    cB L (ix2 t j) = (chunkOf L q k v0 v1 v2 v3 g0 g1 g2 g3).cum t j := cB_apply L hL t j

theorem cA_apply (hL : ∀ i, L i ≠ ⊤) (h : Fin 4) (t s : Fin 64) :
    cA L q k (ix2 (kc h t) s) = (chunkOf L q k v0 v1 v2 v3 g0 g1 g2 g3).att h t s := by
  pointwise [cA, k0_pay136, k0_pay134, k0_pay37, k0_pay38, k0_pay26, k0_pay25, k0_pay28]
  simp only [cQF_apply, cQB_apply]
  refine (congrArg₂ (Scalar.select _)
    (sum_head h (fun j => q (ix2 t j) * Ideal.exp (cB L (ix2 t j)))
      (fun j => k (ix2 s j) * Ideal.exp (0 - cB L (ix2 s j))))
    (sum_head h (fun j => q (ix2 t j) * Ideal.exp (0 - cB L (ix2 t j)))
      (fun j => k (ix2 s j) * Ideal.exp (cB L (ix2 s j))))).trans ?_
  have e1 : cTri (ix2 (kc h t) s) = if s.val ≤ t.val then 1#1 else 0#1 := by
    rw [cTri_apply, show (kc h t).val % 64 = t.val by simp only; omega]
  refine (congrArg (fun b => Scalar.select b _ _) e1).trans ?_
  unfold Chunk.att
  simp only [cum_eq L q k v0 v1 v2 v3 g0 g1 g2 g3 hL, Fin.le_def, zero_sub]
  split_ifs <;> rfl

theorem cS_apply (hL : ∀ i, L i ≠ ⊤) (h : Fin 4) (d : Fin 64) (x : Fin 128) :
    cS L k v0 v1 v2 v3 S (ix2 (kc h d) x) =
      (chunkOf L q k v0 v1 v2 v3 g0 g1 g2 g3).next (fun h d x => S (ix2 (kc h d) x)) h d x := by
  pointwise [cS, cD, k0_pay180, k0_pay179, k0_pay36, k0_pay39, k0_pay28]
  unfold Chunk.next Chunk.upd
  simp only [cum_eq L q k v0 v1 v2 v3 g0 g1 g2 g3 hL]
  refine congrArg₂ (· + ·) rfl ((four
    (fun d => ∑ s : Fin 64, k (ix2 s ⟨d.val, by omega⟩) *
      Ideal.exp ((chunkOf L q k v0 v1 v2 v3 g0 g1 g2 g3).cum 63 ⟨d.val, by omega⟩ -
        (chunkOf L q k v0 v1 v2 v3 g0 g1 g2 g3).cum s ⟨d.val, by omega⟩) * v0 (ix2 s x))
    (fun d => ∑ s : Fin 64, k (ix2 s ⟨64 + d.val, by omega⟩) *
      Ideal.exp ((chunkOf L q k v0 v1 v2 v3 g0 g1 g2 g3).cum 63 ⟨64 + d.val, by omega⟩ -
        (chunkOf L q k v0 v1 v2 v3 g0 g1 g2 g3).cum s ⟨64 + d.val, by omega⟩) * v1 (ix2 s x))
    (fun d => ∑ s : Fin 64, k (ix2 s ⟨128 + d.val, by omega⟩) *
      Ideal.exp ((chunkOf L q k v0 v1 v2 v3 g0 g1 g2 g3).cum 63 ⟨128 + d.val, by omega⟩ -
        (chunkOf L q k v0 v1 v2 v3 g0 g1 g2 g3).cum s ⟨128 + d.val, by omega⟩) * v2 (ix2 s x))
    (fun d => ∑ s : Fin 64, k (ix2 s ⟨192 + d.val, by omega⟩) *
      Ideal.exp ((chunkOf L q k v0 v1 v2 v3 g0 g1 g2 g3).cum 63 ⟨192 + d.val, by omega⟩ -
        (chunkOf L q k v0 v1 v2 v3 g0 g1 g2 g3).cum s ⟨192 + d.val, by omega⟩) * v3 (ix2 s x))
    h d (by omega)).trans ?_)
  fin_cases h
  · have e : kc 0 d = (⟨d.val, by omega⟩ : Fin 256) := Fin.ext (by simp [kc])
    change _ = ∑ s : Fin 64, k (ix2 s (kc 0 d)) *
      Ideal.exp ((chunkOf L q k v0 v1 v2 v3 g0 g1 g2 g3).cum 63 (kc 0 d) -
        (chunkOf L q k v0 v1 v2 v3 g0 g1 g2 g3).cum s (kc 0 d)) * v0 (ix2 s x)
    rw [e]; rfl
  · rfl
  · rfl
  · rfl

theorem mix_eq (hL : ∀ i, L i ≠ ⊤) (h : Fin 4) (t : Fin 64) (x : Fin 128) :
    (∑ s : Fin 64, cA L q k (ix2 (kc h t) s) * (![v0, v1, v2, v3] h) (ix2 s x)) +
        ∑ j : Fin 256, cQF L q (ix2 (kc h t) j) * S (ix2 j x) =
      (chunkOf L q k v0 v1 v2 v3 g0 g1 g2 g3).mix (fun h d x => S (ix2 (kc h d) x)) h t x := by
  simp only [cA_apply L q k v0 v1 v2 v3 g0 g1 g2 g3 hL, cQF_apply]
  rw [sum_head, Chunk.mix]
  simp only [cum_eq L q k v0 v1 v2 v3 g0 g1 g2 g3 hL]

/-- The head's output over its stacked rows. -/
theorem out_eq (hL : ∀ i, L i ≠ ⊤) (h : Fin 4) (t : Fin 64) (x : Fin 128)
    (gn : Fin 4 → Fin 128 → EReal) (o : Fin 128 → EReal)
    (ho : ∀ x, o x = (∑ s : Fin 64, cA L q k (ix2 (kc h t) s) * (![v0, v1, v2, v3] h) (ix2 s x)) +
        ∑ j : Fin 256, cQF L q (ix2 (kc h t) j) * S (ix2 j x)) :
    finish o (gn h) (fun x => (![g0, g1, g2, g3] h) (ix2 t x)) x =
      (chunkOf L q k v0 v1 v2 v3 g0 g1 g2 g3).out gn (fun h d x => S (ix2 (kc h d) x)) h t x := by
  rw [Chunk.out]
  congr 1
  funext x
  rw [ho, mix_eq L q k v0 v1 v2 v3 S g0 g1 g2 g3 hL]

/-- The norm's scale by head. -/
abbrev gnOf (h : Fin 4) (x : Fin 128) : EReal := x5 (ix2 (0 : Fin 1) ⟨128 * h.val + x.val, by omega⟩)

theorem cO0_apply (hL : ∀ i, L i ≠ ⊤) (t : Fin 64) (x : Fin 128) :
    cO0 L q k v0 g0 S x5 (ix2 t x) =
      (chunkOf L q k v0 v1 v2 v3 g0 g1 g2 g3).out (gnOf x5) (fun h d x => S (ix2 (kc h d) x)) 0 t x := by
  rw [← out_eq L q k v0 v1 v2 v3 S g0 g1 g2 g3 hL 0 t x (gnOf x5) _ (fun _ => rfl)]
  unfold finish cA
  pointwise [cO0, k0_pay214, k0_pay144, k0_pay10, k0_pay206]
  congr! <;> simp

theorem cO1_apply (hL : ∀ i, L i ≠ ⊤) (t : Fin 64) (x : Fin 128) :
    cO1 L q k v1 g1 S x5 (ix2 t x) =
      (chunkOf L q k v0 v1 v2 v3 g0 g1 g2 g3).out (gnOf x5) (fun h d x => S (ix2 (kc h d) x)) 1 t x := by
  rw [← out_eq L q k v0 v1 v2 v3 S g0 g1 g2 g3 hL 1 t x (gnOf x5) _ (fun _ => rfl)]
  unfold finish cA
  pointwise [cO1, k0_pay216, k0_pay215, k0_pay145, k0_pay10, k0_pay206]
  congr! <;> simp

theorem cO2_apply (hL : ∀ i, L i ≠ ⊤) (t : Fin 64) (x : Fin 128) :
    cO2 L q k v2 g2 S x5 (ix2 t x) =
      (chunkOf L q k v0 v1 v2 v3 g0 g1 g2 g3).out (gnOf x5) (fun h d x => S (ix2 (kc h d) x)) 2 t x := by
  rw [← out_eq L q k v0 v1 v2 v3 S g0 g1 g2 g3 hL 2 t x (gnOf x5) _ (fun _ => rfl)]
  unfold finish cA
  pointwise [cO2, k0_pay217, k0_pay147, k0_pay146, k0_pay10, k0_pay206]
  congr! <;> simp

theorem cO3_apply (hL : ∀ i, L i ≠ ⊤) (t : Fin 64) (x : Fin 128) :
    cO3 L q k v3 g3 S x5 (ix2 t x) =
      (chunkOf L q k v0 v1 v2 v3 g0 g1 g2 g3).out (gnOf x5) (fun h d x => S (ix2 (kc h d) x)) 3 t x := by
  rw [← out_eq L q k v0 v1 v2 v3 S g0 g1 g2 g3 hL 3 t x (gnOf x5) _ (fun _ => rfl)]
  unfold finish cA
  pointwise [cO3, k0_pay219, k0_pay218, k0_pay148, k0_pay10, k0_pay206, cA]
  congr! <;> simp

end Cert.KernelIdeal.Gen
-- ==== Proof.KBlock.lean ====
module
public import proofs.«01_k».proof.Proof.KChunk
@[expose] public section
set_option maxRecDepth 16384
noncomputable section
namespace Cert.KernelIdeal.Gen
open Idealize.ShloMosaic Idealize.ShloMosaic.TcCoe Idealize.ShloMosaic.Tactic
open Idealize.SL Idealize.SL.Sem Cert.Gla
open Idealize.ShloMosaic.Pipeline (Dat Cfg Window BodyObligation cellOf)

/-- Rows `64 c …` of a block with 256 columns. -/
def lk {τ : EltTy} (x : Vec Ideal S512x256 τ) (c : ℕ) : Vec Ideal S64x256 τ :=
  View.ld x (Rect.unit ![64 * (c % 8), 0] ![64, 256] (by
    intro a; fin_cases a <;> simp <;> omega))

/-- Rows `64 c …`, columns `128 h …` of a block with 512 columns. -/
def lv {τ : EltTy} (x : Vec Ideal S512x512 τ) (c h : ℕ) : Vec Ideal S64x128 τ :=
  View.ld x (Rect.unit ![64 * (c % 8), 128 * (h % 4)] ![64, 128] (by
    intro a; fin_cases a <;> simp <;> omega))

/-- The state after `c` chunks of the block. -/
def stc (x1 : Vec Ideal S512x256 .bf16) (x2 : Vec Ideal S512x512 .bf16)
    (x4 : Vec Ideal S512x256 .f32) (S : Vec Ideal S256x128 .f32) : ℕ → Vec Ideal S256x128 .f32
  | 0 => S
  | c + 1 => cS (lk x4 c) (lk x1 c) (lv x2 c 0) (lv x2 c 1) (lv x2 c 2) (lv x2 c 3)
      (stc x1 x2 x4 S c)

theorem soutB (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x128 .f32) (harg9 : arg9.IsWhole) (hc0 : ¬cond0_0 i)
    (x0 : Vec Ideal S512x256 .bf16) (x1 : Vec Ideal S512x256 .bf16) (x2 : Vec Ideal S512x512 .bf16) (x3 : Vec Ideal S512x512 .bf16) (x4 : Vec Ideal S512x256 .f32) (x5 : Vec Ideal S1x512 .f32) (xs0 : Vec Ideal S256x128 .f32) :
    sout0_B_0 c i arg2 harg2 arg3 harg3 arg4 harg4 arg5 harg5 arg6 harg6 arg7 harg7 arg8 harg8 arg9 harg9 hc0 x0 x1 x2 x3 x4 x5 xs0 = stc x1 x2 x4 xs0 8 := by
  frame_out
  unfold k0_pay205
  dsimp only
  refine (shapeCast_self _ _).trans ?_
  rfl

/-- The state a sequence starts from. -/
theorem pay2_apply (i : S256x128.Idx) : (k0_pay2 : FVec Ideal S256x128 .f32) i = 0 := by
  rw [eq_ix2 i]
  pointwise [k0_pay2]

theorem soutA (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x128 .f32) (harg9 : arg9.IsWhole) (hc0 : cond0_0 i)
    (x0 : Vec Ideal S512x256 .bf16) (x1 : Vec Ideal S512x256 .bf16) (x2 : Vec Ideal S512x512 .bf16) (x3 : Vec Ideal S512x512 .bf16) (x4 : Vec Ideal S512x256 .f32) (x5 : Vec Ideal S1x512 .f32) :
    sout0_A_0 c i arg2 harg2 arg3 harg3 arg4 harg4 arg5 harg5 arg6 harg6 arg7 harg7 arg8 harg8 arg9 harg9 hc0 x0 x1 x2 x3 x4 x5 = stc x1 x2 x4 (k0_pay2 (F := Ideal)) 8 := by
  frame_out
  unfold k0_pay205
  dsimp only
  refine (shapeCast_self _ _).trans ?_
  rfl

section
variable (x0 : Vec Ideal S512x256 .bf16) (x1 : Vec Ideal S512x256 .bf16) (x2 : Vec Ideal S512x512 .bf16) (x3 : Vec Ideal S512x512 .bf16) (x4 : Vec Ideal S512x256 .f32) (x5 : Vec Ideal S1x512 .f32)
  (S : Vec Ideal S256x128 .f32)

/-- The data of chunk `c` of the block. -/
abbrev chunkAt (c : ℕ) : Chunk :=
  chunkOf (lk x4 c) (lk x0 c) (lk x1 c) (lv x2 c 0) (lv x2 c 1) (lv x2 c 2) (lv x2 c 3)
    (lv x3 c 0) (lv x3 c 1) (lv x3 c 2) (lv x3 c 3)

/-- A state array read per head. -/
abbrev stF (S : Vec Ideal S256x128 .f32) (h : Fin 4) (d : Fin 64) (x : Fin 128) : EReal :=
  S (ix2 (kc h d) x)

/-- The output block of a point entered with state `S`. -/
def blockOut (y : S512x512.Idx) : EReal :=
  (chunkAt x0 x1 x2 x3 x4 ((y 0).val / 64)).out (gnOf x5) (stF (stc x1 x2 x4 S ((y 0).val / 64)))
    ⟨(y 1).val / 128, Nat.div_lt_of_lt_mul (y 1).isLt⟩ ⟨(y 0).val % 64, Nat.mod_lt _ (by norm_num)⟩
    ⟨(y 1).val % 128, Nat.mod_lt _ (by norm_num)⟩

variable (hL : ∀ i, x4 i ≠ ⊤)
include hL

theorem piece0 (c : ℕ) (y : S512x512.Idx) (z : S64x128.Idx)
    (h0 : (y 0).val = 64 * c + (z 0).val) (h1 : (y 1).val = 0 + (z 1).val) :
    cO0 (lk x4 c) (lk x0 c) (lk x1 c) (lv x2 c 0) (lv x3 c 0) (stc x1 x2 x4 S c) x5 z =
      blockOut x0 x1 x2 x3 x4 x5 S y := by
  have l0 : (z 0).val < 64 := (z 0).isLt
  have l1 : (z 1).val < 128 := (z 1).isLt
  have e : z = ix2 (⟨(z 0).val, l0⟩ : Fin 64) (⟨(z 1).val, l1⟩ : Fin 128) := eq_ix2 z
  rw [e, cO0_apply (lk x4 c) (lk x0 c) (lk x1 c) (lv x2 c 0) (lv x2 c 1) (lv x2 c 2) (lv x2 c 3)
    (stc x1 x2 x4 S c) x5 (lv x3 c 0) (lv x3 c 1) (lv x3 c 2) (lv x3 c 3) (fun i => hL _)]
  unfold blockOut
  congr 1
  all_goals first
    | (have : (y 0).val / 64 = c := by omega
       rw [this])
    | (apply Fin.ext; simp only; omega)

theorem piece1 (c : ℕ) (y : S512x512.Idx) (z : S64x128.Idx)
    (h0 : (y 0).val = 64 * c + (z 0).val) (h1 : (y 1).val = 128 + (z 1).val) :
    cO1 (lk x4 c) (lk x0 c) (lk x1 c) (lv x2 c 1) (lv x3 c 1) (stc x1 x2 x4 S c) x5 z =
      blockOut x0 x1 x2 x3 x4 x5 S y := by
  have l0 : (z 0).val < 64 := (z 0).isLt
  have l1 : (z 1).val < 128 := (z 1).isLt
  have e : z = ix2 (⟨(z 0).val, l0⟩ : Fin 64) (⟨(z 1).val, l1⟩ : Fin 128) := eq_ix2 z
  rw [e, cO1_apply (lk x4 c) (lk x0 c) (lk x1 c) (lv x2 c 0) (lv x2 c 1) (lv x2 c 2) (lv x2 c 3)
    (stc x1 x2 x4 S c) x5 (lv x3 c 0) (lv x3 c 1) (lv x3 c 2) (lv x3 c 3) (fun i => hL _)]
  unfold blockOut
  congr 1
  all_goals first
    | (have : (y 0).val / 64 = c := by omega
       rw [this])
    | (apply Fin.ext; simp only; omega)

theorem piece2 (c : ℕ) (y : S512x512.Idx) (z : S64x128.Idx)
    (h0 : (y 0).val = 64 * c + (z 0).val) (h1 : (y 1).val = 256 + (z 1).val) :
    cO2 (lk x4 c) (lk x0 c) (lk x1 c) (lv x2 c 2) (lv x3 c 2) (stc x1 x2 x4 S c) x5 z =
      blockOut x0 x1 x2 x3 x4 x5 S y := by
  have l0 : (z 0).val < 64 := (z 0).isLt
  have l1 : (z 1).val < 128 := (z 1).isLt
  have e : z = ix2 (⟨(z 0).val, l0⟩ : Fin 64) (⟨(z 1).val, l1⟩ : Fin 128) := eq_ix2 z
  rw [e, cO2_apply (lk x4 c) (lk x0 c) (lk x1 c) (lv x2 c 0) (lv x2 c 1) (lv x2 c 2) (lv x2 c 3)
    (stc x1 x2 x4 S c) x5 (lv x3 c 0) (lv x3 c 1) (lv x3 c 2) (lv x3 c 3) (fun i => hL _)]
  unfold blockOut
  congr 1
  all_goals first
    | (have : (y 0).val / 64 = c := by omega
       rw [this])
    | (apply Fin.ext; simp only; omega)

theorem piece3 (c : ℕ) (y : S512x512.Idx) (z : S64x128.Idx)
    (h0 : (y 0).val = 64 * c + (z 0).val) (h1 : (y 1).val = 384 + (z 1).val) :
    cO3 (lk x4 c) (lk x0 c) (lk x1 c) (lv x2 c 3) (lv x3 c 3) (stc x1 x2 x4 S c) x5 z =
      blockOut x0 x1 x2 x3 x4 x5 S y := by
  have l0 : (z 0).val < 64 := (z 0).isLt
  have l1 : (z 1).val < 128 := (z 1).isLt
  have e : z = ix2 (⟨(z 0).val, l0⟩ : Fin 64) (⟨(z 1).val, l1⟩ : Fin 128) := eq_ix2 z
  rw [e, cO3_apply (lk x4 c) (lk x0 c) (lk x1 c) (lv x2 c 0) (lv x2 c 1) (lv x2 c 2) (lv x2 c 3)
    (stc x1 x2 x4 S c) x5 (lv x3 c 0) (lv x3 c 1) (lv x3 c 2) (lv x3 c 3) (fun i => hL _)]
  unfold blockOut
  congr 1
  all_goals first
    | (have : (y 0).val / 64 = c := by omega
       rw [this])
    | (apply Fin.ext; simp only; omega)

theorem outB (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x128 .f32) (harg9 : arg9.IsWhole) (hc0 : ¬cond0_0 i) (xs0 : Vec Ideal S256x128 .f32) (y : S512x512.Idx) :
    out0_B_6 c i arg2 harg2 arg3 harg3 arg4 harg4 arg5 harg5 arg6 harg6 arg7 harg7 arg8 harg8 arg9 harg9 hc0 x0 x1 x2 x3 x4 x5 xs0 y = blockOut x0 x1 x2 x3 x4 x5 xs0 y := by
  frame_out
  canon_tiles z h
  · exact piece3 x0 x1 x2 x3 x4 x5 xs0 hL 7 y z (by omega) (by omega)
  · exact piece2 x0 x1 x2 x3 x4 x5 xs0 hL 7 y z (by omega) (by omega)
  · exact piece1 x0 x1 x2 x3 x4 x5 xs0 hL 7 y z (by omega) (by omega)
  · exact piece0 x0 x1 x2 x3 x4 x5 xs0 hL 7 y z (by omega) (by omega)
  · exact piece3 x0 x1 x2 x3 x4 x5 xs0 hL 6 y z (by omega) (by omega)
  · exact piece2 x0 x1 x2 x3 x4 x5 xs0 hL 6 y z (by omega) (by omega)
  · exact piece1 x0 x1 x2 x3 x4 x5 xs0 hL 6 y z (by omega) (by omega)
  · exact piece0 x0 x1 x2 x3 x4 x5 xs0 hL 6 y z (by omega) (by omega)
  · exact piece3 x0 x1 x2 x3 x4 x5 xs0 hL 5 y z (by omega) (by omega)
  · exact piece2 x0 x1 x2 x3 x4 x5 xs0 hL 5 y z (by omega) (by omega)
  · exact piece1 x0 x1 x2 x3 x4 x5 xs0 hL 5 y z (by omega) (by omega)
  · exact piece0 x0 x1 x2 x3 x4 x5 xs0 hL 5 y z (by omega) (by omega)
  · exact piece3 x0 x1 x2 x3 x4 x5 xs0 hL 4 y z (by omega) (by omega)
  · exact piece2 x0 x1 x2 x3 x4 x5 xs0 hL 4 y z (by omega) (by omega)
  · exact piece1 x0 x1 x2 x3 x4 x5 xs0 hL 4 y z (by omega) (by omega)
  · exact piece0 x0 x1 x2 x3 x4 x5 xs0 hL 4 y z (by omega) (by omega)
  · exact piece3 x0 x1 x2 x3 x4 x5 xs0 hL 3 y z (by omega) (by omega)
  · exact piece2 x0 x1 x2 x3 x4 x5 xs0 hL 3 y z (by omega) (by omega)
  · exact piece1 x0 x1 x2 x3 x4 x5 xs0 hL 3 y z (by omega) (by omega)
  · exact piece0 x0 x1 x2 x3 x4 x5 xs0 hL 3 y z (by omega) (by omega)
  · exact piece3 x0 x1 x2 x3 x4 x5 xs0 hL 2 y z (by omega) (by omega)
  · exact piece2 x0 x1 x2 x3 x4 x5 xs0 hL 2 y z (by omega) (by omega)
  · exact piece1 x0 x1 x2 x3 x4 x5 xs0 hL 2 y z (by omega) (by omega)
  · exact piece0 x0 x1 x2 x3 x4 x5 xs0 hL 2 y z (by omega) (by omega)
  · exact piece3 x0 x1 x2 x3 x4 x5 xs0 hL 1 y z (by omega) (by omega)
  · exact piece2 x0 x1 x2 x3 x4 x5 xs0 hL 1 y z (by omega) (by omega)
  · exact piece1 x0 x1 x2 x3 x4 x5 xs0 hL 1 y z (by omega) (by omega)
  · exact piece0 x0 x1 x2 x3 x4 x5 xs0 hL 1 y z (by omega) (by omega)
  · exact piece3 x0 x1 x2 x3 x4 x5 xs0 hL 0 y z (by omega) (by omega)
  · exact piece2 x0 x1 x2 x3 x4 x5 xs0 hL 0 y z (by omega) (by omega)
  · exact piece1 x0 x1 x2 x3 x4 x5 xs0 hL 0 y z (by omega) (by omega)
  · exact piece0 x0 x1 x2 x3 x4 x5 xs0 hL 0 y z (by omega) (by omega)

theorem outA (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x256 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x128 .f32) (harg9 : arg9.IsWhole) (hc0 : cond0_0 i) (y : S512x512.Idx) :
    out0_A_6 c i arg2 harg2 arg3 harg3 arg4 harg4 arg5 harg5 arg6 harg6 arg7 harg7 arg8 harg8 arg9 harg9 hc0 x0 x1 x2 x3 x4 x5 y = blockOut x0 x1 x2 x3 x4 x5 (k0_pay2 (F := Ideal)) y := by
  frame_out
  canon_tiles z h
  · exact piece3 x0 x1 x2 x3 x4 x5 (k0_pay2 (F := Ideal)) hL 7 y z (by omega) (by omega)
  · exact piece2 x0 x1 x2 x3 x4 x5 (k0_pay2 (F := Ideal)) hL 7 y z (by omega) (by omega)
  · exact piece1 x0 x1 x2 x3 x4 x5 (k0_pay2 (F := Ideal)) hL 7 y z (by omega) (by omega)
  · exact piece0 x0 x1 x2 x3 x4 x5 (k0_pay2 (F := Ideal)) hL 7 y z (by omega) (by omega)
  · exact piece3 x0 x1 x2 x3 x4 x5 (k0_pay2 (F := Ideal)) hL 6 y z (by omega) (by omega)
  · exact piece2 x0 x1 x2 x3 x4 x5 (k0_pay2 (F := Ideal)) hL 6 y z (by omega) (by omega)
  · exact piece1 x0 x1 x2 x3 x4 x5 (k0_pay2 (F := Ideal)) hL 6 y z (by omega) (by omega)
  · exact piece0 x0 x1 x2 x3 x4 x5 (k0_pay2 (F := Ideal)) hL 6 y z (by omega) (by omega)
  · exact piece3 x0 x1 x2 x3 x4 x5 (k0_pay2 (F := Ideal)) hL 5 y z (by omega) (by omega)
  · exact piece2 x0 x1 x2 x3 x4 x5 (k0_pay2 (F := Ideal)) hL 5 y z (by omega) (by omega)
  · exact piece1 x0 x1 x2 x3 x4 x5 (k0_pay2 (F := Ideal)) hL 5 y z (by omega) (by omega)
  · exact piece0 x0 x1 x2 x3 x4 x5 (k0_pay2 (F := Ideal)) hL 5 y z (by omega) (by omega)
  · exact piece3 x0 x1 x2 x3 x4 x5 (k0_pay2 (F := Ideal)) hL 4 y z (by omega) (by omega)
  · exact piece2 x0 x1 x2 x3 x4 x5 (k0_pay2 (F := Ideal)) hL 4 y z (by omega) (by omega)
  · exact piece1 x0 x1 x2 x3 x4 x5 (k0_pay2 (F := Ideal)) hL 4 y z (by omega) (by omega)
  · exact piece0 x0 x1 x2 x3 x4 x5 (k0_pay2 (F := Ideal)) hL 4 y z (by omega) (by omega)
  · exact piece3 x0 x1 x2 x3 x4 x5 (k0_pay2 (F := Ideal)) hL 3 y z (by omega) (by omega)
  · exact piece2 x0 x1 x2 x3 x4 x5 (k0_pay2 (F := Ideal)) hL 3 y z (by omega) (by omega)
  · exact piece1 x0 x1 x2 x3 x4 x5 (k0_pay2 (F := Ideal)) hL 3 y z (by omega) (by omega)
  · exact piece0 x0 x1 x2 x3 x4 x5 (k0_pay2 (F := Ideal)) hL 3 y z (by omega) (by omega)
  · exact piece3 x0 x1 x2 x3 x4 x5 (k0_pay2 (F := Ideal)) hL 2 y z (by omega) (by omega)
  · exact piece2 x0 x1 x2 x3 x4 x5 (k0_pay2 (F := Ideal)) hL 2 y z (by omega) (by omega)
  · exact piece1 x0 x1 x2 x3 x4 x5 (k0_pay2 (F := Ideal)) hL 2 y z (by omega) (by omega)
  · exact piece0 x0 x1 x2 x3 x4 x5 (k0_pay2 (F := Ideal)) hL 2 y z (by omega) (by omega)
  · exact piece3 x0 x1 x2 x3 x4 x5 (k0_pay2 (F := Ideal)) hL 1 y z (by omega) (by omega)
  · exact piece2 x0 x1 x2 x3 x4 x5 (k0_pay2 (F := Ideal)) hL 1 y z (by omega) (by omega)
  · exact piece1 x0 x1 x2 x3 x4 x5 (k0_pay2 (F := Ideal)) hL 1 y z (by omega) (by omega)
  · exact piece0 x0 x1 x2 x3 x4 x5 (k0_pay2 (F := Ideal)) hL 1 y z (by omega) (by omega)
  · exact piece3 x0 x1 x2 x3 x4 x5 (k0_pay2 (F := Ideal)) hL 0 y z (by omega) (by omega)
  · exact piece2 x0 x1 x2 x3 x4 x5 (k0_pay2 (F := Ideal)) hL 0 y z (by omega) (by omega)
  · exact piece1 x0 x1 x2 x3 x4 x5 (k0_pay2 (F := Ideal)) hL 0 y z (by omega) (by omega)
  · exact piece0 x0 x1 x2 x3 x4 x5 (k0_pay2 (F := Ideal)) hL 0 y z (by omega) (by omega)

end

end Cert.KernelIdeal.Gen
-- ==== Proof.KFold.lean ====
module
public import proofs.«01_k».proof.Proof.KBlock
@[expose] public section
set_option maxRecDepth 16384
noncomputable section
namespace Cert.Gla
open Idealize.ShloMosaic Idealize.ShloMosaic.TcCoe

/-- The five arrays of the call, by name. -/
structure Arrays where
  q : (⟨2, ![65536, 256]⟩ : Shape).Idx → EReal
  k : (⟨2, ![65536, 256]⟩ : Shape).Idx → EReal
  v : (⟨2, ![65536, 512]⟩ : Shape).Idx → EReal
  g : (⟨2, ![65536, 512]⟩ : Shape).Idx → EReal
  la : (⟨2, ![65536, 256]⟩ : Shape).Idx → EReal
  gn : (⟨2, ![1, 512]⟩ : Shape).Idx → EReal

/-- Row `t` of chunk `r` among the 65536 tokens. -/
abbrev row (r : ℕ) (t : Fin 64) : Fin 65536 := ⟨(64 * r + t.val) % 65536, Nat.mod_lt _ (by norm_num)⟩

/-- Value channel `x` of head `h` among the 512. -/
abbrev vc (h : Fin 4) (x : Fin 128) : Fin 512 := ⟨128 * h.val + x.val, by omega⟩

/-- Chunk `r` of the call's arrays. -/
def Arrays.chunk (A : Arrays) (r : ℕ) : Chunk where
  la t j := A.la (ix2 (row r t) j)
  q t j := A.q (ix2 (row r t) j)
  k t j := A.k (ix2 (row r t) j)
  v h t x := A.v (ix2 (row r t) (vc h x))
  g h t x := A.g (ix2 (row r t) (vc h x))

/-- The state before chunk `n` of the sequence whose first chunk is `r`. -/
def Arrays.state (A : Arrays) (r : ℕ) : ℕ → Fin 4 → Fin 64 → Fin 128 → EReal
  | 0 => fun _ _ _ => 0
  | n + 1 => (A.chunk (r + n)).next (A.state r n)

/-- The norm's scale by head and channel. -/
abbrev Arrays.scale (A : Arrays) (h : Fin 4) (x : Fin 128) : EReal := A.gn (ix2 (0 : Fin 1) (vc h x))

/-- The layer's output at chunk `r`, token `t`, head `h`, channel `x`: a sequence is 64 chunks. -/
def Arrays.out (A : Arrays) (r : ℕ) (h : Fin 4) (t : Fin 64) (x : Fin 128) : EReal :=
  (A.chunk r).out A.scale (A.state (64 * (r / 64)) (r % 64)) h t x

end Cert.Gla

namespace Cert.KernelIdeal.Gen
open Idealize.ShloMosaic Idealize.ShloMosaic.TcCoe Idealize.ShloMosaic.Tactic
open Idealize.SL Idealize.SL.Sem Cert.Gla
open Idealize.ShloMosaic.Pipeline (Dat Cfg Window BodyObligation cellOf)

variable (m : (ℓ : Loc nD τ sig) → Buf (Elt Ideal) ℓ) (c : Dev nD)

/-- The arrays the kernel is called on. -/
def arrays : Arrays where
  q := m ((c : Thread nD τ).loc main_arg0)
  k := m ((c : Thread nD τ).loc main_arg1)
  v := m ((c : Thread nD τ).loc main_arg2)
  g := m ((c : Thread nD τ).loc main_arg3)
  la := m ((c : Thread nD τ).loc main_arg4)
  gn := m ((c : Thread nD τ).loc main_arg5)

theorem idx : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = t.val ∧ win0_3.index t (1 : Fin 2) = 0 ∧
    win0_4.index t (0 : Fin 2) = t.val ∧ win0_4.index t (1 : Fin 2) = 0 ∧
    win0_5.index t (0 : Fin 2) = 0 ∧ win0_5.index t (1 : Fin 2) = 0 ∧
    win0_6.index t (0 : Fin 2) = t.val ∧ win0_6.index t (1 : Fin 2) = 0 :=
  (by decide +kernel : ∀ t : Fin grid0.N, _)

theorem t_lt (t : Fin cfg0.N) : t.val < 128 := lt_of_lt_of_eq t.isLt (show cfg0.N = 128 from N_0)

theorem read_q (t : Fin cfg0.N) (n : ℕ) (hn : n < 8) (a : Fin 64) (b : Fin 256) :
    lk (iblk m c 0 t) n (ix2 a b) = (arrays m c).q (ix2 (row (8 * t.val + n) a) b) := by
  have ht := t_lt t
  have e := idx t
  unfold lk arrays
  pointwise []
  blk_ext [iblk, V, e]

theorem read_k (t : Fin cfg0.N) (n : ℕ) (hn : n < 8) (a : Fin 64) (b : Fin 256) :
    lk (iblk m c 1 t) n (ix2 a b) = (arrays m c).k (ix2 (row (8 * t.val + n) a) b) := by
  have ht := t_lt t
  have e := idx t
  unfold lk arrays
  pointwise []
  blk_ext [iblk, V, e]

theorem read_la (t : Fin cfg0.N) (n : ℕ) (hn : n < 8) (a : Fin 64) (b : Fin 256) :
    lk (iblk m c 4 t) n (ix2 a b) = (arrays m c).la (ix2 (row (8 * t.val + n) a) b) := by
  have ht := t_lt t
  have e := idx t
  unfold lk arrays
  pointwise []
  blk_ext [iblk, V, e]

theorem read_v (t : Fin cfg0.N) (n : ℕ) (hn : n < 8) (h : Fin 4) (a : Fin 64) (b : Fin 128) :
    lv (iblk m c 2 t) n h.val (ix2 a b) = (arrays m c).v (ix2 (row (8 * t.val + n) a) (vc h b)) := by
  have ht := t_lt t
  have e := idx t
  unfold lv arrays
  pointwise []
  blk_ext [iblk, V, e]

theorem read_g (t : Fin cfg0.N) (n : ℕ) (hn : n < 8) (h : Fin 4) (a : Fin 64) (b : Fin 128) :
    lv (iblk m c 3 t) n h.val (ix2 a b) = (arrays m c).g (ix2 (row (8 * t.val + n) a) (vc h b)) := by
  have ht := t_lt t
  have e := idx t
  unfold lv arrays
  pointwise []
  blk_ext [iblk, V, e]

theorem V_gn (j : S1x512.Idx) :
    V m c main_v1 j = m ((c : Thread nD τ).loc main_arg5) (ix2 (0 : Fin 1) (j 1)) := by
  entry_read
  rw [eq_ix2 j]
  pointwise []
  blk_ext []

theorem read_gn (t : Fin cfg0.N) (h : Fin 4) (b : Fin 128) :
    gnOf (iblk m c 5 t) h b = (arrays m c).scale h b := by
  have e := idx t
  change iblk m c 5 t (ix2 (0 : Fin 1) (vc h b)) =
    m ((c : Thread nD τ).loc main_arg5) (ix2 (0 : Fin 1) (vc h b))
  have hv : V m c main_v1 = fun j => m ((c : Thread nD τ).loc main_arg5) (ix2 (0 : Fin 1) (j 1)) :=
    funext fun j => V_gn m c j
  unfold iblk
  rw [show V m c (Pipeline.arrRef spec0 5) = V m c main_v1 from rfl, hv]
  blk_ext [e]

/-- A chunk of a point's blocks is a chunk of the arrays. -/
theorem chunkAt_eq (t : Fin cfg0.N) (n : ℕ) (hn : n < 8) :
    chunkAt (iblk m c 0 t) (iblk m c 1 t) (iblk m c 2 t) (iblk m c 3 t) (iblk m c 4 t) n =
      (arrays m c).chunk (8 * t.val + n) := by
  refine Chunk.ext_of ?_ ?_ ?_ ?_ ?_
  · funext a b; exact read_la m c t n hn a b
  · funext a b; exact read_q m c t n hn a b
  · funext a b; exact read_k m c t n hn a b
  · funext h a b
    refine Eq.trans ?_ (read_v m c t n hn h a b)
    fin_cases h <;> rfl
  · funext h a b
    refine Eq.trans ?_ (read_g m c t n hn h a b)
    fin_cases h <;> rfl

variable (hL : ∀ i, m ((c : Thread nD τ).loc main_arg4) i ≠ (⊤ : EReal))
include hL

theorem la_ne (t : Fin cfg0.N) (i : S512x256.Idx) : iblk m c 4 t i ≠ (⊤ : EReal) := by
  change m ((c : Thread nD τ).loc main_arg4) (((cfg0.win 4).blk t).view.emb i) ≠ (⊤ : EReal)
  exact hL _

/-- The state after `n` chunks of a point entered with a state of the sequence. -/
theorem stc_eq (t : Fin cfg0.N) (S : Vec Ideal S256x128 .f32) (r p : ℕ) (hr : r + p = 8 * t.val)
    (hS : stF S = (arrays m c).state r p) (n : ℕ) (hn : n ≤ 8) :
    stF (stc (iblk m c 1 t) (iblk m c 2 t) (iblk m c 4 t) S n) = (arrays m c).state r (p + n) := by
  induction n with
  | zero => exact hS
  | succ n ih =>
    have ih := ih (by omega)
    have ec := chunkAt_eq m c t n (by omega)
    have es : (arrays m c).state r (p + (n + 1)) =
        ((arrays m c).chunk (8 * t.val + n)).next ((arrays m c).state r (p + n)) := by
      rw [← hr, Nat.add_assoc]; rfl
    rw [es, ← ih, ← ec]
    funext h d x
    exact cS_apply (lk (iblk m c 4 t) n) (lk (iblk m c 0 t) n) (lk (iblk m c 1 t) n)
      (lv (iblk m c 2 t) n 0) (lv (iblk m c 2 t) n 1) (lv (iblk m c 2 t) n 2) (lv (iblk m c 2 t) n 3)
      (stc (iblk m c 1 t) (iblk m c 2 t) (iblk m c 4 t) S n) (lv (iblk m c 3 t) n 0)
      (lv (iblk m c 3 t) n 1) (lv (iblk m c 3 t) n 2) (lv (iblk m c 3 t) n 3)
      (fun i => la_ne m c hL t _) h d x

omit hL in
theorem stF_pay2 (r : ℕ) : stF (k0_pay2 (F := Ideal)) = (arrays m c).state r 0 := by
  funext h d x
  exact pay2_apply _

omit hL in
theorem scratch_A (t : Fin cfg0.N) (h0 : t.val % 8 = 0) :
    (outsAt0 m c t.val t.isLt).2 =
      stc (iblk m c 1 t) (iblk m c 2 t) (iblk m c 4 t) (k0_pay2 (F := Ideal)) 8 := by
  have e := congrArg Prod.snd (outsAt0_A m c t h0)
  dsimp only at e
  rw [e, soutA]

omit hL in
theorem scratch_B (t : Fin cfg0.N) (h0 : ¬t.val % 8 = 0) (hp : t.val - 1 < cfg0.N) :
    (outsAt0 m c t.val t.isLt).2 =
      stc (iblk m c 1 t) (iblk m c 2 t) (iblk m c 4 t) (outsAt0 m c (t.val - 1) hp).2 8 := by
  have e := congrArg Prod.snd (outsAt0_B m c t h0)
  dsimp only at e
  rw [e, soutB]

/-- The scratch after a point is the state before the next point's first chunk. -/
theorem scratch_eq (n : ℕ) : ∀ t : Fin cfg0.N, t.val = n →
    stF (outsAt0 m c t.val t.isLt).2 = (arrays m c).state (64 * (t.val / 8)) (8 * (t.val % 8) + 8) := by
  induction n using Nat.strong_induction_on with
  | _ n ih =>
    intro t ht
    have hlt := t.isLt
    rcases Nat.eq_zero_or_pos (t.val % 8) with h0 | h0
    · rw [scratch_A m c t h0, stc_eq m c hL t (k0_pay2 (F := Ideal)) (64 * (t.val / 8)) 0 (by omega)
        (stF_pay2 m c _) 8 le_rfl, h0]
    · have hp : t.val - 1 < cfg0.N := by omega
      have ih' := ih (n - 1) (by omega) ⟨t.val - 1, hp⟩ (by simp only [ht])
      rw [scratch_B m c t (by omega) hp, stc_eq m c hL t (outsAt0 m c (t.val - 1) hp).2
        (64 * ((t.val - 1) / 8)) (8 * ((t.val - 1) % 8) + 8) (by omega) ih' 8 le_rfl,
        show (t.val - 1) / 8 = t.val / 8 by omega,
        show 8 * ((t.val - 1) % 8) + 8 = 8 * (t.val % 8) by omega]

theorem blockOut_eq (t : Fin cfg0.N) (S : Vec Ideal S256x128 .f32)
    (hS : stF S = (arrays m c).state (64 * (t.val / 8)) (8 * (t.val % 8))) (y : S512x512.Idx) :
    blockOut (iblk m c 0 t) (iblk m c 1 t) (iblk m c 2 t) (iblk m c 3 t) (iblk m c 4 t)
        (iblk m c 5 t) S y =
      (arrays m c).out (8 * t.val + (y 0).val / 64)
        ⟨(y 1).val / 128, Nat.div_lt_of_lt_mul (y 1).isLt⟩
        ⟨(y 0).val % 64, Nat.mod_lt _ (by norm_num)⟩ ⟨(y 1).val % 128, Nat.mod_lt _ (by norm_num)⟩ := by
  have hy : (y 0).val < 512 := (y 0).isLt
  unfold blockOut Arrays.out
  rw [chunkAt_eq m c t _ (by omega),
    stc_eq m c hL t S (64 * (t.val / 8)) (8 * (t.val % 8)) (by omega) hS _ (by omega),
    show gnOf (iblk m c 5 t) = (arrays m c).scale from funext fun h => funext fun b => read_gn m c t h b,
    show (8 * t.val + (y 0).val / 64) / 64 = t.val / 8 by omega,
    show (8 * t.val + (y 0).val / 64) % 64 = 8 * (t.val % 8) + (y 0).val / 64 by omega]

/-- What a point leaves in the output block. -/
theorem outs_eq (t : Fin cfg0.N) (y : S512x512.Idx) :
    (outsAt0 m c t.val t.isLt).1 y =
      (arrays m c).out (8 * t.val + (y 0).val / 64)
        ⟨(y 1).val / 128, Nat.div_lt_of_lt_mul (y 1).isLt⟩
        ⟨(y 0).val % 64, Nat.mod_lt _ (by norm_num)⟩ ⟨(y 1).val % 128, Nat.mod_lt _ (by norm_num)⟩ := by
  have hlt := t.isLt
  rcases Nat.eq_zero_or_pos (t.val % 8) with h0 | h0
  · have e := congrFun (congrArg Prod.fst (outsAt0_A m c t h0)) y
    dsimp only at e
    rw [e, outA _ _ _ _ _ _ (la_ne m c hL t)]
    exact blockOut_eq m c hL t _ (by rw [h0]; exact stF_pay2 m c _) y
  · have hp : t.val - 1 < cfg0.N := by omega
    have e := congrFun (congrArg Prod.fst (outsAt0_B m c t (by omega))) y
    dsimp only at e
    rw [e, outB _ _ _ _ _ _ (la_ne m c hL t)]
    refine blockOut_eq m c hL t _ ?_ y
    have := scratch_eq m c hL (t.val - 1) ⟨t.val - 1, hp⟩ rfl
    rw [this]
    simp only [show (t.val - 1) / 8 = t.val / 8 by omega,
      show 8 * ((t.val - 1) % 8) + 8 = 8 * (t.val % 8) by omega]

/-- What the call leaves in its result. -/
theorem result_eq (i : S65536x512.Idx) :
    Cert.KernelIdeal.Value.G6 m c i =
      (arrays m c).out ((i 0).val / 64)
        ⟨(i 1).val / 128, Nat.div_lt_of_lt_mul (i 1).isLt⟩
        ⟨(i 0).val % 64, Nat.mod_lt _ (by norm_num)⟩ ⟨(i 1).val % 128, Nat.mod_lt _ (by norm_num)⟩ := by
  have h0 : (i 0).val < 65536 := (i 0).isLt
  have h1 : (i 1).val < 512 := (i 1).isLt
  have hp : Cert.KernelIdeal.Value.pt6Of i < cfg0.N := by
    rw [show cfg0.N = 128 from N_0]
    simp only [Cert.KernelIdeal.Value.pt6Of, Cert.KernelIdeal.Value.run6Of]
    omega
  unfold Cert.KernelIdeal.Value.G6
  rw [dif_pos hp]
  have e := Cert.KernelIdeal.Value.outsAt0_sweep m c _ hp
  rw [← e, outs_eq m c hL ⟨_, hp⟩]
  congr 1
  · simp only [Cert.KernelIdeal.Value.pt6Of, Cert.KernelIdeal.Value.run6Of, Cert.KernelIdeal.Value.loc6Of]
    omega
  all_goals
    apply Fin.ext
    simp only [Cert.KernelIdeal.Value.loc6Of]
    omega

end Cert.KernelIdeal.Gen
-- ==== Proof.RCum.lean ====
module
public import proofs.«01_k».proof.Proof.Spec
public import proofs.«01_k».proof.Proof.Gen.ReferenceIdeal.Run
@[expose] public section
set_option maxRecDepth 16384
noncomputable section
namespace Cert.ReferenceIdeal
open Idealize.ShloMosaic Idealize.ShloMosaic.TcCoe

/-- A left fold of additions is the start plus the sum. -/
theorem fold_add {ι : Type} (g : ι → EReal) (l : List ι) :
    ∀ v : EReal, l.foldl (fun r n => r + g n) v = v + (l.map g).sum := by
  induction l with
  | nil => intro v; simp
  | cons a l ih => intro v; rw [List.foldl_cons, ih, List.map_cons, List.sum_cons, add_assoc]

/-- Window positions of a window of 64 along the third axis. -/
def winEquiv : (⟨5, ![1, 1, 64, 1, 1]⟩ : Shape).Idx ≃ Fin 64 where
  toFun w := w 2
  invFun s := ix5 (0 : Fin 1) (0 : Fin 1) s (0 : Fin 1) (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv s := rfl

/-- The running sum along the third axis, read at an index. -/
theorem cumsum_apply (x : FVec Ideal S16x64x64x4x64 .f32) (v : FVec Ideal S_ .f32)
    (h : S16x64x64x4x64.ReduceWindows (![1, 1, 64, 1, 1] : Fin 5 → ℕ) ![1, 1, 1, 1, 1]
      ![0, 0, 63, 0, 0] ![0, 0, 0, 0, 0] S16x64x64x4x64)
    (hu : 0 < S_.numel) (hv : v (Shape.Idx.first hu) = (0 : EReal)) (b : Fin 16) (n t : Fin 64)
    (q : Fin 4) (d : Fin 64) :
    Host.reduceWindowAdd (![1, 1, 64, 1, 1] : Fin 5 → ℕ) ![1, 1, 1, 1, 1] ![0, 0, 63, 0, 0]
        ![0, 0, 0, 0, 0] x v h hu (ix5 b n t q d) =
      ∑ s : Fin 64, if s ≤ t then (x (ix5 b n s q d) : EReal) else 0 := by
  unfold Host.reduceWindowAdd
  rw [hv]
  refine (fold_add _ _ _).trans ?_
  rw [zero_add, ← Fin.sum_univ_def]
  refine Eq.trans ?_ (Equiv.sum_comp (Equiv.addRight (t + 1))
    (fun s : Fin 64 => if s ≤ t then (x (ix5 b n s q d) : EReal) else 0))
  refine Fintype.sum_equiv ((Shape.rowMajor ⟨5, ![1, 1, 64, 1, 1]⟩).symm.trans winEquiv) _ _
    fun k => ?_
  obtain ⟨s, hs⟩ : ∃ s, s = winEquiv ((Shape.rowMajor ⟨5, ![1, 1, 64, 1, 1]⟩).symm k) := ⟨_, rfl⟩
  have hw : (Shape.rowMajor ⟨5, ![1, 1, 64, 1, 1]⟩).symm k =
      ix5 (0 : Fin 1) (0 : Fin 1) s (0 : Fin 1) (0 : Fin 1) := by
    rw [hs]; exact (winEquiv.left_inv _).symm
  have hval : (s + (t + 1)).val = (s.val + t.val + 1) % 64 := by
    simp only [Fin.val_add, Fin.val_one]; omega
  simp only [Equiv.trans_apply, Equiv.coe_addRight, ← hs]
  by_cases hc : 63 ≤ t.val + s.val
  · rw [dif_pos, if_pos (Fin.le_def.2 (by rw [hval]; omega))]
    · refine congrArg x (funext fun a => Fin.ext ?_)
      dsimp only
      rw [hw]
      match a with
      | ⟨0, _⟩ => show b.val * 1 + 0 - 0 = b.val; omega
      | ⟨1, _⟩ => show n.val * 1 + 0 - 0 = n.val; omega
      | ⟨2, _⟩ => show t.val * 1 + s.val - 63 = (s + (t + 1)).val; rw [hval]; omega
      | ⟨3, _⟩ => show q.val * 1 + 0 - 0 = q.val; omega
      | ⟨4, _⟩ => show d.val * 1 + 0 - 0 = d.val; omega
    · rw [hw]
      intro a
      match a with
      | ⟨0, _⟩ => show 0 ≤ b.val * 1 + 0 ∧ b.val * 1 + 0 - 0 < 16; omega
      | ⟨1, _⟩ => show 0 ≤ n.val * 1 + 0 ∧ n.val * 1 + 0 - 0 < 64; omega
      | ⟨2, _⟩ => show 63 ≤ t.val * 1 + s.val ∧ t.val * 1 + s.val - 63 < 64; omega
      | ⟨3, _⟩ => show 0 ≤ q.val * 1 + 0 ∧ q.val * 1 + 0 - 0 < 4; omega
      | ⟨4, _⟩ => show 0 ≤ d.val * 1 + 0 ∧ d.val * 1 + 0 - 0 < 64; omega
  · rw [dif_neg, if_neg (fun e => by have := Fin.le_def.1 e; rw [hval] at this; omega)]
    rw [hw]
    intro e
    have e2 := (e 2).1
    change 63 ≤ t.val * 1 + s.val at e2
    omega

end Cert.ReferenceIdeal
-- ==== Proof.RPre.lean ====
module
public import proofs.«01_k».proof.Proof.RCum
public import proofs.«01_k».proof.Proof.KFold
@[expose] public section
set_option maxRecDepth 16384
noncomputable section
namespace Cert.ReferenceIdeal.Value
open Idealize.ShloMosaic Idealize.ShloMosaic.TcCoe Idealize.ShloMosaic.Tactic Idealize.ShloMosaic.StableHlo
open Cert.ReferenceIdeal.Gen Idealize.SL Idealize.SL.Sem Cert.Gla

theorem cast_qk (x : FVec Ideal S65536x256 .f32) (b : Fin 16) (n t : Fin 64) (h : Fin 4) (d : Fin 64) :
    shapeCast S16x64x64x4x64 x shapeCasts_S65536x256_S16x64x64x4x64 (ix5 b n t h d) =
      x (ix2 (row (64 * b.val + n.val) t) (kc h d)) := by
  pointwise []
  exact congrArg₂ (fun a b => x (ix2 a b)) (Fin.ext (by simp only; omega)) (Fin.ext (by simp only; omega))

theorem cast_v (x : FVec Ideal S65536x512 .f32) (b : Fin 16) (n t : Fin 64) (h : Fin 4) (d : Fin 128) :
    shapeCast S16x64x64x4x128 x shapeCasts_S65536x512_S16x64x64x4x128 (ix5 b n t h d) =
      x (ix2 (row (64 * b.val + n.val) t) (vc h d)) := by
  pointwise []
  exact congrArg₂ (fun a b => x (ix2 a b)) (Fin.ext (by simp only; omega)) (Fin.ext (by simp only; omega))

variable (m : (ℓ : Loc nD τ sig) → Buf (Elt Ideal) ℓ) (c : Dev nD)

/-- The arrays the reference is called on. -/
def arrays : Arrays where
  q := m ((c : Thread nD τ).loc main_arg0)
  k := m ((c : Thread nD τ).loc main_arg1)
  v := m ((c : Thread nD τ).loc main_arg2)
  g := m ((c : Thread nD τ).loc main_arg3)
  la := m ((c : Thread nD τ).loc main_arg4)
  gn := m ((c : Thread nD τ).loc main_arg5)

/-- Chunk `n` of sequence `b`. -/
abbrev ch (b : Fin 16) (n : Fin 64) : Chunk := (arrays m c).chunk (64 * b.val + n.val)

def W1 : Valuation τ sig (Elt Ideal) := after hostOps0 (launchContents m c)
def W2 : Valuation τ sig (Elt Ideal) := after hostOps0_1 (W1 m c)
def W3 : Valuation τ sig (Elt Ideal) := after hostOps0_2 (W2 m c)
def W4 : Valuation τ sig (Elt Ideal) := after hostOps0_3 (W3 m c)
def W5 : Valuation τ sig (Elt Ideal) := after hostOps0_4 (W4 m c)
def W6 : Valuation τ sig (Elt Ideal) := after hostOps0_5 (W5 m c)

variable (b : Fin 16) (n : Fin 64)

theorem w1_q (t : Fin 64) (h : Fin 4) (d : Fin 64) :
    (W1 m c (Proc.devRef .tc main_v1) : FVec Ideal S16x64x64x4x64 .f32) (ix5 b n t h d) = (ch m c b n).q t (kc h d) := by
  refine Eq.trans ?_ (cast_qk (m ((c : Thread nD τ).loc main_arg0)) b n t h d)
  unfold W1
  simp only [hostOps0]
  after_results
  rfl

theorem w1_k (t : Fin 64) (h : Fin 4) (d : Fin 64) :
    (W1 m c (Proc.devRef .tc main_v3) : FVec Ideal S16x64x64x4x64 .f32) (ix5 b n t h d) = (ch m c b n).k t (kc h d) := by
  refine Eq.trans ?_ (cast_qk (m ((c : Thread nD τ).loc main_arg1)) b n t h d)
  unfold W1
  simp only [hostOps0]
  after_results
  rfl

theorem w1_v (t : Fin 64) (h : Fin 4) (d : Fin 128) :
    (W1 m c (Proc.devRef .tc main_v5) : FVec Ideal S16x64x64x4x128 .f32) (ix5 b n t h d) = (ch m c b n).v h t d := by
  refine Eq.trans ?_ (cast_v (m ((c : Thread nD τ).loc main_arg2)) b n t h d)
  unfold W1
  simp only [hostOps0]
  after_results
  rfl

theorem w1_la (t : Fin 64) (h : Fin 4) (d : Fin 64) :
    (W1 m c (Proc.devRef .tc main_v6) : FVec Ideal S16x64x64x4x64 .f32) (ix5 b n t h d) = (ch m c b n).la t (kc h d) := by
  refine Eq.trans ?_ (cast_qk (m ((c : Thread nD τ).loc main_arg4)) b n t h d)
  unfold W1
  simp only [hostOps0]
  after_results
  rfl

theorem w2_cum (t : Fin 64) (h : Fin 4) (d : Fin 64) :
    (W2 m c (Proc.devRef .tc main_v7) : FVec Ideal S16x64x64x4x64 .f32) (ix5 b n t h d) = (ch m c b n).cum t (kc h d) := by
  have e : (W2 m c (Proc.devRef .tc main_v7) : FVec Ideal S16x64x64x4x64 .f32) =
      Host.reduceWindowAdd ![1, 1, 64, 1, 1] ![1, 1, 1, 1, 1] ![0, 0, 63, 0, 0] ![0, 0, 0, 0, 0]
        (W1 m c (Proc.devRef .tc main_v6) : FVec Ideal S16x64x64x4x64 .f32)
        (broadcastInDim S_ ![] bcast_S_S_ (constant (F := Ideal) S_ .f32 0x00000000#32))
        reduceWindows_S16x64x64x4x64_S16x64x64x4x64_w1s1p0_0_w1s1p0_0_w64s1p63_0_w1s1p0_0_w1s1p0_0 h_S_ := by
    unfold W2
    simp only [hostOps0_1]
    after_results
    rfl
  rw [e, cumsum_apply _ _ _ _ (by pointwise []) b n t h d]
  exact Finset.sum_congr (M := EReal) rfl fun s _ => by rw [w1_la]

theorem w2_q (t : Fin 64) (h : Fin 4) (d : Fin 64) :
    (W2 m c (Proc.devRef .tc main_v1) : FVec Ideal S16x64x64x4x64 .f32) (ix5 b n t h d) = (ch m c b n).q t (kc h d) :=
  (congrFun (after_of_writes_sub hostOps0_1 (W1 m c) hostOps0_1_writes (r := main_v1) (by decide)) _).trans
    (w1_q m c b n t h d)

theorem w2_k (t : Fin 64) (h : Fin 4) (d : Fin 64) :
    (W2 m c (Proc.devRef .tc main_v3) : FVec Ideal S16x64x64x4x64 .f32) (ix5 b n t h d) = (ch m c b n).k t (kc h d) :=
  (congrFun (after_of_writes_sub hostOps0_1 (W1 m c) hostOps0_1_writes (r := main_v3) (by decide)) _).trans
    (w1_k m c b n t h d)

theorem w2_v (t : Fin 64) (h : Fin 4) (d : Fin 128) :
    (W2 m c (Proc.devRef .tc main_v5) : FVec Ideal S16x64x64x4x128 .f32) (ix5 b n t h d) = (ch m c b n).v h t d :=
  (congrFun (after_of_writes_sub hostOps0_1 (W1 m c) hostOps0_1_writes (r := main_v5) (by decide)) _).trans
    (w1_v m c b n t h d)

theorem w3_k (t : Fin 64) (h : Fin 4) (d : Fin 64) :
    (W3 m c (Proc.devRef .tc main_v3) : FVec Ideal S16x64x64x4x64 .f32) (ix5 b n t h d) = (ch m c b n).k t (kc h d) :=
  (congrFun (after_of_writes_sub hostOps0_2 (W2 m c) hostOps0_2_writes (r := main_v3) (by decide)) _).trans
    (w2_k m c b n t h d)

theorem w3_v (t : Fin 64) (h : Fin 4) (d : Fin 128) :
    (W3 m c (Proc.devRef .tc main_v5) : FVec Ideal S16x64x64x4x128 .f32) (ix5 b n t h d) = (ch m c b n).v h t d :=
  (congrFun (after_of_writes_sub hostOps0_2 (W2 m c) hostOps0_2_writes (r := main_v5) (by decide)) _).trans
    (w2_v m c b n t h d)

theorem w3_cum (t : Fin 64) (h : Fin 4) (d : Fin 64) :
    (W3 m c (Proc.devRef .tc main_v7) : FVec Ideal S16x64x64x4x64 .f32) (ix5 b n t h d) = (ch m c b n).cum t (kc h d) :=
  (congrFun (after_of_writes_sub hostOps0_2 (W2 m c) hostOps0_2_writes (r := main_v7) (by decide)) _).trans
    (w2_cum m c b n t h d)

theorem w4_k (t : Fin 64) (h : Fin 4) (d : Fin 64) :
    (W4 m c (Proc.devRef .tc main_v3) : FVec Ideal S16x64x64x4x64 .f32) (ix5 b n t h d) = (ch m c b n).k t (kc h d) :=
  (congrFun (after_of_writes_sub hostOps0_3 (W3 m c) hostOps0_3_writes (r := main_v3) (by decide)) _).trans
    (w3_k m c b n t h d)

theorem w4_v (t : Fin 64) (h : Fin 4) (d : Fin 128) :
    (W4 m c (Proc.devRef .tc main_v5) : FVec Ideal S16x64x64x4x128 .f32) (ix5 b n t h d) = (ch m c b n).v h t d :=
  (congrFun (after_of_writes_sub hostOps0_3 (W3 m c) hostOps0_3_writes (r := main_v5) (by decide)) _).trans
    (w3_v m c b n t h d)

theorem w4_cum (t : Fin 64) (h : Fin 4) (d : Fin 64) :
    (W4 m c (Proc.devRef .tc main_v7) : FVec Ideal S16x64x64x4x64 .f32) (ix5 b n t h d) = (ch m c b n).cum t (kc h d) :=
  (congrFun (after_of_writes_sub hostOps0_3 (W3 m c) hostOps0_3_writes (r := main_v7) (by decide)) _).trans
    (w3_cum m c b n t h d)

theorem w5_k (t : Fin 64) (h : Fin 4) (d : Fin 64) :
    (W5 m c (Proc.devRef .tc main_v3) : FVec Ideal S16x64x64x4x64 .f32) (ix5 b n t h d) = (ch m c b n).k t (kc h d) :=
  (congrFun (after_of_writes_sub hostOps0_4 (W4 m c) hostOps0_4_writes (r := main_v3) (by decide)) _).trans
    (w4_k m c b n t h d)

theorem w5_v (t : Fin 64) (h : Fin 4) (d : Fin 128) :
    (W5 m c (Proc.devRef .tc main_v5) : FVec Ideal S16x64x64x4x128 .f32) (ix5 b n t h d) = (ch m c b n).v h t d :=
  (congrFun (after_of_writes_sub hostOps0_4 (W4 m c) hostOps0_4_writes (r := main_v5) (by decide)) _).trans
    (w4_v m c b n t h d)

theorem w5_cum (t : Fin 64) (h : Fin 4) (d : Fin 64) :
    (W5 m c (Proc.devRef .tc main_v7) : FVec Ideal S16x64x64x4x64 .f32) (ix5 b n t h d) = (ch m c b n).cum t (kc h d) :=
  (congrFun (after_of_writes_sub hostOps0_4 (W4 m c) hostOps0_4_writes (r := main_v7) (by decide)) _).trans
    (w4_cum m c b n t h d)

theorem w3_qe (t : Fin 64) (h : Fin 4) (d : Fin 64) :
    (W3 m c (Proc.devRef .tc main_v12) : FVec Ideal S16x64x64x4x64 .f32) (ix5 b n t h d) =
      (ch m c b n).q t (kc h d) * Ideal.exp ((ch m c b n).cum t (kc h d)) := by
  rw [← w2_q, ← w2_cum]
  unfold W3
  generalize W2 m c = V
  simp only [hostOps0_2]
  after_results
  pointwise []

theorem w3_last (h : Fin 4) (d : Fin 64) :
    (W3 m c (Proc.devRef .tc main_v8) : FVec Ideal S16x64x1x4x64 .f32) (ix5 b n 0 h d) =
      (ch m c b n).cum 63 (kc h d) := by
  rw [← w2_cum]
  unfold W3
  generalize W2 m c = V
  simp only [hostOps0_2]
  after_results
  pointwise []

theorem w3_lo (h : Fin 4) (t s : Fin 64) :
    (W3 m c (Proc.devRef .tc main_v14) : FVec Ideal S16x64x4x64x64 .f32) (ix5 b n h t s) =
      ∑ d : Fin 64, ((ch m c b n).q t (kc h d) * Ideal.exp ((ch m c b n).cum t (kc h d))) *
        ((ch m c b n).k s (kc h d) * Ideal.exp (-((ch m c b n).cum s (kc h d)))) := by
  simp only [← w2_q, ← w2_cum, ← w2_k]
  unfold W3
  generalize W2 m c = V
  simp only [hostOps0_2]
  after_results
  pointwise []

theorem w3_hi (h : Fin 4) (t s : Fin 64) :
    (W3 m c (Proc.devRef .tc main_v17) : FVec Ideal S16x64x4x64x64 .f32) (ix5 b n h t s) =
      ∑ d : Fin 64, ((ch m c b n).q t (kc h d) * Ideal.exp (-((ch m c b n).cum t (kc h d)))) *
        ((ch m c b n).k s (kc h d) * Ideal.exp ((ch m c b n).cum s (kc h d))) := by
  simp only [← w2_q, ← w2_cum, ← w2_k]
  unfold W3
  generalize W2 m c = V
  simp only [hostOps0_2]
  after_results
  pointwise []

theorem w3_one (t s : Fin 64) : (W3 m c (Proc.devRef .tc main_v18) : IVec S64x64 1) (ix2 t s) = 1#1 := by
  unfold W3
  generalize W2 m c = V
  simp only [hostOps0_2]
  after_results
  pointwise []
  try rfl

/-- The comparison of positions as words is the comparison of positions. -/
theorem tri_word : ∀ t s : Fin 64,
    Scalar.select (IntOp.cmpi CmpIPredicate.sge (IntOp.addi (BitVec.ofNat 32 t.val) 0#32) (BitVec.ofNat 32 s.val))
      (1#1) (0#1) = if s ≤ t then 1#1 else 0#1 := by
  decide +kernel

theorem w4_tri (t s : Fin 64) :
    (W4 m c (Proc.devRef .tc main_v19) : IVec S64x64 1) (ix2 t s) = if s ≤ t then 1#1 else 0#1 := by
  have h := w3_one m c t s
  unfold W4
  generalize W3 m c = V at h ⊢
  simp only [hostOps0_3]
  after_results
  change select (cmpi .sge (addi (iotaInDim S64x64 32 0) (broadcastInDim S64x64 ![] bcast_S_S64x64
      (constantI S_ 32 0#32))) (iotaInDim S64x64 32 1)) (V (Proc.devRef .tc main_v18) : IVec S64x64 1)
      (broadcastInDim S64x64 ![] bcast_S_S64x64 (constantI S_ 1 0#1)) (ix2 t s) = _
  pointwise []
  rw [h]
  exact tri_word t s

theorem w5_att (h : Fin 4) (t s : Fin 64) :
    (W5 m c (Proc.devRef .tc main_v20) : FVec Ideal S16x64x4x64x64 .f32) (ix5 b n h t s) =
      (ch m c b n).att h t s := by
  have e := w4_tri m c t s
  have e1 : (W4 m c (Proc.devRef .tc main_v14) : FVec Ideal S16x64x4x64x64 .f32) (ix5 b n h t s) = _ :=
    (congrFun (after_of_writes_sub hostOps0_3 (W3 m c) hostOps0_3_writes (r := main_v14) (by decide)) _).trans
      (w3_lo m c b n h t s)
  have e2 : (W4 m c (Proc.devRef .tc main_v17) : FVec Ideal S16x64x4x64x64 .f32) (ix5 b n h t s) = _ :=
    (congrFun (after_of_writes_sub hostOps0_3 (W3 m c) hostOps0_3_writes (r := main_v17) (by decide)) _).trans
      (w3_hi m c b n h t s)
  unfold Chunk.att
  rw [← e1, ← e2]
  unfold W5
  clear e1 e2
  generalize W4 m c = V at e ⊢
  simp only [hostOps0_4]
  after_results
  change select (broadcastInDim S16x64x4x64x64 ![3, 4] bcast_S64x64_S16x64x4x64x64_3_4
      (V (Proc.devRef .tc main_v19) : IVec S64x64 1)) (V (Proc.devRef .tc main_v14) : FVec Ideal S16x64x4x64x64 .f32)
      (V (Proc.devRef .tc main_v17) : FVec Ideal S16x64x4x64x64 .f32) (ix5 b n h t s) = _
  pointwise []
  rw [e]
  split <;> rfl

theorem w5_last (h : Fin 4) (d : Fin 64) :
    (W5 m c (Proc.devRef .tc main_v8) : FVec Ideal S16x64x1x4x64 .f32) (ix5 b n 0 h d) =
      (ch m c b n).cum 63 (kc h d) :=
  (congrFun (after_of_writes_sub hostOps0_4 (W4 m c) hostOps0_4_writes (r := main_v8) (by decide)) _).trans
    ((congrFun (after_of_writes_sub hostOps0_3 (W3 m c) hostOps0_3_writes (r := main_v8) (by decide)) _).trans
    (w3_last m c b n h d))

theorem w6_intra (t : Fin 64) (h : Fin 4) (x : Fin 128) :
    (W6 m c (Proc.devRef .tc main_v22) : FVec Ideal S16x64x64x4x128 .f32) (ix5 b n t h x) =
      ∑ s : Fin 64, (ch m c b n).att h t s * (ch m c b n).v h s x := by
  simp only [← w5_att, ← w5_v]
  unfold W6
  generalize W5 m c = V
  simp only [hostOps0_5]
  after_results
  pointwise [id]
  exact Finset.sum_congr (M := EReal) rfl fun s _ => EReal.mul_comm _ _

theorem w6_decay (h : Fin 4) (d : Fin 64) :
    (W6 m c (Proc.devRef .tc main_v34_0) : FVec Ideal S64x16x4x64 .f32) (ix4 n b h d) =
      Ideal.exp ((ch m c b n).cum 63 (kc h d)) := by
  rw [← w5_last]
  unfold W6
  generalize W5 m c = V
  simp only [hostOps0_5]
  after_results
  pointwise [id]
  try rfl

theorem w6_upd (h : Fin 4) (d : Fin 64) (x : Fin 128) :
    (W6 m c (Proc.devRef .tc main_v34_1) : FVec Ideal S64x16x4x64x128 .f32) (ix5 n b h d x) =
      (ch m c b n).upd h d x := by
  unfold Chunk.upd
  have hl := (w5_last m c b n h d).trans (w5_cum m c b n 63 h d).symm
  simp only [← w5_v, ← w5_k, ← w5_cum]
  unfold W6
  generalize W5 m c = V at hl ⊢
  simp only [hostOps0_5]
  after_results
  pointwise [id]
  simp only [hl]

theorem w6_zero (h : Fin 4) (d : Fin 64) (x : Fin 128) :
    (W6 m c (Proc.devRef .tc main_v34_3) : FVec Ideal S16x4x64x128 .f32) (ix4 b h d x) = (0 : EReal) := by
  unfold W6
  generalize W5 m c = V
  simp only [hostOps0_5]
  after_results
  pointwise [id]

theorem w6_qe (t : Fin 64) (h : Fin 4) (d : Fin 64) :
    (W6 m c (Proc.devRef .tc main_v12) : FVec Ideal S16x64x64x4x64 .f32) (ix5 b n t h d) =
      (ch m c b n).q t (kc h d) * Ideal.exp ((ch m c b n).cum t (kc h d)) :=
  (congrFun (after_of_writes_sub hostOps0_5 (W5 m c) hostOps0_5_writes (r := main_v12) (by decide)) _).trans
   ((congrFun (after_of_writes_sub hostOps0_4 (W4 m c) hostOps0_4_writes (r := main_v12) (by decide)) _).trans
    ((congrFun (after_of_writes_sub hostOps0_3 (W3 m c) hostOps0_3_writes (r := main_v12) (by decide)) _).trans
    (w3_qe m c b n t h d)))

end Cert.ReferenceIdeal.Value
-- ==== Proof.RLoop.lean ====
module
public import proofs.«01_k».proof.Proof.RPre
@[expose] public section
set_option maxRecDepth 16384
noncomputable section
namespace Cert.ReferenceIdeal.Value
open Idealize.ShloMosaic Idealize.ShloMosaic.TcCoe Idealize.ShloMosaic.Tactic Idealize.ShloMosaic.StableHlo
open Cert.ReferenceIdeal.Gen Idealize.SL Idealize.SL.Sem Cert.Gla

/-- The start words of a slice of chunk `k`, rank 4. -/
abbrev st4 (k : Fin 64) : Fin 4 → Int := fun a =>
  (((![fun _ => BitVec.ofNat 32 k.val, constantI S_ 32 0#32, constantI S_ 32 0#32, constantI S_ 32 0#32] :
    Fin 4 → IVec S_ 32)) a (Shape.Idx.first h_S_)).toInt
/-- The start words of a slice of chunk `k`, rank 5. -/
abbrev st5 (k : Fin 64) : Fin 5 → Int := fun a =>
  (((![fun _ => BitVec.ofNat 32 k.val, constantI S_ 32 0#32, constantI S_ 32 0#32, constantI S_ 32 0#32,
    constantI S_ 32 0#32] : Fin 5 → IVec S_ 32)) a (Shape.Idx.first h_S_)).toInt

theorem cs4 : ∀ (k : Fin 64) (a : Fin 4), Host.clampedStart S64x16x4x64 S1x16x4x64 rfl (st4 k) a = ![k.val, 0, 0, 0] a := by
  decide +kernel
theorem cs5 : ∀ (k : Fin 64) (a : Fin 5),
    Host.clampedStart S64x16x4x64x128 S1x16x4x64x128 rfl (st5 k) a = ![k.val, 0, 0, 0, 0] a := by
  decide +kernel

theorem slice4 (y : FVec Ideal S64x16x4x64 .f32) (k : Fin 64) (b : Fin 16) (h : Fin 4) (d : Fin 64) :
    Host.dynamicSlice S1x16x4x64 y (st4 k) sliceFits_S64x16x4x64_S1x16x4x64 (ix4 (0 : Fin 1) b h d) = y (ix4 k b h d) := by
  generalize hs : st4 k = s
  pointwise []
  subst hs
  simp only [cs4]
  refine congrArg y (funext fun a => Fin.ext ?_)
  fin_cases a <;> simp [ix4]
theorem slice5 (y : FVec Ideal S64x16x4x64x128 .f32) (k : Fin 64) (b : Fin 16) (h : Fin 4) (d : Fin 64) (x : Fin 128) :
    Host.dynamicSlice S1x16x4x64x128 y (st5 k) sliceFits_S64x16x4x64x128_S1x16x4x64x128 (ix5 (0 : Fin 1) b h d x) =
      y (ix5 k b h d x) := by
  generalize hs : st5 k = s
  pointwise []
  subst hs
  simp only [cs5]
  refine congrArg y (funext fun a => Fin.ext ?_)
  fin_cases a <;> simp [ix5]
theorem upd5 (y : FVec Ideal S64x16x4x64x128 .f32) (u : FVec Ideal S1x16x4x64x128 .f32) (k n : Fin 64) (b : Fin 16) (h : Fin 4) (d : Fin 64) (x : Fin 128) :
    Host.dynamicUpdateSlice y u (st5 k) updateFits_S64x16x4x64x128_S1x16x4x64x128 (ix5 n b h d x) =
      if n = k then u (ix5 (0 : Fin 1) b h d x) else y (ix5 n b h d x) := by
  generalize hs : st5 k = s
  pointwise []
  subst hs
  simp only [cs5]
  have e0 : (![k.val, 0, 0, 0, 0] : Fin 5 → ℕ) 0 = k.val := rfl
  have e1 : (![k.val, 0, 0, 0, 0] : Fin 5 → ℕ) 1 = 0 := rfl
  have e2 : (![k.val, 0, 0, 0, 0] : Fin 5 → ℕ) 2 = 0 := rfl
  have e3 : (![k.val, 0, 0, 0, 0] : Fin 5 → ℕ) 3 = 0 := rfl
  have e4 : (![k.val, 0, 0, 0, 0] : Fin 5 → ℕ) 4 = 0 := rfl
  simp only [e0, e1, e2, e3, e4]
  by_cases hn : n = k
  · subst hn
    rw [dif_pos (by omega), if_pos rfl]
    refine congrArg u (funext fun a => Fin.ext ?_)
    fin_cases a <;> simp [ix5]
  · have : n.val ≠ k.val := fun e => hn (Fin.ext e)
    rw [dif_neg (by omega), if_neg hn]

variable (V : Valuation τ sig (Elt Ideal))

theorem step3_at (k : Fin 64) (hk : V (Proc.devRef .tc main_v34_2) = fun _ => BitVec.ofNat 32 k.val)
    (b : Fin 16) (h : Fin 4) (d : Fin 64) (x : Fin 128) :
    (step_main_v34_3 V : FVec Ideal S16x4x64x128 .f32) (ix4 b h d x) =
      HAdd.hAdd (α := EReal) (HMul.hMul (α := EReal) ((V (Proc.devRef .tc main_v34_0) : FVec Ideal S64x16x4x64 .f32) (ix4 k b h d))
        ((V (Proc.devRef .tc main_v34_3) : FVec Ideal S16x4x64x128 .f32) (ix4 b h d x)))
      ((V (Proc.devRef .tc main_v34_1) : FVec Ideal S64x16x4x64x128 .f32) (ix5 k b h d x)) := by
  rw [← slice4 (V (Proc.devRef .tc main_v34_0) : FVec Ideal S64x16x4x64 .f32) k b h d,
    ← slice5 (V (Proc.devRef .tc main_v34_1) : FVec Ideal S64x16x4x64x128 .f32) k b h d x]
  unfold step_main_v34_3
  rw [hk]
  change addf (F := Ideal) (φ := .f32) (mulf (F := Ideal) (φ := .f32) (broadcastInDim S16x4x64x128 ![0, 1, 2, 3] bcast_S16x4x64x1_S16x4x64x128_0_1_2_3
      (broadcastInDim S16x4x64x1 ![0, 1, 2] bcast_S16x4x64_S16x4x64x1_0_1_2 (shapeCast S16x4x64
        (Host.dynamicSlice (α := EReal) S1x16x4x64 (V (Proc.devRef .tc main_v34_0) : FVec Ideal S64x16x4x64 .f32) (st4 k)
          sliceFits_S64x16x4x64_S1x16x4x64) shapeCasts_S1x16x4x64_S16x4x64)))
      (V (Proc.devRef .tc main_v34_3) : FVec Ideal S16x4x64x128 .f32))
    (shapeCast S16x4x64x128 (Host.dynamicSlice (α := EReal) S1x16x4x64x128
      (V (Proc.devRef .tc main_v34_1) : FVec Ideal S64x16x4x64x128 .f32) (st5 k)
      sliceFits_S64x16x4x64x128_S1x16x4x64x128) shapeCasts_S1x16x4x64x128_S16x4x64x128) (ix4 b h d x) = _
  generalize Host.dynamicSlice S1x16x4x64 _ _ _ = A
  generalize Host.dynamicSlice S1x16x4x64x128 _ _ _ = B
  pointwise []

theorem step4_at (k : Fin 64) (hk : V (Proc.devRef .tc main_v34_2) = fun _ => BitVec.ofNat 32 k.val)
    (n : Fin 64) (b : Fin 16) (h : Fin 4) (d : Fin 64) (x : Fin 128) :
    (step_main_v34_4 V : FVec Ideal S64x16x4x64x128 .f32) (ix5 n b h d x) =
      if n = k then (V (Proc.devRef .tc main_v34_3) : FVec Ideal S16x4x64x128 .f32) (ix4 b h d x)
      else (V (Proc.devRef .tc main_v34_4) : FVec Ideal S64x16x4x64x128 .f32) (ix5 n b h d x) := by
  unfold step_main_v34_4
  rw [hk]
  refine (upd5 _ _ k n b h d x).trans ?_
  pointwise []

variable (m : (ℓ : Loc nD τ sig) → Buf (Elt Ideal) ℓ) (c : Dev nD)

theorem entry_eq : entryContents preI m c = W6 m c := rfl

/-- The carried buffers after `k` trips. -/
abbrev T (k : ℕ) : Valuation τ sig (Elt Ideal) := STEP^[k] (W6 m c)

theorem T_succ (k : ℕ) : T m c (k + 1) = STEP (T m c k) := Function.iterate_succ_apply' _ _ _

theorem T_decay (k : ℕ) : T m c k (Proc.devRef .tc main_v34_0) = W6 m c (Proc.devRef .tc main_v34_0) := by
  induction k with
  | zero => rfl
  | succ k ih => rw [T_succ, STEP_main_v34_0, ih]

theorem T_upd (k : ℕ) : T m c k (Proc.devRef .tc main_v34_1) = W6 m c (Proc.devRef .tc main_v34_1) := by
  induction k with
  | zero => rfl
  | succ k ih => rw [T_succ, STEP_main_v34_1, ih]

theorem T_ctr (k : ℕ) : T m c k (Proc.devRef .tc main_v34_2) = fun _ => BitVec.ofNat 32 k := by
  induction k with
  | zero => exact ctr_entry m c
  | succ k ih =>
    rw [T_succ, STEP_main_v34_2]
    unfold step_main_v34_2
    rw [ih]
    funext i
    show BitVec.ofNat 32 k + 1#32 = BitVec.ofNat 32 (k + 1)
    rw [BitVec.ofNat_add]

/-- The carried state before trip `k` is the state of the specification. -/
theorem T_state (k : ℕ) (hk : k ≤ 64) (b : Fin 16) (h : Fin 4) (d : Fin 64) (x : Fin 128) :
    (T m c k (Proc.devRef .tc main_v34_3) : FVec Ideal S16x4x64x128 .f32) (ix4 b h d x) =
      (arrays m c).state (64 * b.val) k h d x := by
  induction k with
  | zero => exact w6_zero m c b h d x
  | succ k ih =>
    rw [T_succ, STEP_main_v34_3]
    refine (step3_at (T m c k) ⟨k, by omega⟩ (T_ctr m c k) b h d x).trans ?_
    rw [T_decay, T_upd, ih (by omega), w6_decay, w6_upd]
    exact congrArg (fun z : EReal => z + _) (EReal.mul_comm _ _)

/-- The stored state of chunk `n` after `k` trips, `n < k`. -/
theorem T_store (k : ℕ) (hk : k ≤ 64) (n : Fin 64) (hn : n.val < k) (b : Fin 16) (h : Fin 4) (d : Fin 64)
    (x : Fin 128) :
    (T m c k (Proc.devRef .tc main_v34_4) : FVec Ideal S64x16x4x64x128 .f32) (ix5 n b h d x) =
      (arrays m c).state (64 * b.val) n.val h d x := by
  induction k with
  | zero => omega
  | succ k ih =>
    rw [T_succ, STEP_main_v34_4]
    refine (step4_at (T m c k) ⟨k, by omega⟩ (T_ctr m c k) n b h d x).trans ?_
    split
    · next e => rw [T_state m c k (by omega), e]
    · next e => exact ih (by omega) (by have : n.val ≠ k := fun e' => e (Fin.ext e'); omega)

/-- The contents after the loop. -/
def L : Valuation τ sig (Elt Ideal) := after condOps (atK m 64 c)

theorem L_store (n : Fin 64) (b : Fin 16) (h : Fin 4) (d : Fin 64) (x : Fin 128) :
    (L m c (Proc.devRef .tc main_v34_4) : FVec Ideal S64x16x4x64x128 .f32) (ix5 n b h d x) =
      (arrays m c).state (64 * b.val) n.val h d x := by
  refine Eq.trans ?_ (T_store m c 64 le_rfl n n.isLt b h d x)
  exact congrFun ((cond_keeps _ main_v34_4 (by decide)).trans (atK_agree m c 64 main_v34_4 (by decide))) _

theorem atK_keep (r : Ref sig .tc) (h0 : r ∉ condOps_W) (h1 : r ∉ while0Ops0_W) (h2 : r ∉ while0Ops0_1_W)
    (h3 : r ∉ while0Ops0_2_W) (h4 : r ∉ while0Ops0_3_W) (h5 : r ∉ while0Ops0_4_W) (k : ℕ) :
    atK m k c (Proc.devRef .tc r) = W6 m c (Proc.devRef .tc r) := by
  induction k with
  | zero => rfl
  | succ k ih =>
    refine Eq.trans ?_ ih
    refine (after_of_writes_sub while0Ops0_4 _ while0Ops0_4_writes h5).trans ?_
    refine (after_of_writes_sub while0Ops0_3 _ while0Ops0_3_writes h4).trans ?_
    refine (after_of_writes_sub while0Ops0_2 _ while0Ops0_2_writes h3).trans ?_
    refine (after_of_writes_sub while0Ops0_1 _ while0Ops0_1_writes h2).trans ?_
    refine (after_of_writes_sub while0Ops0 _ while0Ops0_writes h1).trans ?_
    exact after_of_writes_sub condOps _ condOps_writes h0

theorem L_keep (r : Ref sig .tc) (h0 : r ∉ condOps_W) (h1 : r ∉ while0Ops0_W) (h2 : r ∉ while0Ops0_1_W)
    (h3 : r ∉ while0Ops0_2_W) (h4 : r ∉ while0Ops0_3_W) (h5 : r ∉ while0Ops0_4_W) :
    L m c (Proc.devRef .tc r) = W6 m c (Proc.devRef .tc r) :=
  (after_of_writes_sub condOps _ condOps_writes h0).trans (atK_keep m c r h0 h1 h2 h3 h4 h5 64)

theorem W6_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    W6 m c (Proc.devRef .tc r) = m ((c : Thread nD τ).loc r) :=
  (after_of_writes_sub hostOps0_5 _ hostOps0_5_writes h5).trans
    ((after_of_writes_sub hostOps0_4 _ hostOps0_4_writes h4).trans
    ((after_of_writes_sub hostOps0_3 _ hostOps0_3_writes h3).trans
    ((after_of_writes_sub hostOps0_2 _ hostOps0_2_writes h2).trans
    ((after_of_writes_sub hostOps0_1 _ hostOps0_1_writes h1).trans
    (after_of_writes_sub hostOps0 _ hostOps0_writes h0)))))

theorem L_qe (b : Fin 16) (n t : Fin 64) (h : Fin 4) (d : Fin 64) :
    (L m c (Proc.devRef .tc main_v12) : FVec Ideal S16x64x64x4x64 .f32) (ix5 b n t h d) =
      (ch m c b n).q t (kc h d) * Ideal.exp ((ch m c b n).cum t (kc h d)) := by
  rw [L_keep m c main_v12 (by decide) (by decide) (by decide) (by decide) (by decide) (by decide)]
  exact w6_qe m c b n t h d

theorem L_intra (b : Fin 16) (n t : Fin 64) (h : Fin 4) (x : Fin 128) :
    (L m c (Proc.devRef .tc main_v22) : FVec Ideal S16x64x64x4x128 .f32) (ix5 b n t h x) =
      ∑ s : Fin 64, (ch m c b n).att h t s * (ch m c b n).v h s x := by
  rw [L_keep m c main_v22 (by decide) (by decide) (by decide) (by decide) (by decide) (by decide)]
  exact w6_intra m c b n t h x

theorem L_gate : L m c (Proc.devRef .tc main_arg3) = m ((c : Thread nD τ).loc main_arg3) :=
  (L_keep m c main_arg3 (by decide) (by decide) (by decide) (by decide) (by decide) (by decide)).trans
    (W6_keep m c main_arg3 (by decide) (by decide) (by decide) (by decide) (by decide) (by decide))

theorem L_scale : L m c (Proc.devRef .tc main_arg5) = m ((c : Thread nD τ).loc main_arg5) :=
  (L_keep m c main_arg5 (by decide) (by decide) (by decide) (by decide) (by decide) (by decide)).trans
    (W6_keep m c main_arg5 (by decide) (by decide) (by decide) (by decide) (by decide) (by decide))

end Cert.ReferenceIdeal.Value
-- ==== Proof.RPost.lean ====
module
public import proofs.«01_k».proof.Proof.RLoop
@[expose] public section
set_option maxRecDepth 16384
noncomputable section
namespace Cert.ReferenceIdeal.Value
open Idealize.ShloMosaic Idealize.ShloMosaic.TcCoe Idealize.ShloMosaic.Tactic Idealize.ShloMosaic.StableHlo
open Cert.ReferenceIdeal.Gen Idealize.SL Idealize.SL.Sem Cert.Gla

/-- The stretches after the loop leave the gate's array as it was. -/
theorem keep_gate (V : Valuation τ sig (Elt Ideal)) :
    (after hostOps0_6 V (Proc.devRef .tc main_v56) : FVec Ideal S65536x512 .f32) =
      (V (Proc.devRef .tc main_arg3) : FVec Ideal S65536x512 .bf16) := by
  simp only [hostOps0_6]
  after_results
  rfl

/-- The gated result, from the normed array and the gate's array. -/
theorem gated (U : Valuation τ sig (Elt Ideal)) (r : Fin 65536) (w : Fin 512) :
    (after hostOps0_8 (after hostOps0_7 U) (Proc.devRef .tc main_v59) : FVec Ideal S65536x512 .bf16) (ix2 r w) =
      HMul.hMul (α := EReal) ((U (Proc.devRef .tc main_v55) : FVec Ideal S65536x512 .f32) (ix2 r w))
        (HMul.hMul (α := EReal) ((U (Proc.devRef .tc main_v56) : FVec Ideal S65536x512 .f32) (ix2 r w))
          (Ideal.logistic ((U (Proc.devRef .tc main_v56) : FVec Ideal S65536x512 .f32) (ix2 r w)))) := by
  simp only [hostOps0_8, hostOps0_7]
  after_results
  change truncf (F := Ideal) .bf16 (mulf (F := Ideal) (φ := .f32) (U (Proc.devRef .tc main_v55) : FVec Ideal S65536x512 .f32)
    (mulf (F := Ideal) (φ := .f32) (U (Proc.devRef .tc main_v56) : FVec Ideal S65536x512 .f32)
      (Host.divf (F := Ideal) (φ := .f32) (broadcastInDim S65536x512 ![] bcast_S_S65536x512 (constant S_ .f32 0x3F800000#32))
        (addf (F := Ideal) (φ := .f32) (broadcastInDim S65536x512 ![] bcast_S_S65536x512 (constant S_ .f32 0x3F800000#32))
          (Host.exp (Host.negf (U (Proc.devRef .tc main_v56) : FVec Ideal S65536x512 .f32))))))) bitsLt_bf16_f32
    (ix2 r w) = _
  pointwise []
  rfl

variable (m : (ℓ : Loc nD τ sig) → Buf (Elt Ideal) ℓ) (c : Dev nD)

/-- A mixed value as the reference adds it up. -/
theorem mix_at (b : Fin 16) (n t : Fin 64) (h : Fin 4) (x : Fin 128) :
    HAdd.hAdd (α := EReal) ((L m c (Proc.devRef .tc main_v22) : FVec Ideal S16x64x64x4x128 .f32) (ix5 b n t h x))
      (∑ d : Fin 64, HMul.hMul (α := EReal)
        ((L m c (Proc.devRef .tc main_v34_4) : FVec Ideal S64x16x4x64x128 .f32) (ix5 n b h d x))
        ((L m c (Proc.devRef .tc main_v12) : FVec Ideal S16x64x64x4x64 .f32) (ix5 b n t h d))) =
      (ch m c b n).mix ((arrays m c).state (64 * b.val) n.val) h t x := by
  unfold Chunk.mix
  rw [L_intra]
  refine congrArg (fun z : EReal => _ + z) (Finset.sum_congr rfl fun d _ => ?_)
  rw [L_store, L_qe]
  exact EReal.mul_comm _ _

/-- The normed array, from the mixed values. -/
theorem normed (V : Valuation τ sig (Elt Ideal)) (M : Fin 16 → Fin 64 → Fin 64 → Fin 4 → Fin 128 → EReal)
    (hm : ∀ (b : Fin 16) (n t : Fin 64) (h : Fin 4) (x : Fin 128),
      HAdd.hAdd (α := EReal) ((V (Proc.devRef .tc main_v22) : FVec Ideal S16x64x64x4x128 .f32) (ix5 b n t h x))
      (∑ d : Fin 64, HMul.hMul (α := EReal)
        ((V (Proc.devRef .tc main_v34_4) : FVec Ideal S64x16x4x64x128 .f32) (ix5 n b h d x))
        ((V (Proc.devRef .tc main_v12) : FVec Ideal S16x64x64x4x64 .f32) (ix5 b n t h d))) = M b n t h x)
    (r : Fin 65536) (w : Fin 512) :
    (after hostOps0_6 V (Proc.devRef .tc main_v55) : FVec Ideal S65536x512 .f32) (ix2 r w) =
      (fun o : Fin 128 → EReal =>
        o ⟨w.val % 128, by omega⟩ * Ideal.rsqrt (Ideal.div (∑ y : Fin 128, o y * o y) (Ideal.ofBits FTy.f32 1124073472#32) +
          Ideal.ofBits FTy.f32 897988541#32) * (V (Proc.devRef .tc main_arg5) : FVec Ideal S1x512 .f32) (ix2 (0 : Fin 1) w))
      (M ⟨r.val / 4096, by omega⟩ ⟨r.val % 4096 / 64, by omega⟩ ⟨r.val % 4096 % 64, by omega⟩ ⟨w.val / 128, by omega⟩) := by
  simp only [hostOps0_6]
  after_results
  pointwise []
  have e : (⟨w.val / 128 * 128 + w.val % 128, by omega⟩ : Fin 512) = w := Fin.ext (by simp only; omega)
  simp only [hm]
  exact congrArg (HMul.hMul (α := EReal) _)
    (congrArg (fun j => (V (Proc.devRef .tc main_arg5) : FVec Ideal S1x512 .f32) (ix2 (0 : Fin 1) j)) e)

/-- What the reference leaves, read at an index. -/
theorem result_eq (r : Fin 65536) (w : Fin 512) :
    (finalContents condOps preI bodyI postI 64 m c (Proc.devRef .tc main_v59) : FVec Ideal S65536x512 .bf16) (ix2 r w) =
      (arrays m c).out (r.val / 64) ⟨w.val / 128, by omega⟩ ⟨r.val % 64, by omega⟩ ⟨w.val % 128, by omega⟩ := by
  refine (gated (after hostOps0_6 (L m c)) r w).trans ?_
  rw [normed (L m c) _ (mix_at m c) r w, keep_gate, L_gate, L_scale]
  unfold Arrays.out Chunk.out finish
  have e1 : 64 * (r.val / 4096) + r.val % 4096 / 64 = r.val / 64 := by omega
  have e2 : r.val / 64 / 64 = r.val / 4096 := by omega
  have e3 : r.val / 64 % 64 = r.val % 4096 / 64 := by omega
  have e4 : (⟨r.val % 4096 % 64, by omega⟩ : Fin 64) = ⟨r.val % 64, by omega⟩ := Fin.ext (by simp only; omega)
  have e5 : row (r.val / 64) ⟨r.val % 64, by omega⟩ = r := Fin.ext (by simp only; omega)
  have e6 : vc ⟨w.val / 128, by omega⟩ ⟨w.val % 128, by omega⟩ = w := Fin.ext (by simp only; omega)
  have eg : ((arrays m c).chunk (r.val / 64)).g ⟨w.val / 128, by omega⟩ ⟨r.val % 64, by omega⟩ ⟨w.val % 128, by omega⟩ =
      (arrays m c).g (ix2 r w) := by
    show (arrays m c).g (ix2 (row (r.val / 64) ⟨r.val % 64, by omega⟩) (vc ⟨w.val / 128, by omega⟩ ⟨w.val % 128, by omega⟩)) = _
    rw [e5, e6]
  have es : (arrays m c).scale ⟨w.val / 128, by omega⟩ ⟨w.val % 128, by omega⟩ = (arrays m c).gn (ix2 (0 : Fin 1) w) := by
    unfold Arrays.scale
    rw [e6]
  rw [eg, es, e2, e3]
  simp only [ch, e1, e4]
  rfl

end Cert.ReferenceIdeal.Value
-- ==== Proof.RFrame.lean ====
module
public import proofs.«01_k».proof.Proof.RPost
public import Idealize.ShloMosaic.Lib.Quiescent
@[expose] public section
set_option maxRecDepth 16384
noncomputable section
namespace Cert.ReferenceIdeal.Value
open Idealize.ShloMosaic Idealize.ShloMosaic.TcCoe Idealize.ShloMosaic.Tactic Idealize.ShloMosaic.StableHlo
open Cert.ReferenceIdeal.Gen Idealize.SL Idealize.SL.Sem Cert.Gla

/-- What stretch 6 writes. -/
abbrev W_6 : List (Ref sig .tc) := [main_v35, main_v36, main_v37, main_v38, main_v39, main_v40, main_v41, main_v42, main_cst_2, main_v43, main_v44, main_cst_3, main_v45, main_v46, main_cst_4, main_v47, main_v48, main_v49, main_v50, main_v51, main_v52, main_v53, main_v54, main_v55, main_v56]

theorem writes_6 : (hostOps0_6 : List (HloOp τ sig (Elt Ideal))).Forall fun op => op.writes ⊆ (W_6.map (Proc.devRef (τ := τ) .tc)).toFinset :=
  forall_writes_sub_of_map rfl

/-- What stretch 7 writes. -/
abbrev W_7 : List (Ref sig .tc) := [main_call6_v0, main_call6_v1, main_call6_cst, main_call6_v2, main_call6_v3, main_call6_cst_0, main_call6_v4, main_call6_v5, main_v57]

theorem writes_7 : (hostOps0_7 : List (HloOp τ sig (Elt Ideal))).Forall fun op => op.writes ⊆ (W_7.map (Proc.devRef (τ := τ) .tc)).toFinset :=
  forall_writes_sub_of_map rfl

/-- What stretch 8 writes. -/
abbrev W_8 : List (Ref sig .tc) := [main_v58, main_v59]

theorem writes_8 : (hostOps0_8 : List (HloOp τ sig (Elt Ideal))).Forall fun op => op.writes ⊆ (W_8.map (Proc.devRef (τ := τ) .tc)).toFinset :=
  forall_writes_sub_of_map rfl

/-- The stretches after the loop leave every buffer they do not write as it was. -/
theorem post_keep (V : Valuation τ sig (Elt Ideal)) (r : Ref sig .tc) (h6 : r ∉ W_6) (h7 : r ∉ W_7) (h8 : r ∉ W_8) :
    afterL postI V (Proc.devRef .tc r) = V (Proc.devRef .tc r) :=
  (after_of_writes_sub hostOps0_8 _ writes_8 h8).trans
    ((after_of_writes_sub hostOps0_7 _ writes_7 h7).trans (after_of_writes_sub hostOps0_6 _ writes_6 h6))

variable (m : (ℓ : Loc nD τ sig) → Buf (Elt Ideal) ℓ) (c : Dev nD)

theorem arg0_kept : finalContents condOps preI bodyI postI 64 m c (Proc.devRef .tc main_arg0) = m ((c : Thread nD τ).loc main_arg0) := by
  refine (?_ : _ = L m c (Proc.devRef .tc main_arg0)).trans
    ((L_keep m c main_arg0 (by decide) (by decide) (by decide) (by decide) (by decide) (by decide)).trans
      (W6_keep m c main_arg0 (by decide) (by decide) (by decide) (by decide) (by decide) (by decide)))
  exact post_keep (L m c) main_arg0 (by decide) (by decide) (by decide)

theorem arg1_kept : finalContents condOps preI bodyI postI 64 m c (Proc.devRef .tc main_arg1) = m ((c : Thread nD τ).loc main_arg1) := by
  refine (?_ : _ = L m c (Proc.devRef .tc main_arg1)).trans
    ((L_keep m c main_arg1 (by decide) (by decide) (by decide) (by decide) (by decide) (by decide)).trans
      (W6_keep m c main_arg1 (by decide) (by decide) (by decide) (by decide) (by decide) (by decide)))
  exact post_keep (L m c) main_arg1 (by decide) (by decide) (by decide)

theorem arg2_kept : finalContents condOps preI bodyI postI 64 m c (Proc.devRef .tc main_arg2) = m ((c : Thread nD τ).loc main_arg2) := by
  refine (?_ : _ = L m c (Proc.devRef .tc main_arg2)).trans
    ((L_keep m c main_arg2 (by decide) (by decide) (by decide) (by decide) (by decide) (by decide)).trans
      (W6_keep m c main_arg2 (by decide) (by decide) (by decide) (by decide) (by decide) (by decide)))
  exact post_keep (L m c) main_arg2 (by decide) (by decide) (by decide)

theorem arg3_kept : finalContents condOps preI bodyI postI 64 m c (Proc.devRef .tc main_arg3) = m ((c : Thread nD τ).loc main_arg3) := by
  refine (?_ : _ = L m c (Proc.devRef .tc main_arg3)).trans
    ((L_keep m c main_arg3 (by decide) (by decide) (by decide) (by decide) (by decide) (by decide)).trans
      (W6_keep m c main_arg3 (by decide) (by decide) (by decide) (by decide) (by decide) (by decide)))
  exact post_keep (L m c) main_arg3 (by decide) (by decide) (by decide)

theorem arg4_kept : finalContents condOps preI bodyI postI 64 m c (Proc.devRef .tc main_arg4) = m ((c : Thread nD τ).loc main_arg4) := by
  refine (?_ : _ = L m c (Proc.devRef .tc main_arg4)).trans
    ((L_keep m c main_arg4 (by decide) (by decide) (by decide) (by decide) (by decide) (by decide)).trans
      (W6_keep m c main_arg4 (by decide) (by decide) (by decide) (by decide) (by decide) (by decide)))
  exact post_keep (L m c) main_arg4 (by decide) (by decide) (by decide)

theorem arg5_kept : finalContents condOps preI bodyI postI 64 m c (Proc.devRef .tc main_arg5) = m ((c : Thread nD τ).loc main_arg5) := by
  refine (?_ : _ = L m c (Proc.devRef .tc main_arg5)).trans
    ((L_keep m c main_arg5 (by decide) (by decide) (by decide) (by decide) (by decide) (by decide)).trans
      (W6_keep m c main_arg5 (by decide) (by decide) (by decide) (by decide) (by decide) (by decide)))
  exact post_keep (L m c) main_arg5 (by decide) (by decide) (by decide)

/-- The array the reference's run ends at. -/
def outArr : FVec Ideal S65536x512 .bf16 := finalContents condOps preI bodyI postI 64 m c (Proc.devRef .tc main_v59)

theorem outArr_at (r : Fin 65536) (w : Fin 512) :
    outArr m c (ix2 r w) =
      (arrays m c).out (r.val / 64) ⟨w.val / 128, by omega⟩ ⟨r.val % 64, by omega⟩ ⟨w.val % 128, by omega⟩ :=
  result_eq m c r w

/-- The reference's run: its result at the value read off the loop, the arrays it was given unchanged. -/
theorem run_read (ρ : Dev nD → PrngReg) :
    θ_run (defs (F := Ideal)) (onTc (τ := τ) (main (F := Ideal))) ⟨m, fun _ => 0, ρ⟩ (fun r => ∀ c : Dev nD,
      r.2.mem ((c.tc : Thread nD τ).loc main_v59) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c main_v59 rfl, (h c main_arg0 rfl).trans (arg0_kept m c), (h c main_arg1 rfl).trans (arg1_kept m c), (h c main_arg2 rfl).trans (arg2_kept m c), (h c main_arg3 rfl).trans (arg3_kept m c), (h c main_arg4 rfl).trans (arg4_kept m c), (h c main_arg5 rfl).trans (arg5_kept m c)⟩)
    (run_fold m ρ)

/-- The reference's frame: no counter exists, so each is at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems rfl r.2⟩) (run_read m ρ)

end Cert.ReferenceIdeal.Value
-- ==== Proof.Top.lean ====
module
public import proofs.«01_k».proof.Defs
public import proofs.«01_k».proof.Proof.KFold
public import proofs.«01_k».proof.Proof.RFrame
@[expose] public section
set_option maxRecDepth 16384
noncomputable section
namespace Cert.Proof
open Idealize.ShloMosaic Idealize.ShloMosaic.TcCoe Idealize.SL.Sem

theorem preFacts : Cert.Pre_decays.Facts := ⟨by decide⟩

/-- The precondition, read: no logarithm of a decay is `⊤`. -/
theorem decay_ne_top [Cert.Pre_decays.Facts]
    {m : (ℓ : Loc Cert.KernelIdeal.nD Cert.KernelIdeal.τ Cert.KernelIdeal.sig) → Buf (Elt Ideal) ℓ}
    (h : Cert.Pre_KernelIdeal_decays m) (c : Dev Cert.KernelIdeal.nD) (i) :
    m ((c : Thread Cert.KernelIdeal.nD Cert.KernelIdeal.τ).loc Cert.KernelIdeal.main_arg4) i ≠ (⊤ : EReal) := by
  intro e
  have h1 := congrFun (h c) i
  have h2 : Ideal.cmp .olt (m ((c : Thread Cert.KernelIdeal.nD Cert.KernelIdeal.τ).loc Cert.KernelIdeal.main_arg4) i : EReal)
      (FloatOps.ofBits (F := Ideal) .f32 0x7F800000#32) = 1#1 := h1
  rw [e] at h2
  simp [Ideal.cmp] at h2

/-- The kernel's result and the reference's, from memories agreeing on the arrays, are one array. -/
theorem gla_values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hL : ∀ i, m ((c : Thread Cert.KernelIdeal.nD Cert.KernelIdeal.τ).loc Cert.KernelIdeal.main_arg4) i ≠ (⊤ : EReal))
    (ha : Cert.ReferenceIdeal.Value.arrays m' c = Cert.KernelIdeal.Gen.arrays m c) :
    Cert.ReferenceIdeal.Value.outArr m' c = Cert.KernelIdeal.Value.G6 m c := by
  funext i
  have hi : i = ix2 (i 0) (i 1) := by
    funext d
    match d with
    | 0 => rfl
    | 1 => rfl
  refine Eq.trans ?_ (Cert.KernelIdeal.Gen.result_eq m c hL i).symm
  rw [← ha]
  exact (congrArg _ hi).trans (Cert.ReferenceIdeal.Value.outArr_at m' c (i 0) (i 1))

theorem algebraic [Cert.Pre_decays.Facts] :
    Cert.algebraic_KernelIdeal_ReferenceIdeal_pre_decays := by
  intro m g m' g' hp hm
  refine ⟨fun c => Cert.KernelIdeal.Value.G6 m c, Cert.KernelIdeal.Value.run m g, ?_⟩
  refine (θ_run _ _ _).mono (fun r h c => ?_) (Cert.ReferenceIdeal.Value.run_read m' g')
  refine ⟨(h c).1.trans ?_, (h c).2⟩
  refine gla_values m m' c (decay_ne_top hp c) ?_
  obtain ⟨h0, h1, h2, h3, h4, h5⟩ := hm c
  unfold Cert.ReferenceIdeal.Value.arrays Cert.KernelIdeal.Gen.arrays
  congr 1

end Cert.Proof
-- ==== Proof.TPerm.lean ====
module
public import proofs.«01_k».proof.Proof.Gen.Kernel2Ideal.Frame
public import Idealize.ShloMosaic.Lib.Pipeline.ValueKit
@[expose] public section
set_option maxRecDepth 16384
noncomputable section
namespace Cert.Kernel2Ideal.Gen
open Idealize.ShloMosaic Idealize.ShloMosaic.TcCoe Idealize.ShloMosaic.Tactic
open Idealize.SL Idealize.SL.Sem
open Idealize.ShloMosaic.Pipeline (Dat Cfg Window BodyObligation cellOf)

/-- Pieces of one shape, as many as the axis needs. -/
theorem concats {α : Type} (n : ℕ) (s t : Shape) (a : Fin t.rank) (f : Fin n → (s.Idx → α))
    (h : Shape.Concatenates (List.replicate n s) t a) :
    Shape.Concatenates ((List.ofFn fun v : Fin n => (⟨s, f v⟩ : (s : Shape) × (s.Idx → α))).map (·.1)) t a := by
  have e : (List.ofFn fun v : Fin n => (⟨s, f v⟩ : (s : Shape) × (s.Idx → α))).map (·.1) = List.replicate n s := by
    simp [List.map_ofFn, Function.comp_def, List.ofFn_const]
  rw [e]; exact h

/-- Element `(r, j)` of a block, by numbers. -/
def at2 (u : FVec Ideal S512x1024 .f32) (r j : ℕ) : EReal :=
  u (ix2 (⟨r % 512, Nat.mod_lt _ (by decide)⟩ : Fin 512) (⟨j % 1024, Nat.mod_lt _ (by decide)⟩ : Fin 1024))

/-- The box of 64 rows of the plane that a segment `s` of lane block `l` is stored in. -/
def segRect (l s : ℕ) (hl : l < 8) (hs : s < 8) : Rect S8x576x128 :=
  Rect.unit ![l, 72 * s, 0] S1x64x128.size (by
    intro a; fin_cases a <;> simp [S1x64x128, S8x576x128] <;> omega)

/-- Every eighth row of the plane from row `v`, of lane block `l`. -/
def rowBox (l v : ℕ) (hl : l < 8) (hv : v < 64) : Rect S8x576x128 where
  off := ![l, v, 0]
  size := S1x8x128.size
  stride := ![1, 72, 1]
  inb := by intro a; fin_cases a <;> simp [S1x8x128, S8x576x128] <;> omega
  stride_pos := by intro a; fin_cases a <;> simp

/-- The stores that put the 512 rows into the plane by segments of 64, the last one first. -/
def segList (u : FVec Ideal S512x1024 .f32) : List (View.Piece (Elt Ideal) S8x576x128 .f32) :=
  List.ofFn fun k : Fin 64 => ⟨segRect (7 - k.val / 8) (7 - k.val % 8) (by omega) (by omega),
    shapeCast S1x64x128 (extractStridedSlice S64x128 ![64 * (7 - k.val % 8), 128 * (7 - k.val / 8)] u
      ⟨rfl, by intro a; fin_cases a <;> simp [S64x128, S512x1024] <;> omega⟩) shapeCasts_S64x128_S1x64x128⟩

variable {sg : RefSig} {κ : Kind} {sp : Space}

/-- The rows read back from the plane, eight at a time. -/
def rowsT (vw : View sg κ sp S8x576x128 .f32) (L : List (View.Piece (Elt Ideal) S8x576x128 .f32)) :
    FVec Ideal S512x1024 .f32 :=
  concatenate S512x1024 1 (List.ofFn fun l : Fin 8 => ⟨S512x128,
    concatenate S512x128 0 (List.ofFn fun v : Fin 64 => ⟨S8x128,
      shapeCast S8x128 (vw.readCov L (rowBox l.val v.val l.isLt v.isLt).toLoadRect)
        shapeCasts_S1x8x128_S8x128⟩) (concats 64 _ _ _ _ (by decide))⟩)
    (concats 8 _ _ _ _ (by decide))

theorem segRect_emb (l s : ℕ) (hl : l < 8) (hs : s < 8) (x : S1x64x128.Idx) :
    ((segRect l s hl hs).emb x 0).val = l ∧ ((segRect l s hl hs).emb x 1).val = 72 * s + (x 1).val
      ∧ ((segRect l s hl hs).emb x 2).val = (x 2).val := by
  have h0 : (x 0).val < 1 := (x 0).isLt
  exact ⟨show l + 1 * (x 0).val = l by omega, show 72 * s + 1 * (x 1).val = _ by omega,
    show 0 + 1 * (x 2).val = _ by omega⟩

theorem rowBox_emb (l v : ℕ) (hl : l < 8) (hv : v < 64) (x : S1x8x128.Idx) :
    ((rowBox l v hl hv).emb x 0).val = l ∧ ((rowBox l v hl hv).emb x 1).val = v + 72 * (x 1).val
      ∧ ((rowBox l v hl hv).emb x 2).val = (x 2).val := by
  have h0 : (x 0).val < 1 := (x 0).isLt
  exact ⟨show l + 1 * (x 0).val = l by omega, rfl, show 0 + 1 * (x 2).val = _ by omega⟩

/-- The plane after the stores by segments. -/
def planeS (u : FVec Ideal S512x1024 .f32) (y : S8x576x128.Idx) : EReal :=
  at2 u (64 * ((y 1).val / 72) + (y 1).val % 72) (128 * (y 0).val + (y 2).val)

theorem segList_agree (u : FVec Ideal S512x1024 .f32) : ∀ p ∈ segList u, ∀ x,
    p.2 x = planeS u (p.1.emb x) := by
  intro p hp
  simp only [segList, List.mem_ofFn] at hp
  obtain ⟨k, rfl⟩ := hp
  intro x
  obtain ⟨h0, h1, h2⟩ := segRect_emb (7 - k.val / 8) (7 - k.val % 8) (by omega) (by omega) x
  have b1 : (x 1).val < 64 := (x 1).isLt
  have b2 : (x 2).val < 128 := (x 2).isLt
  simp only [planeS]
  rw [h0, h1, h2]
  have e1 : (72 * (7 - k.val % 8) + (x 1).val) / 72 = 7 - k.val % 8 := by omega
  have e2 : (72 * (7 - k.val % 8) + (x 1).val) % 72 = (x 1).val := by omega
  rw [e1, e2]
  have hx : x = ix3 (n0 := 1) (n1 := 64) (n2 := 128) (x 0) (x 1) (x 2) := eq_ix3 x
  show shapeCast S1x64x128 _ _ x = _
  generalize ha : x 0 = a at hx; generalize hb : x 1 = b at *; generalize hd : x 2 = d at *
  rw [hx]
  pointwise []
  unfold at2
  congr 2 <;> ext <;> simp <;> omega

theorem canon_append (G : S8x576x128.Idx → EReal) (A B : List (View.Piece (Elt Ideal) S8x576x128 .f32))
    (h : ∀ p ∈ A, ∀ x, p.2 x = G (p.1.emb x)) (y : S8x576x128.Idx) (hy : ∃ p ∈ A, y ∈ p.1.set) :
    View.canon (A ++ B) y = G y := by
  induction A with
  | nil => obtain ⟨p, hp, _⟩ := hy; cases hp
  | cons p A ih =>
    by_cases hm : y ∈ p.1.set
    · obtain ⟨x, rfl⟩ := p.1.exists_idx_of_mem hm
      rw [List.cons_append]
      exact (View.canon_cons_emb _ _ _ _).trans (h p List.mem_cons_self x)
    · rw [List.cons_append, View.canon_cons_of_not_mem _ _ hm]
      refine ih (fun q hq => h q (List.mem_cons_of_mem _ hq)) ?_
      obtain ⟨q, hq, hyq⟩ := hy
      rcases List.mem_cons.1 hq with rfl | hq
      · exact absurd hyq hm
      · exact ⟨q, hq, hyq⟩

theorem cast8 (X : FVec Ideal S1x8x128 .f32) (a : Fin 8) (b : Fin 128) :
    shapeCast S8x128 X shapeCasts_S1x8x128_S8x128 (ix2 a b) = X (ix3 (0 : Fin 1) a b) := by
  pointwise []

theorem cast64 (X : FVec Ideal S1x64x128 .f32) (a : Fin 64) (b : Fin 128) :
    shapeCast S64x128 X shapeCasts_S1x64x128_S64x128 (ix2 a b) = X (ix3 (0 : Fin 1) a b) := by
  pointwise []

theorem rowsT_seg (vw : View sg κ sp S8x576x128 .f32) (u : FVec Ideal S512x1024 .f32) (r : Fin 512) (q : Fin 1024) :
    rowsT vw (segList u) (ix2 r q) = at2 u (64 * (r.val % 8) + r.val / 8) q.val := by
  unfold rowsT
  refine (concatenate_ofFn_apply (s₁ := S512x128) (1 : Fin S512x1024.rank) _ _ rfl 128 rfl (ix2 r q) ⟨q.val / 128, by omega⟩ rfl
    (ix2 r (⟨q.val % 128, by omega⟩ : Fin 128)) rfl (by intro b hb; fin_cases b; rfl; exact absurd rfl hb)).trans ?_
  refine (concatenate_ofFn_apply (s₁ := S8x128) (0 : Fin S512x128.rank) _ _ rfl 8 rfl _ ⟨r.val / 8, by omega⟩ rfl
    (ix2 (⟨r.val % 8, by omega⟩ : Fin 8) (⟨q.val % 128, by omega⟩ : Fin 128)) rfl (by intro b hb; fin_cases b; exact absurd rfl hb; rfl)).trans ?_
  refine (cast8 _ _ _).trans ?_
  rw [View.readCov_eq_canon']
  obtain ⟨h0, h1, h2⟩ := rowBox_emb (q.val / 128) (r.val / 8) (by omega) (by omega)
    (ix3 (0 : Fin 1) (⟨r.val % 8, by omega⟩ : Fin 8) (⟨q.val % 128, by omega⟩ : Fin 128))
  refine (View.canon_apply_of_pieces (planeS u) (segList u) (segList_agree u) _ ?_).trans ?_
  · refine ⟨_, List.mem_ofFn.2 ⟨⟨8 * (7 - q.val / 128) + (7 - r.val % 8), by omega⟩, rfl⟩, ?_⟩
    rw [LoadRect.mem_set]
    intro a
    fin_cases a
    · exact ⟨0, Nat.one_pos, by refine h0.trans ?_; simp [segRect]; omega⟩
    · exact ⟨r.val / 8, by show _ < 64; omega, by refine h1.trans ?_; simp [segRect]; omega⟩
    · exact ⟨q.val % 128, by show _ < 128; omega, by refine h2.trans ?_; simp [segRect]⟩
  · show at2 u (64 * (((rowBox _ _ _ _).emb _ 1).val / 72) + ((rowBox _ _ _ _).emb _ 1).val % 72) (128 * ((rowBox _ _ _ _).emb _ 0).val + ((rowBox _ _ _ _).emb _ 2).val) = _
    rw [h0, h1, h2]
    show at2 u (64 * ((r.val / 8 + 72 * (r.val % 8)) / 72) + (r.val / 8 + 72 * (r.val % 8)) % 72) (128 * (q.val / 128) + q.val % 128) = _
    congr 1 <;> omega

/-- The stores that put eight rows at a time into the plane, the last one first. -/
def rowList (u : FVec Ideal S512x1024 .f32) : List (View.Piece (Elt Ideal) S8x576x128 .f32) :=
  List.ofFn fun k : Fin 512 => ⟨rowBox (7 - k.val / 64) (63 - k.val % 64) (by omega) (by omega),
    shapeCast S1x8x128 (extractStridedSlice S8x128 ![8 * (63 - k.val % 64), 128 * (7 - k.val / 64)] u
      ⟨rfl, by intro a; fin_cases a <;> simp [S8x128, S512x1024] <;> omega⟩) shapeCasts_S8x128_S1x8x128⟩

/-- The rows read back from the plane by segments of 64. -/
def segsT (vw : View sg κ sp S8x576x128 .f32) (L : List (View.Piece (Elt Ideal) S8x576x128 .f32)) :
    FVec Ideal S512x1024 .f32 :=
  concatenate S512x1024 1 (List.ofFn fun l : Fin 8 => ⟨S512x128,
    concatenate S512x128 0 (List.ofFn fun v : Fin 8 => ⟨S64x128,
      shapeCast S64x128 (vw.readCov L (segRect l.val v.val l.isLt v.isLt).toLoadRect)
        shapeCasts_S1x64x128_S64x128⟩) (concats 8 _ _ _ _ (by decide))⟩)
    (concats 8 _ _ _ _ (by decide))

/-- The plane after the stores by rows. -/
def planeR (u : FVec Ideal S512x1024 .f32) (y : S8x576x128.Idx) : EReal :=
  at2 u (8 * ((y 1).val % 72) + (y 1).val / 72) (128 * (y 0).val + (y 2).val)

theorem rowList_agree (u : FVec Ideal S512x1024 .f32) : ∀ p ∈ rowList u, ∀ x,
    p.2 x = planeR u (p.1.emb x) := by
  intro p hp
  simp only [rowList, List.mem_ofFn] at hp
  obtain ⟨k, rfl⟩ := hp
  intro x
  obtain ⟨h0, h1, h2⟩ := rowBox_emb (7 - k.val / 64) (63 - k.val % 64) (by omega) (by omega) x
  have b1 : (x 1).val < 8 := (x 1).isLt
  have b2 : (x 2).val < 128 := (x 2).isLt
  simp only [planeR]
  rw [h0, h1, h2]
  have e1 : (63 - k.val % 64 + 72 * (x 1).val) / 72 = (x 1).val := by omega
  have e2 : (63 - k.val % 64 + 72 * (x 1).val) % 72 = 63 - k.val % 64 := by omega
  rw [e1, e2]
  have hx : x = ix3 (n0 := 1) (n1 := 8) (n2 := 128) (x 0) (x 1) (x 2) := eq_ix3 x
  show shapeCast S1x8x128 _ _ x = _
  generalize ha : x 0 = a at hx; generalize hb : x 1 = b at *; generalize hd : x 2 = d at *
  rw [hx]
  pointwise []
  unfold at2
  congr 2 <;> ext <;> simp <;> omega

theorem segsT_row (vw : View sg κ sp S8x576x128 .f32) (u : FVec Ideal S512x1024 .f32)
    (B : List (View.Piece (Elt Ideal) S8x576x128 .f32)) (r : Fin 512) (q : Fin 1024) :
    segsT vw (rowList u ++ B) (ix2 r q) = at2 u (8 * (r.val % 64) + r.val / 64) q.val := by
  unfold segsT
  refine (concatenate_ofFn_apply (s₁ := S512x128) (1 : Fin S512x1024.rank) _ _ rfl 128 rfl (ix2 r q) ⟨q.val / 128, by omega⟩ rfl
    (ix2 r (⟨q.val % 128, by omega⟩ : Fin 128)) rfl (by intro b hb; fin_cases b; rfl; exact absurd rfl hb)).trans ?_
  refine (concatenate_ofFn_apply (s₁ := S64x128) (0 : Fin S512x128.rank) _ _ rfl 64 rfl _ ⟨r.val / 64, by omega⟩ rfl
    (ix2 (⟨r.val % 64, by omega⟩ : Fin 64) (⟨q.val % 128, by omega⟩ : Fin 128)) rfl (by intro b hb; fin_cases b; exact absurd rfl hb; rfl)).trans ?_
  refine (cast64 _ _ _).trans ?_
  rw [View.readCov_eq_canon']
  obtain ⟨h0, h1, h2⟩ := segRect_emb (q.val / 128) (r.val / 64) (by omega) (by omega)
    (ix3 (0 : Fin 1) (⟨r.val % 64, by omega⟩ : Fin 64) (⟨q.val % 128, by omega⟩ : Fin 128))
  refine (canon_append (planeR u) (rowList u) B (rowList_agree u) _ ?_).trans ?_
  · refine ⟨_, List.mem_ofFn.2 ⟨⟨64 * (7 - q.val / 128) + (63 - r.val % 64), by omega⟩, rfl⟩, ?_⟩
    rw [LoadRect.mem_set]
    intro a
    fin_cases a
    · exact ⟨0, Nat.one_pos, by refine h0.trans ?_; simp [rowBox]; omega⟩
    · exact ⟨r.val / 64, by show _ < 8; omega, by refine h1.trans ?_; simp [rowBox]; omega⟩
    · exact ⟨q.val % 128, by show _ < 128; omega, by refine h2.trans ?_; simp [rowBox]⟩
  · show at2 u (8 * (((segRect _ _ _ _).emb _ 1).val % 72) + ((segRect _ _ _ _).emb _ 1).val / 72) (128 * ((segRect _ _ _ _).emb _ 0).val + ((segRect _ _ _ _).emb _ 2).val) = _
    rw [h0, h1, h2]
    show at2 u (8 * ((72 * (r.val / 64) + r.val % 64) % 72) + (72 * (r.val / 64) + r.val % 64) / 72) (128 * (q.val / 128) + q.val % 128) = _
    congr 1 <;> omega

end Cert.Kernel2Ideal.Gen
end
-- ==== Proof.Gelu.lean ====
module
public import Idealize.ShloMosaic.PureOps.Ideal
public import Idealize.ShloMosaic.Lib.Pointwise
public import Mathlib.Analysis.SpecialFunctions.Trigonometric.DerivHyp
@[expose] public section
set_option maxRecDepth 16384
noncomputable section
namespace Cert.Tail
open Idealize.ShloMosaic

/-- The two constants of the tanh form: the root and the cube's coefficient. -/
def cR : ℝ := 13386282 / 2 ^ 24
def dR : ℝ := 12003091 / 2 ^ 28

theorem cR_pos : 0 < cR := by unfold cR; norm_num
theorem dR_pos : 0 < dR := by unfold dR; norm_num

theorem word_c : Ideal.ofBits FTy.f32 0x3F4C422A#32 = ((cR : ℝ) : EReal) := by
  simp [Ideal.ofBits, Ideal.ieee, cR, -EReal.coe_mul]; norm_num
theorem word_d : Ideal.ofBits FTy.f32 0x3D372713#32 = ((dR : ℝ) : EReal) := by
  simp [Ideal.ofBits, Ideal.ieee, dR, -EReal.coe_mul]; norm_num
theorem word_a : Ideal.ofBits FTy.f32 0x3FCC422A#32 = ((2 * cR : ℝ) : EReal) := by
  simp [Ideal.ofBits, Ideal.ieee, cR, -EReal.coe_mul]; norm_num
theorem word_one : Ideal.ofBits FTy.f32 0x3F800000#32 = ((1 : ℝ) : EReal) := by
  simp [Ideal.ofBits, Ideal.ieee, -EReal.coe_mul]; norm_num
theorem word_half : Ideal.ofBits FTy.f32 0x3F000000#32 = ((1 / 2 : ℝ) : EReal) := by
  simp [Ideal.ofBits, Ideal.ieee, -EReal.coe_mul]; norm_num

/-- The gelu as the reference writes it, over the reals. -/
theorem gelu_real (g y : ℝ) : g * (1 / 2 * (1 + Real.tanh y)) = g / (1 + Real.exp (-(2 * y))) := by
  have h1 : Real.exp y ≠ 0 := (Real.exp_pos y).ne'
  have h3 : Real.exp y + (Real.exp y)⁻¹ ≠ 0 := by positivity
  have h2 : Real.exp (-(2 * y)) = (Real.exp y)⁻¹ * (Real.exp y)⁻¹ := by
    rw [← Real.exp_neg, ← Real.exp_add]; congr 1; ring
  have h4 : (1 : ℝ) + (Real.exp y)⁻¹ * (Real.exp y)⁻¹ ≠ 0 := by positivity
  rw [Real.tanh_eq_sinh_div_cosh, Real.sinh_eq, Real.cosh_eq, h2, Real.exp_neg]
  field_simp
  ring

/-- The reference's gelu. -/
def geluR (g : EReal) : EReal :=
  g * (((1 / 2 : ℝ) : EReal) * (((1 : ℝ) : EReal) + Ideal.tanh (((cR : ℝ) : EReal) * (g + ((dR : ℝ) : EReal) * (g * g * g)))))

/-- The kernel's. -/
def geluK (g : EReal) : EReal :=
  Ideal.div g (((1 : ℝ) : EReal) + Ideal.exp (-(g * (((2 * cR : ℝ) : EReal) + ((2 * cR * dR : ℝ) : EReal) * (g * g)))))

theorem geluK_eq (g : EReal) : geluK g = geluR g := by
  unfold geluK geluR
  have hc := cR_pos
  have hd := dR_pos
  have hcd : 0 < 2 * cR * dR := by positivity
  induction g using EReal.rec with
  | bot =>
    have e1 : ((2 * cR * dR : ℝ) : EReal) * (⊥ * ⊥) = ⊤ := by
      rw [EReal.bot_mul_bot, EReal.coe_mul_top_of_pos hcd]
    have e2 : ((dR : ℝ) : EReal) * (⊥ * ⊥ * ⊥) = ⊥ := by
      rw [EReal.bot_mul_bot, EReal.top_mul_bot, EReal.coe_mul_bot_of_pos hd]
    rw [e1, e2, EReal.coe_add_top, EReal.bot_mul_top, EReal.bot_add, EReal.coe_mul_bot_of_pos hc, EReal.neg_bot]
    show Ideal.div ⊥ (((1 : ℝ) : EReal) + ⊤) = ⊥ * (((1 / 2 : ℝ) : EReal) * (((1 : ℝ) : EReal) + (-1)))
    have e3 : (((1 : ℝ) : EReal) + (-1)) = 0 := by
      rw [show (-1 : EReal) = ((-1 : ℝ) : EReal) by simp, ← EReal.coe_add]; norm_num
    rw [e3, mul_zero, mul_zero, EReal.coe_add_top]
    simp [Ideal.div]
  | top =>
    have e1 : ((2 * cR * dR : ℝ) : EReal) * (⊤ * ⊤) = ⊤ := by
      rw [EReal.top_mul_top, EReal.coe_mul_top_of_pos hcd]
    have e2 : ((dR : ℝ) : EReal) * (⊤ * ⊤ * ⊤) = ⊤ := by
      rw [EReal.top_mul_top, EReal.top_mul_top, EReal.coe_mul_top_of_pos hd]
    rw [e1, e2, EReal.coe_add_top, EReal.top_mul_top, EReal.top_add_top, EReal.coe_mul_top_of_pos hc, EReal.neg_top]
    show Ideal.div ⊤ (((1 : ℝ) : EReal) + 0) = ⊤ * (((1 / 2 : ℝ) : EReal) * (((1 : ℝ) : EReal) + 1))
    have e3 : ((1 / 2 : ℝ) : EReal) * (((1 : ℝ) : EReal) + 1) = 1 := by
      rw [show (1 : EReal) = ((1 : ℝ) : EReal) by simp, ← EReal.coe_add, ← EReal.coe_mul]; norm_num
    rw [e3]
    simp [Ideal.div]
  | coe g =>
    have p : (1 : ℝ) + Real.exp (-(g * (2 * cR + 2 * cR * dR * (g * g)))) ≠ 0 := by positivity
    simp only [← EReal.coe_mul, ← EReal.coe_add, ← EReal.coe_neg]
    show Ideal.div ((g : ℝ) : EReal) (((1 : ℝ) : EReal) + ((Real.exp (-(g * (2 * cR + 2 * cR * dR * (g * g)))) : ℝ) : EReal)) =
      (g : EReal) * (((1 / 2 : ℝ) : EReal) * (((1 : ℝ) : EReal) + ((Real.tanh (cR * (g + dR * (g * g * g))) : ℝ) : EReal)))
    simp only [← EReal.coe_mul, ← EReal.coe_add]
    unfold Ideal.div
    rw [if_neg (by exact_mod_cast p), ← EReal.coe_inv, ← EReal.coe_mul, gelu_real, div_eq_mul_inv]
    congr 4
    ring_nf

end Cert.Tail
-- ==== Proof.Tail.lean ====
module
public import proofs.«01_k».proof.Proof.Gelu
@[expose] public section
set_option maxRecDepth 16384
noncomputable section
namespace Cert.Tail
open Idealize.ShloMosaic

/-- A row normed by its root mean square and scaled. -/
def rmsRow (h g : Fin 1024 → EReal) (j : Fin 1024) : EReal :=
  h j * Ideal.rsqrt (Ideal.div (∑ y : Fin 1024, h y * h y) (Ideal.ofBits FTy.f32 0x44800000#32) +
    Ideal.ofBits FTy.f32 0x358637BD#32) * g j

/-- The layer's weights after the two mixers. -/
structure Weights where
  wo : Fin 1024 → Fin 1024 → EReal
  nf : Fin 1024 → EReal
  wu : Fin 1024 → Fin 5632 → EReal
  cw : Fin 3 → Fin 5632 → EReal
  cb : Fin 5632 → EReal
  wd : Fin 2816 → Fin 1024 → EReal
  npl : Fin 1024 → EReal
  wpg : Fin 1024 → Fin 1024 → EReal
  wpp : Fin 256 → Fin 1024 → EReal
  nfin : Fin 1024 → EReal

variable (W : Weights)

/-- The mixers' outputs projected and added to the row. -/
def Weights.h1 (x : Fin 1024 → EReal) (og od : Fin 512 → EReal) (j : Fin 1024) : EReal :=
  x j + ((∑ k : Fin 512, og k * W.wo ⟨k.val, by omega⟩ j) + ∑ k : Fin 512, od k * W.wo ⟨512 + k.val, by omega⟩ j)

/-- A row's up projection. -/
def Weights.up (h : Fin 1024 → EReal) (f : Fin 5632) : EReal := ∑ k : Fin 1024, rmsRow h W.nf k * W.wu k f

/-- The three-tap convolution over a row and the two before it. -/
def Weights.conv (z2 z1 z0 : Fin 5632 → EReal) (f : Fin 5632) : EReal :=
  W.cb f + ((z2 f * W.cw 0 f + z1 f * W.cw 1 f) + z0 f * W.cw 2 f)

/-- The gated feed-forward channel. -/
def act (cv : Fin 5632 → EReal) (f : Fin 2816) : EReal :=
  geluR (cv ⟨f.val, by omega⟩) * cv ⟨2816 + f.val, by omega⟩

/-- The feed-forward added. -/
def Weights.h2 (h : Fin 1024 → EReal) (cv : Fin 5632 → EReal) (j : Fin 1024) : EReal :=
  h j + ∑ f : Fin 2816, act cv f * W.wd f j

/-- The gated embedding added. -/
def Weights.h3 (h : Fin 1024 → EReal) (p : Fin 256 → EReal) (j : Fin 1024) : EReal :=
  h j + Ideal.logistic (∑ k : Fin 1024, rmsRow h W.npl k * W.wpg k j) * ∑ k : Fin 256, p k * W.wpp k j

/-- A row's result, from its hidden row, the three up projections and its embedding. -/
def Weights.fin (h : Fin 1024 → EReal) (z2 z1 z0 : Fin 5632 → EReal) (p : Fin 256 → EReal) (j : Fin 1024) : EReal :=
  rmsRow (W.h3 (W.h2 h (W.conv z2 z1 z0)) p) W.nfin j

/-- The rows' data. -/
structure Rows where
  x : Fin 65536 → Fin 1024 → EReal
  og : Fin 65536 → Fin 512 → EReal
  od : Fin 65536 → Fin 512 → EReal
  p : Fin 65536 → Fin 256 → EReal

variable (R : Rows)

def hid (r : Fin 65536) : Fin 1024 → EReal := W.h1 (R.x r) (R.og r) (R.od r)

/-- The up projection of the row `k` before `r` in its sequence of 4096, zero before the first. -/
def zback (k : ℕ) (r : Fin 65536) (f : Fin 5632) : EReal :=
  if r.val % 4096 < k then 0 else W.up (hid W R ⟨r.val - k, by omega⟩) f

/-- What the layer's tail leaves. -/
def out (r : Fin 65536) : Fin 1024 → EReal :=
  W.fin (hid W R r) (zback W R 2 r) (zback W R 1 r) (zback W R 0 r) (R.p r)

end Cert.Tail
-- ==== Proof.TChunk.lean ====
module
public import proofs.«01_k».proof.Proof.TPerm
public import proofs.«01_k».proof.Proof.Tail
@[expose] public section
set_option maxRecDepth 16384
noncomputable section
namespace Cert.Kernel2Ideal.Gen
open Idealize.ShloMosaic Idealize.ShloMosaic.TcCoe Idealize.ShloMosaic.Tactic
open Idealize.SL Idealize.SL.Sem
open Idealize.ShloMosaic.Pipeline (Dat Cfg Window BodyObligation cellOf)

/-- 256 columns of the up-projection. -/
def zdot (u : FVec Ideal S512x1024 .bf16) (a : FVec Ideal S1024x256 .bf16) : FVec Ideal S512x256 .f32 :=
  matmul dot_S512x1024_S1024x256_S512x256_1_0_0_1_n_n none u
    (shapeCast S1024x256 a shapeCasts_S1024x256_S1024x256) (constant S512x256 FTy.f32 0x00000000#32)

/-- A chunk of the up-projection: its 256 gate columns and its 256 value columns side by side. -/
def zT (u : FVec Ideal S512x1024 .bf16) (a b : Vec Ideal S1024x256 .bf16) : FVec Ideal S512x512 .f32 :=
  concatenate S512x512 1
    [⟨S512x256, (zdot u a : FVec Ideal S512x256 .f32)⟩,
     ⟨S512x256, (zdot u b : FVec Ideal S512x256 .f32)⟩]
    concatenates_S512x256_S512x256_S512x512_d1

/-- Eight rows shifted by one segment, the first one taken from the tile before. -/
def wrapT (last prev : FVec Ideal S8x512 .f32) : FVec Ideal S8x512 .f32 :=
  dynamicRotate 0 (1#32) none
    (select (cmpi .eq (iota Kind.tc S8x512 32 [0] iota_S8x512_d0_w32) (broadcast S8x512 7#32)) prev last)
    rotates_S8x512_d0

/-- The rows one position earlier. -/
def s1T (z : FVec Ideal S512x512 .f32) (p : FVec Ideal S16x512 .f32) : FVec Ideal S512x512 .f32 :=
  concatenate S512x512 0
    [⟨S8x512, wrapT (extractStridedSlice S8x512 ![504, 0] z slices_S512x512_o504_0_S8x512)
        (extractStridedSlice S8x512 ![8, 0] p slices_S16x512_o8_0_S8x512)⟩,
     ⟨S504x512, extractStridedSlice S504x512 ![0, 0] z slices_S512x512_o0_0_S504x512⟩]
    concatenates_S8x512_S504x512_S512x512_d0

/-- The rows two positions earlier. -/
def s2T (z : FVec Ideal S512x512 .f32) (p : FVec Ideal S16x512 .f32) : FVec Ideal S512x512 .f32 :=
  concatenate S512x512 0
    [⟨S8x512, wrapT (extractStridedSlice S8x512 ![496, 0] z slices_S512x512_o496_0_S8x512)
        (extractStridedSlice S8x512 ![0, 0] p slices_S16x512_o0_0_S8x512)⟩,
     ⟨S8x512, wrapT (extractStridedSlice S8x512 ![504, 0] z slices_S512x512_o504_0_S8x512)
        (extractStridedSlice S8x512 ![8, 0] p slices_S16x512_o8_0_S8x512)⟩,
     ⟨S496x512, extractStridedSlice S496x512 ![0, 0] z slices_S512x512_o0_0_S496x512⟩]
    concatenates_S8x512_S8x512_S496x512_S512x512_d0

/-- The convolution over three positions. -/
def cvT (z s1 s2 : FVec Ideal S512x512 .f32) (ca cb : Vec Ideal S3x256 .f32) (ba bb : Vec Ideal S1x256 .f32) :
    FVec Ideal S512x512 .f32 :=
  let cw : FVec Ideal S3x512 .f32 := concatenate S3x512 1
    [⟨S3x256, shapeCast S3x256 ca shapeCasts_S3x256_S3x256⟩, ⟨S3x256, shapeCast S3x256 cb shapeCasts_S3x256_S3x256⟩]
    concatenates_S3x256_S3x256_S3x512_d1
  let cb : FVec Ideal S1x512 .f32 := concatenate S1x512 1
    [⟨S1x256, shapeCast S1x256 ba shapeCasts_S1x256_S1x256⟩, ⟨S1x256, shapeCast S1x256 bb shapeCasts_S1x256_S1x256⟩]
    concatenates_S1x256_S1x256_S1x512_d1
  addf (addf (addf (broadcastTo S512x512 cb broadcasts_S1x512_S512x512)
      (mulf s2 (broadcastTo S512x512 (extractStridedSlice S1x512 ![0, 0] cw slices_S3x512_o0_0_S1x512) broadcasts_S1x512_S512x512)))
      (mulf s1 (broadcastTo S512x512 (extractStridedSlice S1x512 ![1, 0] cw slices_S3x512_o1_0_S1x512) broadcasts_S1x512_S512x512)))
      (mulf z (broadcastTo S512x512 (extractStridedSlice S1x512 ![2, 0] cw slices_S3x512_o2_0_S1x512) broadcasts_S1x512_S512x512))

/-- The gated activation of a convolved chunk. -/
def actT (cv : FVec Ideal S512x512 .f32) : FVec Ideal S512x256 .bf16 :=
  let g : FVec Ideal S512x256 .f32 := extractStridedSlice S512x256 ![0, 0] cv slices_S512x512_o0_0_S512x256
  shapeCast S512x256 (truncf .bf16 (mulf
    (divf g (addf (broadcast S512x256 (Scalar.ofBits .f32 0x3F800000#32 : Ideal .f32))
      (exp (subf (broadcast S512x256 (Scalar.ofBits .f32 0x00000000#32 : Ideal .f32))
        (mulf g (addf (broadcast S512x256 (Scalar.ofBits .f32 0x3FCC422A#32 : Ideal .f32))
          (mulf (broadcast S512x256 (Named.named κ "gelu_b" 0x3D922279#32 : Ideal .f32)) (mulf g g))))))))
    (extractStridedSlice S512x256 ![0, 256] cv slices_S512x512_o0_256_S512x256)) bitsLt_bf16_f32)
    shapeCasts_S512x256_S512x256

theorem zdot_at (u : FVec Ideal S512x1024 .bf16) (a : FVec Ideal S1024x256 .bf16) (r : Fin 512) (f : Fin 256) :
    (zdot u a (ix2 r f) : EReal) = ∑ k : Fin 1024, HMul.hMul (α := EReal) (u (ix2 r k)) (a (ix2 k f)) := by
  unfold zdot; pointwise []

theorem zT_lo (u : FVec Ideal S512x1024 .bf16) (a b : Vec Ideal S1024x256 .bf16) (r : Fin 512) (f : Fin 256) :
    (zT u a b (ix2 r (⟨f.val, by omega⟩ : Fin 512)) : EReal) = ∑ k : Fin 1024, HMul.hMul (α := EReal) (u (ix2 r k)) (a (ix2 k f)) := by
  unfold zT; rw [← zdot_at]; generalize zdot u a = A; generalize zdot u b = B; pointwise []

theorem zT_hi (u : FVec Ideal S512x1024 .bf16) (a b : Vec Ideal S1024x256 .bf16) (r : Fin 512) (f : Fin 256) :
    (zT u a b (ix2 r (⟨256 + f.val, by omega⟩ : Fin 512)) : EReal) = ∑ k : Fin 1024, HMul.hMul (α := EReal) (u (ix2 r k)) (b (ix2 k f)) := by
  unfold zT; rw [← zdot_at]; generalize zdot u a = A; generalize zdot u b = B; pointwise []

theorem rot_eq : ∀ r : Fin 8, IntOp.cmpi CmpIPredicate.eq (BitVec.ofNat 32 ((r.val + 8 - 1) % 8)) 7#32 = if r.val = 0 then 1#1 else 0#1 := by
  decide

theorem wrapT_at (l p : FVec Ideal S8x512 .f32) (r : Fin 8) (f : Fin 512) :
    (wrapT l p (ix2 r f) : EReal) = if r.val = 0 then p (ix2 (7 : Fin 8) f) else l (ix2 (⟨r.val - 1, by omega⟩ : Fin 8) f) := by
  unfold wrapT; pointwise []
  rw [rot_eq]
  by_cases h : r.val = 0
  · rw [if_pos h, if_pos h]
    have e : (⟨(r.val + 8 - 1) % 8, by omega⟩ : Fin 8) = 7 := by apply Fin.ext; simp [h]
    rw [e]; rfl
  · rw [if_neg h, if_neg h]
    have e : (⟨(r.val + 8 - 1) % 8, by omega⟩ : Fin 8) = ⟨r.val - 1, by omega⟩ := by apply Fin.ext; simp; omega
    rw [e]; rfl

/-- Row `r`, column `f` of a chunk, by numbers. -/
def at5 (z : FVec Ideal S512x512 .f32) (r : ℕ) (f : Fin 512) : EReal :=
  z (ix2 (⟨r % 512, Nat.mod_lt _ (by decide)⟩ : Fin 512) f)

theorem wrap1_at (z : FVec Ideal S512x512 .f32) (p : FVec Ideal S16x512 .f32) (r : Fin 8) (f : Fin 512) :
    (wrapT (extractStridedSlice S8x512 ![504, 0] z slices_S512x512_o504_0_S8x512)
        (extractStridedSlice S8x512 ![8, 0] p slices_S16x512_o8_0_S8x512) (ix2 r f) : EReal) =
      if r.val = 0 then p (ix2 (15 : Fin 16) f) else at5 z (r.val + 503) f := by
  rw [wrapT_at]
  pointwise []
  by_cases h : r.val = 0
  · rw [if_pos h, if_pos h]
  · rw [if_neg h, if_neg h]
    unfold at5
    congr 2
    ext; simp; omega

theorem wrap2_at (z : FVec Ideal S512x512 .f32) (p : FVec Ideal S16x512 .f32) (r : Fin 8) (f : Fin 512) :
    (wrapT (extractStridedSlice S8x512 ![496, 0] z slices_S512x512_o496_0_S8x512)
        (extractStridedSlice S8x512 ![0, 0] p slices_S16x512_o0_0_S8x512) (ix2 r f) : EReal) =
      if r.val = 0 then p (ix2 (7 : Fin 16) f) else at5 z (r.val + 495) f := by
  rw [wrapT_at]
  pointwise []
  by_cases h : r.val = 0
  · rw [if_pos h, if_pos h]
  · rw [if_neg h, if_neg h]
    unfold at5
    congr 2
    ext; simp; omega

theorem cat2_at (A : FVec Ideal S8x512 .f32) (C : FVec Ideal S504x512 .f32) (r : Fin 512) (f : Fin 512) :
    (concatenate S512x512 0 [⟨S8x512, A⟩, ⟨S504x512, C⟩] concatenates_S8x512_S504x512_S512x512_d0 (ix2 r f) : EReal) =
      if h : r.val < 8 then A (ix2 (⟨r.val, h⟩ : Fin 8) f) else C (ix2 (⟨r.val - 8, by omega⟩ : Fin 504) f) := by
  pointwise []

theorem cat3_at (A B : FVec Ideal S8x512 .f32) (C : FVec Ideal S496x512 .f32) (r : Fin 512) (f : Fin 512) :
    (concatenate S512x512 0 [⟨S8x512, A⟩, ⟨S8x512, B⟩, ⟨S496x512, C⟩] concatenates_S8x512_S8x512_S496x512_S512x512_d0 (ix2 r f) : EReal) =
      if h : r.val < 8 then A (ix2 (⟨r.val, h⟩ : Fin 8) f) else if h : r.val < 16 then B (ix2 (⟨r.val - 8, by omega⟩ : Fin 8) f)
        else C (ix2 (⟨r.val - 16, by omega⟩ : Fin 496) f) := by
  by_cases h : r.val < 8
  · pointwise [h]
  · by_cases h' : r.val < 16
    · have h2 : r.val - 8 < 8 := by omega
      pointwise [h, h', h2]
    · have h2 : ¬ r.val - 8 < 8 := by omega
      pointwise [h, h', h2]
      congr 2

theorem s1T_at (z : FVec Ideal S512x512 .f32) (p : FVec Ideal S16x512 .f32) (r : Fin 512) (f : Fin 512) :
    (s1T z p (ix2 r f) : EReal) = if r.val = 0 then p (ix2 (15 : Fin 16) f) else if r.val < 8 then at5 z (r.val + 503) f
      else at5 z (r.val - 8) f := by
  unfold s1T
  rw [cat2_at]
  by_cases h : r.val < 8
  · rw [dif_pos h, if_pos h, wrap1_at]
  · rw [dif_neg h, if_neg h, if_neg (by omega)]
    pointwise []
    unfold at5
    congr 2
    ext; simp; omega

theorem s2T_at (z : FVec Ideal S512x512 .f32) (p : FVec Ideal S16x512 .f32) (r : Fin 512) (f : Fin 512) :
    (s2T z p (ix2 r f) : EReal) = if r.val = 0 then p (ix2 (7 : Fin 16) f) else if r.val < 8 then at5 z (r.val + 495) f
      else if r.val = 8 then p (ix2 (15 : Fin 16) f) else if r.val < 16 then at5 z (r.val + 495) f else at5 z (r.val - 16) f := by
  unfold s2T
  rw [cat3_at]
  by_cases h : r.val < 8
  · rw [dif_pos h, if_pos h, wrap2_at]
  · rw [dif_neg h, if_neg (by omega : ¬ r.val = 0), if_neg h]
    by_cases h' : r.val < 16
    · rw [dif_pos h', if_pos h', wrap1_at]
      have e : r.val - 8 + 503 = r.val + 495 := by omega
      by_cases h8 : r.val = 8
      · rw [if_pos h8, if_pos (by simp [h8])]
      · rw [if_neg h8, if_neg (by simp; omega)]
        show at5 z (r.val - 8 + 503) f = _
        rw [e]
    · rw [dif_neg h', if_neg h', if_neg (by omega)]
      pointwise []
      unfold at5
      congr 2
      ext; simp; omega

theorem cvT_lo (z s1 s2 : FVec Ideal S512x512 .f32) (ca cb : Vec Ideal S3x256 .f32) (ba bb : Vec Ideal S1x256 .f32) (r : Fin 512) (f : Fin 256) :
    (cvT z s1 s2 ca cb ba bb (ix2 r (⟨f.val, by omega⟩ : Fin 512)) : EReal) =
      HAdd.hAdd (α := EReal) (HAdd.hAdd (α := EReal) (HAdd.hAdd (α := EReal) (ba (ix2 (0 : Fin 1) f))
      (HMul.hMul (α := EReal) (s2 (ix2 r (⟨f.val, by omega⟩ : Fin 512))) (ca (ix2 (0 : Fin 3) f))))
      (HMul.hMul (α := EReal) (s1 (ix2 r (⟨f.val, by omega⟩ : Fin 512))) (ca (ix2 (1 : Fin 3) f))))
      (HMul.hMul (α := EReal) (z (ix2 r (⟨f.val, by omega⟩ : Fin 512))) (ca (ix2 (2 : Fin 3) f))) := by
  unfold cvT; pointwise []

theorem cvT_hi (z s1 s2 : FVec Ideal S512x512 .f32) (ca cb : Vec Ideal S3x256 .f32) (ba bb : Vec Ideal S1x256 .f32) (r : Fin 512) (f : Fin 256) :
    (cvT z s1 s2 ca cb ba bb (ix2 r (⟨256 + f.val, by omega⟩ : Fin 512)) : EReal) =
      HAdd.hAdd (α := EReal) (HAdd.hAdd (α := EReal) (HAdd.hAdd (α := EReal) (bb (ix2 (0 : Fin 1) f))
      (HMul.hMul (α := EReal) (s2 (ix2 r (⟨256 + f.val, by omega⟩ : Fin 512))) (cb (ix2 (0 : Fin 3) f))))
      (HMul.hMul (α := EReal) (s1 (ix2 r (⟨256 + f.val, by omega⟩ : Fin 512))) (cb (ix2 (1 : Fin 3) f))))
      (HMul.hMul (α := EReal) (z (ix2 r (⟨256 + f.val, by omega⟩ : Fin 512))) (cb (ix2 (2 : Fin 3) f))) := by
  unfold cvT; pointwise []

theorem gelu_b : (Named.named κ "gelu_b" 0x3D922279#32 : Ideal .f32) = ((2 * Cert.Tail.cR * Cert.Tail.dR : ℝ) : EReal) := by
  refine (IdealRules.named_const.ideal_named_scalar κ "gelu_b" 0x3D922279#32 _ rfl).trans ?_
  refine congrArg (fun r : ℝ => (r : EReal)) ?_
  unfold Cert.Tail.cR Cert.Tail.dR
  norm_num

theorem actT_at (cv : FVec Ideal S512x512 .f32) (r : Fin 512) (f : Fin 256) :
    (actT cv (ix2 r f) : EReal) = Cert.Tail.geluR (cv (ix2 r (⟨f.val, by omega⟩ : Fin 512)))
      * cv (ix2 r (⟨256 + f.val, by omega⟩ : Fin 512)) := by
  rw [← Cert.Tail.geluK_eq]
  unfold actT Cert.Tail.geluK; pointwise []
  rw [gelu_b, Cert.Tail.word_a, zero_sub]
  rfl

end Cert.Kernel2Ideal.Gen
end
-- ==== Proof.TEnd.lean ====
module
public import proofs.«01_k».proof.Proof.TPerm
public import proofs.«01_k».proof.Proof.Tail
@[expose] public section
set_option maxRecDepth 16384
noncomputable section
namespace Cert.Kernel2Ideal.Gen
open Idealize.ShloMosaic Idealize.ShloMosaic.TcCoe Idealize.ShloMosaic.Tactic
open Idealize.SL Idealize.SL.Sem Cert.Tail
open Idealize.ShloMosaic.Pipeline (Dat Cfg Window BodyObligation cellOf)

/-- The hidden rows of a tile. -/
def hT (x : FVec Ideal S512x1024 .f32) (og od : FVec Ideal S512x512 .bf16) (wa wb : FVec Ideal S512x1024 .bf16) :
    FVec Ideal S512x1024 .f32 :=
  addf (addf (shapeCast S512x1024 x shapeCasts_S512x1024_S512x1024)
    (matmul dot_S512x512_S512x1024_S512x1024_1_0_0_1_n_n none og
      (shapeCast S512x1024 wa shapeCasts_S512x1024_S512x1024) (constant S512x1024 FTy.f32 0x00000000#32)))
    (matmul dot_S512x512_S512x1024_S512x1024_1_0_0_1_n_n none od
      (shapeCast S512x1024 wb shapeCasts_S512x1024_S512x1024) (constant S512x1024 FTy.f32 0x00000000#32))

/-- The projected embedding of a tile. -/
def pT (p : FVec Ideal S512x256 .f32) (w : FVec Ideal S256x1024 .bf16) : FVec Ideal S512x1024 .f32 :=
  matmul dot_S512x256_S256x1024_S512x1024_1_0_0_1_n_n none
    (truncf (F := Ideal) .bf16 (shapeCast S512x256 p shapeCasts_S512x256_S512x256) bitsLt_bf16_f32)
    (shapeCast S256x1024 w shapeCasts_S256x1024_S256x1024) (constant S512x1024 FTy.f32 0x00000000#32)

/-- The rows of a tile normed by their root mean squares and scaled. -/
def rmsT (h : FVec Ideal S512x1024 .f32) (g : FVec Ideal S1x1024 .f32) : FVec Ideal S512x1024 .f32 :=
  mulf (mulf h (broadcastTo S512x1024 (rsqrt (addf
    (divf (shapeCast S512x1 (multiReduction .add [1] S512 (mulf h h) 0x00000000#32 reduces_S512x1024_S512 (.inl rfl) rfl) shapeCasts_S512_S512x1)
      (broadcast S512x1 (Scalar.ofBits .f32 0x44800000#32 : Ideal .f32)))
    (broadcast S512x1 (Scalar.ofBits .f32 0x358637BD#32 : Ideal .f32)))) broadcasts_S512x1_S512x1024))
    (broadcastTo S512x1024 (shapeCast S1x1024 g shapeCasts_S1x1024_S1x1024) broadcasts_S1x1024_S512x1024)

/-- The down projection. -/
def dT (a : FVec Ideal S512x2816 .bf16) (w : FVec Ideal S2816x1024 .bf16) : FVec Ideal S512x1024 .f32 :=
  matmul dot_S512x2816_S2816x1024_S512x1024_1_0_0_1_n_n none a
    (shapeCast S2816x1024 w shapeCasts_S2816x1024_S2816x1024) (constant S512x1024 FTy.f32 0x00000000#32)

/-- The gated embedding added. -/
def eT (h p : FVec Ideal S512x1024 .f32) (g : FVec Ideal S1x1024 .f32) (w : FVec Ideal S1024x1024 .bf16) : FVec Ideal S512x1024 .f32 :=
  addf h (mulf (logistic (matmul dot_S512x1024_S1024x1024_S512x1024_1_0_0_1_n_n none
    (truncf (F := Ideal) .bf16 (rmsT h g) bitsLt_bf16_f32)
    (shapeCast S1024x1024 w shapeCasts_S1024x1024_S1024x1024) (constant S512x1024 FTy.f32 0x00000000#32))) p)

theorem hT_at (x : FVec Ideal S512x1024 .f32) (og od : FVec Ideal S512x512 .bf16) (wa wb : FVec Ideal S512x1024 .bf16)
    (r : Fin 512) (j : Fin 1024) :
    (hT x og od wa wb (ix2 r j) : EReal) = HAdd.hAdd (α := EReal) (x (ix2 r j))
      ((∑ k : Fin 512, HMul.hMul (α := EReal) (og (ix2 r k)) (wa (ix2 k j))) + ∑ k : Fin 512, HMul.hMul (α := EReal) (od (ix2 r k)) (wb (ix2 k j))) := by
  rw [← add_assoc]
  unfold hT; pointwise []

theorem pT_at (p : FVec Ideal S512x256 .f32) (w : FVec Ideal S256x1024 .bf16) (r : Fin 512) (j : Fin 1024) :
    (pT p w (ix2 r j) : EReal) = ∑ k : Fin 256, HMul.hMul (α := EReal) (p (ix2 r k)) (w (ix2 k j)) := by
  unfold pT; pointwise []

theorem rmsT_at (h : FVec Ideal S512x1024 .f32) (g : FVec Ideal S1x1024 .f32) (r : Fin 512) (j : Fin 1024) :
    (rmsT h g (ix2 r j) : EReal) = rmsRow (fun j => h (ix2 r j)) (fun j => g (ix2 (0 : Fin 1) j)) j := by
  unfold rmsT rmsRow; pointwise []

theorem dT_at (a : FVec Ideal S512x2816 .bf16) (w : FVec Ideal S2816x1024 .bf16) (r : Fin 512) (j : Fin 1024) :
    (dT a w (ix2 r j) : EReal) = ∑ k : Fin 2816, HMul.hMul (α := EReal) (a (ix2 r k)) (w (ix2 k j)) := by
  unfold dT; pointwise []

theorem eT_at (h p : FVec Ideal S512x1024 .f32) (g : FVec Ideal S1x1024 .f32) (w : FVec Ideal S1024x1024 .bf16) (r : Fin 512) (j : Fin 1024) :
    (eT h p g w (ix2 r j) : EReal) = HAdd.hAdd (α := EReal) (h (ix2 r j)) (Ideal.logistic
      (∑ k : Fin 1024, rmsRow (fun j => h (ix2 r j)) (fun j => g (ix2 (0 : Fin 1) j)) k * (w (ix2 k j) : EReal)) * (p (ix2 r j) : EReal)) := by
  simp only [← rmsT_at]
  unfold eT; generalize rmsT h g = A; pointwise []

end Cert.Kernel2Ideal.Gen
end
-- ==== Proof.TTile.lean ====
module
public import proofs.«01_k».proof.Proof.TChunk
public import proofs.«01_k».proof.Proof.TEnd
@[expose] public section
set_option maxRecDepth 16384
noncomputable section
namespace Cert.Kernel2Ideal.Gen
open Idealize.ShloMosaic Idealize.ShloMosaic.TcCoe Idealize.ShloMosaic.Tactic
open Idealize.SL Idealize.SL.Sem
open Idealize.ShloMosaic.Pipeline (Dat Cfg Window BodyObligation cellOf)

/-- A tile of a held array. -/
def rdT {s : Shape} {e : EltTy} (m : Memref sig .tc .vmem s e) (h : m.IsWhole) (x : Vec Ideal s e)
    (r : Rect s) : r.shape.Idx → Elt Ideal e :=
  View.readAt (Elt Ideal) m.view r.toLoadRect (h.unread x)

theorem rdT_eq {s : Shape} {e : EltTy} (m : Memref sig .tc .vmem s e) (h : m.IsWhole) (x : Vec Ideal s e)
    (r : Rect s) : rdT m h x r = fun i => x (r.emb i) := by
  unfold rdT
  rw [View.readAt_eq_ld, h.read_unread]
  rfl

/-- Chunk `j`'s gate and value columns of the up-projection. -/
def uG (j : ℕ) : Rect S1024x5632 := Rect.unit ![0, 256 * (j % 11)] S1024x256.size (by
  intro a; fin_cases a <;> simp [S1024x256, S1024x5632] <;> omega)
def uV (j : ℕ) : Rect S1024x5632 := Rect.unit ![0, 2816 + 256 * (j % 11)] S1024x256.size (by
  intro a; fin_cases a <;> simp [S1024x256, S1024x5632] <;> omega)
def cG (j : ℕ) : Rect S3x5632 := Rect.unit ![0, 256 * (j % 11)] S3x256.size (by
  intro a; fin_cases a <;> simp [S3x256, S3x5632] <;> omega)
def cV (j : ℕ) : Rect S3x5632 := Rect.unit ![0, 2816 + 256 * (j % 11)] S3x256.size (by
  intro a; fin_cases a <;> simp [S3x256, S3x5632] <;> omega)
def bG (j : ℕ) : Rect S1x5632 := Rect.unit ![0, 256 * (j % 11)] S1x256.size (by
  intro a; fin_cases a <;> simp [S1x256, S1x5632] <;> omega)
def bV (j : ℕ) : Rect S1x5632 := Rect.unit ![0, 2816 + 256 * (j % 11)] S1x256.size (by
  intro a; fin_cases a <;> simp [S1x256, S1x5632] <;> omega)
/-- Where chunk `j`'s activation goes. -/
def aR (j : ℕ) : Rect S512x2816 := Rect.unit ![0, 256 * (j % 11)] S512x256.size (by
  intro a; fin_cases a <;> simp [S512x256, S512x2816] <;> omega)
/-- Where chunk `j`'s last rows are kept. -/
def kR (j : ℕ) : Rect S11x16x512 := Rect.unit ![j % 11, 0, 0] S1x16x512.size (by
  intro a; fin_cases a <;> simp [S1x16x512, S11x16x512] <;> omega)

variable (arg7 : Memref sig .tc .vmem S1024x5632 .bf16) (harg7 : arg7.IsWhole)
  (arg8 : Memref sig .tc .vmem S3x5632 .f32) (harg8 : arg8.IsWhole)
  (arg9 : Memref sig .tc .vmem S1x5632 .f32) (harg9 : arg9.IsWhole)
  (x6 : Vec Ideal S1024x5632 .bf16) (x7 : Vec Ideal S3x5632 .f32) (x8 : Vec Ideal S1x5632 .f32)

/-- Chunk `j` of the up-projection. -/
def zc (u : FVec Ideal S512x1024 .bf16) (j : ℕ) : FVec Ideal S512x512 .f32 :=
  zT u (rdT arg7 harg7 x6 (uG j)) (rdT arg7 harg7 x6 (uV j))

/-- Chunk `j`'s convolution, from its rows and the last rows of the tile before. -/
def vc (z : FVec Ideal S512x512 .f32) (P : Vec Ideal S1x16x512 .f32) (j : ℕ) : FVec Ideal S512x512 .f32 :=
  cvT z (s1T z (shapeCast S16x512 P shapeCasts_S1x16x512_S16x512)) (s2T z (shapeCast S16x512 P shapeCasts_S1x16x512_S16x512))
    (rdT arg8 harg8 x7 (cG j)) (rdT arg8 harg8 x7 (cV j)) (rdT arg9 harg9 x8 (bG j)) (rdT arg9 harg9 x8 (bV j))

/-- The activations' stores, the last chunk's first. -/
def actList (Z : ℕ → FVec Ideal S512x512 .f32) (P : ℕ → Vec Ideal S1x16x512 .f32) : List (View.Piece (Elt Ideal) S512x2816 .bf16) :=
  List.ofFn fun k : Fin 11 => ⟨aR (10 - k.val), actT (vc arg8 harg8 arg9 harg9 x7 x8 (Z (10 - k.val)) (P (10 - k.val)) (10 - k.val))⟩

/-- The last sixteen rows of a chunk. -/
def lastT (z : FVec Ideal S512x512 .f32) : FVec Ideal S1x16x512 .f32 :=
  shapeCast S1x16x512 (extractStridedSlice S16x512 ![496, 0] z slices_S512x512_o496_0_S16x512) shapeCasts_S16x512_S1x16x512

/-- The stores that keep the last rows of the first `n` chunks, over a start. -/
def keepList (B : List (View.Piece (Elt Ideal) S11x16x512 .f32)) (Z : ℕ → FVec Ideal S512x512 .f32) : ℕ → List (View.Piece (Elt Ideal) S11x16x512 .f32)
  | 0 => B
  | n + 1 => ⟨kR n, lastT (Z n)⟩ :: keepList B Z n

/-- Zero rows. -/
def zeroList : List (View.Piece (Elt Ideal) S11x16x512 .f32) :=
  [⟨Rect.unit ![0, 0, 0] S11x16x512.size (by intro a; fin_cases a <;> simp [S11x16x512]),
    k0_pay2 (F := Ideal)⟩]

end Cert.Kernel2Ideal.Gen
end
-- ==== Proof.TBlock.lean ====
module
public import proofs.«01_k».proof.Proof.TTile
@[expose] public section
set_option maxRecDepth 16384
noncomputable section
namespace Cert.Kernel2Ideal.Gen
open Idealize.ShloMosaic Idealize.ShloMosaic.TcCoe Idealize.ShloMosaic.Tactic
open Idealize.SL Idealize.SL.Sem Cert.Tail
open Idealize.ShloMosaic.Pipeline (Dat Cfg Window BodyObligation cellOf)

/-- The position of row `r` of the interleaved order. -/
def pos (r : ℕ) : ℕ := 64 * (r % 8) + r / 8

theorem at5_of (z : FVec Ideal S512x512 .f32) (zz : ℕ → Fin 512 → EReal)
    (hz : ∀ (r : Fin 512) (f : Fin 512), (z (ix2 r f) : EReal) = zz (pos r.val) f) (n : ℕ) (hn : n < 512) (f : Fin 512) :
    at5 z n f = zz (pos n) f := by
  unfold at5
  rw [hz]
  simp only [Nat.mod_eq_of_lt hn]

theorem s1T_pos (z : FVec Ideal S512x512 .f32) (p : FVec Ideal S16x512 .f32) (zz : ℕ → Fin 512 → EReal)
    (hz : ∀ (r : Fin 512) (f : Fin 512), (z (ix2 r f) : EReal) = zz (pos r.val) f) (r : Fin 512) (f : Fin 512) :
    (s1T z p (ix2 r f) : EReal) = if pos r.val = 0 then p (ix2 (15 : Fin 16) f) else zz (pos r.val - 1) f := by
  rw [s1T_at]
  by_cases h0 : r.val = 0
  · rw [if_pos h0, if_pos (by simp [pos, h0])]
  · rw [if_neg h0, if_neg (c := pos r.val = 0) (by unfold pos; omega)]
    by_cases h8 : r.val < 8
    · rw [if_pos h8, at5_of z zz hz _ (by omega)]
      congr 1; unfold pos; omega
    · rw [if_neg h8, at5_of z zz hz _ (by omega)]
      congr 1; unfold pos; omega

theorem s2T_pos (z : FVec Ideal S512x512 .f32) (p : FVec Ideal S16x512 .f32) (zz : ℕ → Fin 512 → EReal)
    (hz : ∀ (r : Fin 512) (f : Fin 512), (z (ix2 r f) : EReal) = zz (pos r.val) f) (r : Fin 512) (f : Fin 512) :
    (s2T z p (ix2 r f) : EReal) = if pos r.val = 0 then p (ix2 (7 : Fin 16) f) else if pos r.val = 1 then p (ix2 (15 : Fin 16) f)
      else zz (pos r.val - 2) f := by
  rw [s2T_at]
  by_cases h0 : r.val = 0
  · rw [if_pos h0, if_pos (by simp [pos, h0])]
  · rw [if_neg h0, if_neg (c := pos r.val = 0) (by unfold pos; omega)]
    by_cases h8 : r.val < 8
    · rw [if_pos h8, at5_of z zz hz _ (by omega), if_neg (c := pos r.val = 1) (by unfold pos; omega)]
      congr 1; unfold pos; omega
    · rw [if_neg h8]
      by_cases h9 : r.val = 8
      · rw [if_pos h9, if_pos (by simp [pos, h9])]
      · rw [if_neg h9, if_neg (c := pos r.val = 1) (by unfold pos; omega)]
        by_cases h16 : r.val < 16
        · rw [if_pos h16, at5_of z zz hz _ (by omega)]
          congr 1; unfold pos; omega
        · rw [if_neg h16, at5_of z zz hz _ (by omega)]
          congr 1; unfold pos; omega

variable (arg7 : Memref sig .tc .vmem S1024x5632 .bf16) (harg7 : arg7.IsWhole)
  (arg8 : Memref sig .tc .vmem S3x5632 .f32) (harg8 : arg8.IsWhole)
  (arg9 : Memref sig .tc .vmem S1x5632 .f32) (harg9 : arg9.IsWhole)
  (x4 : Vec Ideal S1024x1024 .bf16) (x5 : Vec Ideal S1x1024 .f32)
  (x6 : Vec Ideal S1024x5632 .bf16) (x7 : Vec Ideal S3x5632 .f32) (x8 : Vec Ideal S1x5632 .f32)
  (x9 : Vec Ideal S2816x1024 .bf16) (x10 : Vec Ideal S1x1024 .f32) (x11 : Vec Ideal S1024x1024 .bf16)
  (x12 : Vec Ideal S256x1024 .bf16) (x13 : Vec Ideal S1x1024 .f32)

/-- The weights among a tile's arrays. -/
def tileW : Weights where
  wo k j := x4 (ix2 k j)
  nf j := x5 (ix2 (0 : Fin 1) j)
  wu k f := x6 (ix2 k f)
  cw t f := x7 (ix2 t f)
  cb f := x8 (ix2 (0 : Fin 1) f)
  wd f j := x9 (ix2 f j)
  npl j := x10 (ix2 (0 : Fin 1) j)
  wpg k j := x11 (ix2 k j)
  wpp k j := x12 (ix2 k j)
  nfin j := x13 (ix2 (0 : Fin 1) j)

/-- Column `f` of chunk `j` among the 5632. -/
def colOf (j : ℕ) (f : Fin 512) : Fin 5632 :=
  ⟨if f.val < 256 then 256 * (j % 11) + f.val else 2816 + 256 * (j % 11) + (f.val - 256), by split <;> omega⟩

theorem rd_emb {a b c d : ℕ} (o : Fin 2 → ℕ) (inb) (k : Fin c) (f : Fin d) (k' : Fin a) (f' : Fin b)
    (hk : k'.val = o 0 + k.val) (hf : f'.val = o 1 + f.val) :
    (Rect.unit (s := ⟨2, ![a, b]⟩) o ![c, d] inb).emb (ix2 k f) = ix2 k' f' := by
  funext x
  fin_cases x
  · exact Fin.ext (by simp [Rect.emb_apply, hk])
  · exact Fin.ext (by simp [Rect.emb_apply, hf])

theorem rd2_at {a b c d : ℕ} {e : EltTy} (m : Memref sig .tc .vmem ⟨2, ![a, b]⟩ e) (h : m.IsWhole) (x : Vec Ideal ⟨2, ![a, b]⟩ e)
    (o : Fin 2 → ℕ) (inb) (k : Fin c) (f : Fin d) (k' : Fin a) (f' : Fin b)
    (hk : k'.val = o 0 + k.val) (hf : f'.val = o 1 + f.val) :
    rdT m h x (Rect.unit (s := ⟨2, ![a, b]⟩) o ![c, d] inb) (ix2 k f) = x (ix2 k' f') := by
  rw [rdT_eq]
  exact congrArg x (rd_emb o inb k f k' f' hk hf)

/-- Column `f` of chunk `j`'s gates, and of its values. -/
def colG (j : ℕ) (f : Fin 256) : Fin 5632 := ⟨256 * (j % 11) + f.val, by omega⟩
def colV (j : ℕ) (f : Fin 256) : Fin 5632 := ⟨2816 + 256 * (j % 11) + f.val, by omega⟩

theorem colOf_lo (j : ℕ) (f : Fin 256) : colOf j ⟨f.val, by omega⟩ = colG j f := by
  unfold colOf colG; simp
theorem colOf_hi (j : ℕ) (f : Fin 256) : colOf j ⟨256 + f.val, by omega⟩ = colV j f := by
  unfold colOf colV; simp

theorem two_halves {G : Fin 512 → Prop} (a : ∀ f : Fin 256, G ⟨f.val, by omega⟩) (b : ∀ f : Fin 256, G ⟨256 + f.val, by omega⟩) (f : Fin 512) : G f := by
  by_cases h : f.val < 256
  · exact a ⟨f.val, h⟩
  · have e := b ⟨f.val - 256, by omega⟩
    have e' : (⟨256 + (f.val - 256), by omega⟩ : Fin 512) = f := Fin.ext (by simp only; omega)
    rw [← e']; exact e

theorem zT_up (W : Weights) (a b : Vec Ideal S1024x256 .bf16) (u : FVec Ideal S512x1024 .bf16) (hh : ℕ → Fin 1024 → EReal)
    (hu : ∀ (r : Fin 512) (k : Fin 1024), (u (ix2 r k) : EReal) = rmsRow (hh (pos r.val)) W.nf k) (j : ℕ)
    (ha : ∀ k f, (a (ix2 k f) : EReal) = W.wu k (colG j f)) (hb : ∀ k f, (b (ix2 k f) : EReal) = W.wu k (colV j f)) (r : Fin 512) (f : Fin 512) :
    (zT u a b (ix2 r f) : EReal) = W.up (hh (pos r.val)) (colOf j f) := by
  revert f
  refine two_halves (fun f => ?_) (fun f => ?_)
  · rw [zT_lo, colOf_lo]
    exact Finset.sum_congr rfl fun k _ => by rw [hu, ha]
  · rw [zT_hi, colOf_hi]
    exact Finset.sum_congr rfl fun k _ => by rw [hu, hb]

theorem zc_at (W : Weights) (hW : ∀ k f, W.wu k f = (x6 (ix2 k f) : EReal)) (u : FVec Ideal S512x1024 .bf16) (hh : ℕ → Fin 1024 → EReal)
    (hu : ∀ (r : Fin 512) (k : Fin 1024), (u (ix2 r k) : EReal) = rmsRow (hh (pos r.val)) W.nf k) (j : ℕ) (r : Fin 512) (f : Fin 512) :
    (zc arg7 harg7 x6 u j (ix2 r f) : EReal) = W.up (hh (pos r.val)) (colOf j f) := by
  unfold zc
  refine zT_up W _ _ u hh hu j (fun k f => ?_) (fun k f => ?_) r f
  · rw [hW]
    exact rd2_at arg7 harg7 x6 _ _ k f k (colG j f) (by simp) (by simp [colG])
  · rw [hW]
    exact rd2_at arg7 harg7 x6 _ _ k f k (colV j f) (by simp) (by simp [colV])

/-- The up projection one and two rows before row `t` of a tile, the tile before's at its start. -/
def zOne (W : Weights) (hh : ℕ → Fin 1024 → EReal) (q1 : Fin 5632 → EReal) (t : ℕ) (f : Fin 5632) : EReal :=
  if t = 0 then q1 f else W.up (hh (t - 1)) f
def zTwo (W : Weights) (hh : ℕ → Fin 1024 → EReal) (q2 q1 : Fin 5632 → EReal) (t : ℕ) (f : Fin 5632) : EReal :=
  if t = 0 then q2 f else if t = 1 then q1 f else W.up (hh (t - 2)) f

/-- A row's convolution. -/
def cvRow (W : Weights) (hh : ℕ → Fin 1024 → EReal) (q2 q1 : Fin 5632 → EReal) (t : ℕ) : Fin 5632 → EReal :=
  W.conv (zTwo W hh q2 q1 t) (zOne W hh q1 t) (W.up (hh t))

theorem cast16_at (P : Vec Ideal S1x16x512 .f32) (k : Fin 16) (f : Fin 512) :
    (shapeCast S16x512 P shapeCasts_S1x16x512_S16x512 (ix2 k f) : EReal) = P (ix3 (0 : Fin 1) k f) := by
  pointwise []

theorem cvT_row (W : Weights) (ca cb : Vec Ideal S3x256 .f32) (ba bb : Vec Ideal S1x256 .f32) (hh : ℕ → Fin 1024 → EReal)
    (q2 q1 : Fin 5632 → EReal) (j : ℕ) (z : FVec Ideal S512x512 .f32) (p : FVec Ideal S16x512 .f32)
    (hz : ∀ (r : Fin 512) (f : Fin 512), (z (ix2 r f) : EReal) = W.up (hh (pos r.val)) (colOf j f))
    (h1 : ∀ f, (p (ix2 (15 : Fin 16) f) : EReal) = q1 (colOf j f)) (h2 : ∀ f, (p (ix2 (7 : Fin 16) f) : EReal) = q2 (colOf j f))
    (ha : ∀ k f, (ca (ix2 k f) : EReal) = W.cw k (colG j f)) (hb : ∀ k f, (cb (ix2 k f) : EReal) = W.cw k (colV j f))
    (ha' : ∀ f, (ba (ix2 (0 : Fin 1) f) : EReal) = W.cb (colG j f)) (hb' : ∀ f, (bb (ix2 (0 : Fin 1) f) : EReal) = W.cb (colV j f))
    (r : Fin 512) (f : Fin 512) :
    (cvT z (s1T z p) (s2T z p) ca cb ba bb (ix2 r f) : EReal) = cvRow W hh q2 q1 (pos r.val) (colOf j f) := by
  have e1 : ∀ f, (s1T z p (ix2 r f) : EReal) = zOne W hh q1 (pos r.val) (colOf j f) := fun f => by
    rw [s1T_pos z p (fun t f => W.up (hh t) (colOf j f)) hz, h1]; rfl
  have e2 : ∀ f, (s2T z p (ix2 r f) : EReal) = zTwo W hh q2 q1 (pos r.val) (colOf j f) := fun f => by
    rw [s2T_pos z p (fun t f => W.up (hh t) (colOf j f)) hz, h1, h2]; rfl
  revert f
  refine two_halves (fun f => ?_) (fun f => ?_)
  · rw [cvT_lo, e1, e2, hz, ha, ha, ha, ha', colOf_lo]
    unfold cvRow Weights.conv
    simp only [add_assoc]
  · rw [cvT_hi, e1, e2, hz, hb, hb, hb, hb', colOf_hi]
    unfold cvRow Weights.conv
    simp only [add_assoc]

theorem vc_at (W : Weights) (hw : ∀ k f, W.cw k f = (x7 (ix2 k f) : EReal)) (hb : ∀ f, W.cb f = (x8 (ix2 (0 : Fin 1) f) : EReal))
    (hh : ℕ → Fin 1024 → EReal) (q2 q1 : Fin 5632 → EReal) (j : ℕ) (z : FVec Ideal S512x512 .f32) (P : Vec Ideal S1x16x512 .f32)
    (hz : ∀ (r : Fin 512) (f : Fin 512), (z (ix2 r f) : EReal) = W.up (hh (pos r.val)) (colOf j f))
    (h1 : ∀ f, (P (ix3 (0 : Fin 1) (15 : Fin 16) f) : EReal) = q1 (colOf j f))
    (h2 : ∀ f, (P (ix3 (0 : Fin 1) (7 : Fin 16) f) : EReal) = q2 (colOf j f)) (r : Fin 512) (f : Fin 512) :
    (vc arg8 harg8 arg9 harg9 x7 x8 z P j (ix2 r f) : EReal) = cvRow W hh q2 q1 (pos r.val) (colOf j f) := by
  unfold vc
  refine cvT_row W _ _ _ _ hh q2 q1 j z _ hz (fun f => (cast16_at P _ f).trans (h1 f)) (fun f => (cast16_at P _ f).trans (h2 f)) ?_ ?_ ?_ ?_ r f
  · intro k f; rw [hw]; exact rd2_at arg8 harg8 x7 _ _ k f k (colG j f) (by simp) (by simp [colG])
  · intro k f; rw [hw]; exact rd2_at arg8 harg8 x7 _ _ k f k (colV j f) (by simp) (by simp [colV])
  · intro f; rw [hb]; exact rd2_at arg9 harg9 x8 _ _ 0 f 0 (colG j f) (by simp) (by simp [colG])
  · intro f; rw [hb]; exact rd2_at arg9 harg9 x8 _ _ 0 f 0 (colV j f) (by simp) (by simp [colV])

theorem actT_row (cv : FVec Ideal S512x512 .f32) (C : Fin 5632 → EReal) (j : ℕ) (r : Fin 512)
    (h : ∀ f, (cv (ix2 r f) : EReal) = C (colOf j f)) (f : Fin 256) (c : Fin 2816) (hc : c.val = 256 * (j % 11) + f.val) :
    (actT cv (ix2 r f) : EReal) = act C c := by
  rw [actT_at, h, h, colOf_lo, colOf_hi]
  unfold act
  have e1 : colG j f = ⟨c.val, by omega⟩ := Fin.ext hc.symm
  have e2 : colV j f = ⟨2816 + c.val, by omega⟩ := Fin.ext (by simp only [colV]; omega)
  rw [e1, e2]

variable {sg : RefSig} {κ : Kind} {sp : Space}

theorem aR_emb (j : ℕ) (x : S512x256.Idx) : ((aR j).emb x 0).val = (x 0).val ∧ ((aR j).emb x 1).val = 256 * (j % 11) + (x 1).val :=
  ⟨show 0 + 1 * (x 0).val = _ by omega, show 256 * (j % 11) + 1 * (x 1).val = _ by omega⟩

theorem kR_emb (j : ℕ) (hj : j < 11) (i : Fin 16) (f : Fin 512) :
    (kR j).emb (ix3 (0 : Fin 1) i f) = (ix3 (⟨j, hj⟩ : Fin 11) i f : S11x16x512.Idx) := by
  funext a
  fin_cases a
  · exact Fin.ext (show j % 11 + 1 * 0 = j by omega)
  · exact Fin.ext (show 0 + 1 * i.val = i.val by omega)
  · exact Fin.ext (show 0 + 1 * f.val = f.val by omega)

theorem act_read (vw : View sg κ sp S512x2816 .bf16) (Z : ℕ → FVec Ideal S512x512 .f32) (P : ℕ → Vec Ideal S1x16x512 .f32)
    (C : ℕ → Fin 5632 → EReal)
    (h : ∀ j, j < 11 → ∀ (r f : Fin 512), (vc arg8 harg8 arg9 harg9 x7 x8 (Z j) (P j) j (ix2 r f) : EReal) = C (pos r.val) (colOf j f))
    (inb) (r : Fin 512) (c : Fin 2816) :
    (vw.readCov (actList arg8 harg8 arg9 harg9 x7 x8 Z P) (Rect.unit ![0, 0] S512x2816.size inb).toLoadRect (ix2 r c) : EReal) = act (C (pos r.val)) c := by
  rw [View.readCov_eq_canon']
  have e : (Rect.unit ![0, 0] S512x2816.size inb).emb (ix2 r c) = (ix2 r c : S512x2816.Idx) :=
    rd_emb (a := 512) (b := 2816) (c := 512) (d := 2816) ![0, 0] inb r c r c (by simp) (by simp)
  refine (congrArg (View.canon _) e).trans ?_
  refine (View.canon_apply_of_pieces (fun y : S512x2816.Idx => act (C (pos (y 0).val)) (y 1)) _ ?_ _ ?_).trans rfl
  · intro p hp
    simp only [actList, List.mem_ofFn] at hp
    obtain ⟨k, rfl⟩ := hp
    intro x
    have hx : x = ix2 (n0 := 512) (n1 := 256) (x 0) (x 1) := eq_ix2 x
    have b0 : (x 0).val < 512 := (x 0).isLt
    have b1 : (x 1).val < 256 := (x 1).isLt
    obtain ⟨e0, e1⟩ := aR_emb (10 - k.val) x
    show actT _ x = act (C (pos ((aR (10 - k.val)).emb x 0).val)) ((aR (10 - k.val)).emb x 1)
    rw [e0, hx]
    exact actT_row _ (C (pos (x 0).val)) (10 - k.val) (x 0) (h _ (by omega) (x 0)) (x 1) _ (by rw [← hx]; exact e1)
  · refine ⟨_, List.mem_ofFn.2 ⟨⟨10 - c.val / 256, by omega⟩, rfl⟩, ?_⟩
    rw [LoadRect.mem_set]
    intro a
    fin_cases a
    · exact ⟨r.val, r.isLt, by simp [aR]⟩
    · exact ⟨c.val % 256, by show _ < 256; omega, by simp [aR]; omega⟩

theorem last_at (z : FVec Ideal S512x512 .f32) (i : Fin 16) (f : Fin 512) :
    (lastT z (ix3 (0 : Fin 1) i f) : EReal) = z (ix2 (⟨496 + i.val, by omega⟩ : Fin 512) f) := by
  unfold lastT; pointwise []

theorem keep_canon (B : List (View.Piece (Elt Ideal) S11x16x512 .f32)) (Z : ℕ → FVec Ideal S512x512 .f32) (n j : ℕ) (hn : n ≤ 11) (hj : j < 11) (i : Fin 16) (f : Fin 512) :
    (View.canon (keepList B Z n) (ix3 (⟨j, hj⟩ : Fin 11) i f) : EReal) =
      if j < n then (Z j (ix2 (⟨496 + i.val, by omega⟩ : Fin 512) f) : EReal) else View.canon B (ix3 (⟨j, hj⟩ : Fin 11) i f) := by
  induction n with
  | zero => rw [if_neg (by omega)]; rfl
  | succ n ih =>
    have hm : n % 11 = n := Nat.mod_eq_of_lt (by omega)
    rcases Nat.lt_trichotomy j n with h | h | h
    · refine (View.canon_cons_of_not_mem _ _ ?_).trans ((ih (by omega)).trans (by rw [if_pos h, if_pos (by omega)]))
      rw [LoadRect.mem_set]
      intro q
      obtain ⟨x, hx, hv⟩ := q 0
      simp [kR, hm] at hv hx
      omega
    · subst h
      rw [if_pos (by omega), ← last_at (Z j)]
      rw [← kR_emb j hj i f]
      exact View.canon_cons_emb _ _ _ _
    · refine (View.canon_cons_of_not_mem _ _ ?_).trans ((ih (by omega)).trans (by rw [if_neg (by omega), if_neg (by omega)]))
      rw [LoadRect.mem_set]
      intro q
      obtain ⟨x, hx, hv⟩ := q 0
      simp [kR, hm] at hv hx
      omega

theorem zero_canon (y : S11x16x512.Idx) : (View.canon zeroList y : EReal) = 0 := by
  unfold zeroList
  have hy : (Rect.unit ![0, 0, 0] S11x16x512.size (by intro a; fin_cases a <;> simp [S11x16x512]) : Rect S11x16x512).emb y = y := by
    funext a
    fin_cases a
    · exact Fin.ext ((Nat.zero_add _).trans (Nat.one_mul _))
    · exact Fin.ext ((Nat.zero_add _).trans (Nat.one_mul _))
    · exact Fin.ext ((Nat.zero_add _).trans (Nat.one_mul _))
  refine (congrArg (View.canon _) hy.symm).trans ?_
  refine (View.canon_cons_emb _ _ _ _).trans ?_
  have hx : y = ix3 (n0 := 11) (n1 := 16) (n2 := 512) (y 0) (y 1) (y 2) := eq_ix3 y
  show (k0_pay2 (F := Ideal) y : EReal) = 0
  rw [hx]
  pointwise [k0_pay2]

theorem keep_read (vw : View sg κ sp S11x16x512 .f32) (Z : ℕ → FVec Ideal S512x512 .f32) (j : ℕ) (hj : j < 11) (i : Fin 16) (f : Fin 512) :
    (vw.readCov (keepList zeroList Z j) (kR j).toLoadRect (ix3 (0 : Fin 1) i f) : EReal) = 0 := by
  rw [View.readCov_eq_canon']
  refine (congrArg (View.canon _) (kR_emb j hj i f)).trans ?_
  rw [keep_canon _ _ _ _ (by omega) hj, if_neg (by omega), zero_canon]

end Cert.Kernel2Ideal.Gen
end
-- ==== Proof.TBody.lean ====
module
public import proofs.«01_k».proof.Proof.TBlock
@[expose] public section
set_option maxRecDepth 16384
noncomputable section
namespace Cert.Kernel2Ideal.Gen
open Idealize.ShloMosaic Idealize.ShloMosaic.TcCoe Idealize.ShloMosaic.Tactic
open Idealize.SL Idealize.SL.Sem Cert.Tail
open Idealize.ShloMosaic.Pipeline (Dat Cfg Window BodyObligation cellOf)

/-- The hidden rows of a tile. -/
def hRow (x0 : Vec Ideal S512x1024 .f32) (x1 x2 : Vec Ideal S512x512 .bf16) (W : Weights) (t : ℕ) : Fin 1024 → EReal :=
  W.h1 (fun j => x0 (ix2 (⟨t % 512, by omega⟩ : Fin 512) j)) (fun k => x1 (ix2 (⟨t % 512, by omega⟩ : Fin 512) k))
    (fun k => x2 (ix2 (⟨t % 512, by omega⟩ : Fin 512) k))

variable {sg sg' : RefSig} {κ κ' : Kind} {sp sp' : Space}
variable (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S1x1024 .f32) (harg14 : arg14.IsWhole)
variable (x0 : Vec Ideal S512x1024 .f32) (x1 : Vec Ideal S512x512 .bf16) (x2 : Vec Ideal S512x512 .bf16) (x3 : Vec Ideal S512x256 .f32) (x4 : Vec Ideal S1024x1024 .bf16) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1024x1024 .bf16) (x12 : Vec Ideal S256x1024 .bf16) (x13 : Vec Ideal S1x1024 .f32)

include x5 x6 x7 x8 x9 x10 x11 x12 x13 in
theorem hid_at (H : FVec Ideal S512x1024 .f32)
    (hH : H = hT (rdT arg1 harg1 x0 (Rect.unit ![0, 0] S512x1024.size (by decide))) (rdT arg2 harg2 x1 (Rect.unit ![0, 0] S512x512.size (by decide))) (rdT arg3 harg3 x2 (Rect.unit ![0, 0] S512x512.size (by decide))) (rdT arg5 harg5 x4 (Rect.unit ![0, 0] S512x1024.size (by decide))) (rdT arg5 harg5 x4 (Rect.unit ![512, 0] S512x1024.size (by decide))))
    (r : Fin 512) : (fun j => (H (ix2 r j) : EReal)) = (hRow x0 x1 x2 (tileW x4 x5 x6 x7 x8 x9 x10 x11 x12 x13)) r.val := by
  subst hH
  funext j
  rw [hT_at]
  have er : (⟨r.val % 512, by omega⟩ : Fin 512) = r := Fin.ext (Nat.mod_eq_of_lt r.isLt)
  unfold hRow Weights.h1
  rw [er]
  refine congrArg₂ (HAdd.hAdd (α := EReal)) ?_ (congrArg₂ (HAdd.hAdd (α := EReal)) (Finset.sum_congr rfl fun k _ => ?_) (Finset.sum_congr rfl fun k _ => ?_))
  · exact rd2_at arg1 harg1 x0 _ _ r j r j (by simp) (by simp)
  · exact congrArg₂ (HMul.hMul (α := EReal)) (rd2_at arg2 harg2 x1 _ _ r k r k (by simp) (by simp))
      (rd2_at arg5 harg5 x4 _ _ k j _ j (by simp) (by simp))
  · exact congrArg₂ (HMul.hMul (α := EReal)) (rd2_at arg3 harg3 x2 _ _ r k r k (by simp) (by simp))
      (rd2_at arg5 harg5 x4 _ _ k j _ j (by simp) (by simp))

theorem up_at
    (vw17 : View sg κ sp S8x576x128 .f32)
    (H U R : FVec Ideal S512x1024 .f32) (L : List (View.Piece (Elt Ideal) S8x576x128 .f32)) (V : FVec Ideal S512x1024 .bf16)
    (hH : H = hT (rdT arg1 harg1 x0 (Rect.unit ![0, 0] S512x1024.size (by decide))) (rdT arg2 harg2 x1 (Rect.unit ![0, 0] S512x512.size (by decide))) (rdT arg3 harg3 x2 (Rect.unit ![0, 0] S512x512.size (by decide))) (rdT arg5 harg5 x4 (Rect.unit ![0, 0] S512x1024.size (by decide))) (rdT arg5 harg5 x4 (Rect.unit ![512, 0] S512x1024.size (by decide))))
    (hU : U = rmsT H (rdT arg6 harg6 x5 (Rect.unit ![0, 0] S1x1024.size (by decide)))) (hL : L = segList U) (hR : R = rowsT vw17 L)
    (hV : V = truncf (F := Ideal) .bf16 R bitsLt_bf16_f32)
    (j : ℕ) (r : Fin 512) (f : Fin 512) :
    (zc arg7 harg7 x6 V j (ix2 r f) : EReal) = Weights.up (tileW x4 x5 x6 x7 x8 x9 x10 x11 x12 x13) ((hRow x0 x1 x2 (tileW x4 x5 x6 x7 x8 x9 x10 x11 x12 x13)) (pos r.val)) (colOf j f) := by
  refine zc_at arg7 harg7 x6 (tileW x4 x5 x6 x7 x8 x9 x10 x11 x12 x13) (fun k f => rfl) V (hRow x0 x1 x2 (tileW x4 x5 x6 x7 x8 x9 x10 x11 x12 x13)) (fun r k => ?_) j r f
  subst hV hR hL
  show (rowsT vw17 (segList U) (ix2 r k) : EReal) = _
  rw [rowsT_seg]
  unfold at2
  have hp : pos r.val < 512 := by unfold pos; omega
  have e1 : (⟨(64 * (r.val % 8) + r.val / 8) % 512, by omega⟩ : Fin 512) = ⟨pos r.val, hp⟩ := Fin.ext (Nat.mod_eq_of_lt hp)
  have e2 : (⟨k.val % 1024, by omega⟩ : Fin 1024) = k := Fin.ext (Nat.mod_eq_of_lt k.isLt)
  rw [e1, e2, hU, rmsT_at, hid_at arg1 harg1 arg2 harg2 arg3 harg3 arg5 harg5 x0 x1 x2 x4 x5 x6 x7 x8 x9 x10 x11 x12 x13 H hH]
  refine congrArg (fun g => rmsRow _ g k) ?_
  funext k
  exact rd2_at arg6 harg6 x5 _ _ 0 k 0 k (by simp) (by simp)

theorem tile_at
    (vw17 : View sg κ sp S8x576x128 .f32) (vw18 : View sg' κ' sp' S512x2816 .bf16)
    (H E U R T : FVec Ideal S512x1024 .f32) (L L3 : List (View.Piece (Elt Ideal) S8x576x128 .f32)) (V : FVec Ideal S512x1024 .bf16)
    (A : List (View.Piece (Elt Ideal) S512x2816 .bf16)) (P : ℕ → Vec Ideal S1x16x512 .f32) (N : FVec Ideal S512x2816 .bf16)
    (hH : H = hT (rdT arg1 harg1 x0 (Rect.unit ![0, 0] S512x1024.size (by decide))) (rdT arg2 harg2 x1 (Rect.unit ![0, 0] S512x512.size (by decide))) (rdT arg3 harg3 x2 (Rect.unit ![0, 0] S512x512.size (by decide))) (rdT arg5 harg5 x4 (Rect.unit ![0, 0] S512x1024.size (by decide))) (rdT arg5 harg5 x4 (Rect.unit ![512, 0] S512x1024.size (by decide))))
    (hU : U = rmsT H (rdT arg6 harg6 x5 (Rect.unit ![0, 0] S1x1024.size (by decide)))) (hL : L = segList U) (hR : R = rowsT vw17 L)
    (hV : V = truncf (F := Ideal) .bf16 R bitsLt_bf16_f32)
    (hE : E = pT (rdT arg4 harg4 x3 (Rect.unit ![0, 0] S512x256.size (by decide))) (rdT arg13 harg13 x12 (Rect.unit ![0, 0] S256x1024.size (by decide))))
    (hA : A = actList arg8 harg8 arg9 harg9 x7 x8 (zc arg7 harg7 x6 V) P)
    (hN : N = vw18.readCov A (Rect.unit ![0, 0] S512x2816.size (by decide)).toLoadRect)
    (hL3 : L3 = rowList (dT N (rdT arg10 harg10 x9 (Rect.unit ![0, 0] S2816x1024.size (by decide)))) ++ L)
    (hT' : T = eT (addf H (segsT vw17 L3)) E (rdT arg11 harg11 x10 (Rect.unit ![0, 0] S1x1024.size (by decide))) (rdT arg12 harg12 x11 (Rect.unit ![0, 0] S1024x1024.size (by decide))))
    (q2 q1 : Fin 5632 → EReal)
    (h1 : ∀ j, j < 11 → ∀ f, (P j (ix3 (0 : Fin 1) (15 : Fin 16) f) : EReal) = q1 (colOf j f))
    (h2 : ∀ j, j < 11 → ∀ f, (P j (ix3 (0 : Fin 1) (7 : Fin 16) f) : EReal) = q2 (colOf j f))
    (r : Fin 512) (j : Fin 1024) :
    (rmsT T (rdT arg14 harg14 x13 (Rect.unit ![0, 0] S1x1024.size (by decide))) (ix2 r j) : EReal) =
      Weights.fin (tileW x4 x5 x6 x7 x8 x9 x10 x11 x12 x13) ((hRow x0 x1 x2 (tileW x4 x5 x6 x7 x8 x9 x10 x11 x12 x13)) r.val) (zTwo (tileW x4 x5 x6 x7 x8 x9 x10 x11 x12 x13) (hRow x0 x1 x2 (tileW x4 x5 x6 x7 x8 x9 x10 x11 x12 x13)) q2 q1 r.val) (zOne (tileW x4 x5 x6 x7 x8 x9 x10 x11 x12 x13) (hRow x0 x1 x2 (tileW x4 x5 x6 x7 x8 x9 x10 x11 x12 x13)) q1 r.val) (Weights.up (tileW x4 x5 x6 x7 x8 x9 x10 x11 x12 x13) ((hRow x0 x1 x2 (tileW x4 x5 x6 x7 x8 x9 x10 x11 x12 x13)) r.val))
        (fun k => x3 (ix2 r k)) j := by
  have hZ := up_at arg1 harg1 arg2 harg2 arg3 harg3 arg5 harg5 arg6 harg6 arg7 harg7 x0 x1 x2 x4 x5 x6 x7 x8 x9 x10 x11 x12 x13
    vw17 H U R L V hH hU hL hR hV
  have hC := fun (j : ℕ) (hj : j < 11) => vc_at arg8 harg8 arg9 harg9 x7 x8 (tileW x4 x5 x6 x7 x8 x9 x10 x11 x12 x13) (fun _ _ => rfl) (fun _ => rfl) (hRow x0 x1 x2 (tileW x4 x5 x6 x7 x8 x9 x10 x11 x12 x13)) q2 q1 j _ (P j)
    (hZ j) (h1 j hj) (h2 j hj)
  have hN' : ∀ (r : Fin 512) (c : Fin 2816), (N (ix2 r c) : EReal) = act (cvRow (tileW x4 x5 x6 x7 x8 x9 x10 x11 x12 x13) (hRow x0 x1 x2 (tileW x4 x5 x6 x7 x8 x9 x10 x11 x12 x13)) q2 q1 (pos r.val)) c := fun r c => by
    rw [hN, hA]
    exact act_read arg8 harg8 arg9 harg9 x7 x8 vw18 _ P (cvRow (tileW x4 x5 x6 x7 x8 x9 x10 x11 x12 x13) (hRow x0 x1 x2 (tileW x4 x5 x6 x7 x8 x9 x10 x11 x12 x13)) q2 q1) hC _ r c
  have hH' := hid_at arg1 harg1 arg2 harg2 arg3 harg3 arg5 harg5 x0 x1 x2 x4 x5 x6 x7 x8 x9 x10 x11 x12 x13 H hH
  have hS : ∀ (r : Fin 512) (j : Fin 1024), (segsT vw17 L3 (ix2 r j) : EReal) = ∑ f : Fin 2816, act (cvRow (tileW x4 x5 x6 x7 x8 x9 x10 x11 x12 x13) (hRow x0 x1 x2 (tileW x4 x5 x6 x7 x8 x9 x10 x11 x12 x13)) q2 q1 r.val) f * Weights.wd (tileW x4 x5 x6 x7 x8 x9 x10 x11 x12 x13) f j := fun r j => by
    rw [hL3, segsT_row]
    unfold at2
    have e1 : (⟨(8 * (r.val % 64) + r.val / 64) % 512, by omega⟩ : Fin 512) = ⟨8 * (r.val % 64) + r.val / 64, by omega⟩ := Fin.ext (Nat.mod_eq_of_lt (by omega))
    have e2 : (⟨j.val % 1024, by omega⟩ : Fin 1024) = j := Fin.ext (Nat.mod_eq_of_lt j.isLt)
    rw [e1, e2, dT_at]
    refine Finset.sum_congr rfl fun f _ => ?_
    rw [hN']
    have e3 : pos (8 * (r.val % 64) + r.val / 64) = r.val := by unfold pos; omega
    simp only [e3]
    exact congrArg (HMul.hMul (α := EReal) _) (rd2_at arg10 harg10 x9 _ _ f j f j (by simp) (by simp))
  generalize segsT vw17 L3 = S at hT' hS
  have hA2 : ∀ r : Fin 512, (fun j => (addf H S (ix2 r j) : EReal)) = Weights.h2 (tileW x4 x5 x6 x7 x8 x9 x10 x11 x12 x13) ((hRow x0 x1 x2 (tileW x4 x5 x6 x7 x8 x9 x10 x11 x12 x13)) r.val) (cvRow (tileW x4 x5 x6 x7 x8 x9 x10 x11 x12 x13) (hRow x0 x1 x2 (tileW x4 x5 x6 x7 x8 x9 x10 x11 x12 x13)) q2 q1 r.val) := fun r => by
    funext j
    unfold Weights.h2
    rw [← hS, ← hH']
    rfl
  have hT2 : ∀ r : Fin 512, (fun j => (T (ix2 r j) : EReal)) = Weights.h3 (tileW x4 x5 x6 x7 x8 x9 x10 x11 x12 x13) (Weights.h2 (tileW x4 x5 x6 x7 x8 x9 x10 x11 x12 x13) ((hRow x0 x1 x2 (tileW x4 x5 x6 x7 x8 x9 x10 x11 x12 x13)) r.val) (cvRow (tileW x4 x5 x6 x7 x8 x9 x10 x11 x12 x13) (hRow x0 x1 x2 (tileW x4 x5 x6 x7 x8 x9 x10 x11 x12 x13)) q2 q1 r.val)) (fun k => x3 (ix2 r k)) := fun r => by
    funext j
    rw [hT', eT_at, hA2 r, congrFun (hA2 r) j, hE, pT_at]
    unfold Weights.h3
    refine congrArg (HAdd.hAdd (α := EReal) _) (congrArg₂ (HMul.hMul (α := EReal)) (congrArg Ideal.logistic (Finset.sum_congr rfl fun k _ => ?_)) (Finset.sum_congr rfl fun k _ => ?_))
    · refine congrArg₂ (HMul.hMul (α := EReal)) (congrArg (fun g => rmsRow _ g k) ?_) (rd2_at arg12 harg12 x11 _ _ k j k j (by simp) (by simp))
      funext k
      exact rd2_at arg11 harg11 x10 _ _ 0 k 0 k (by simp) (by simp)
    · exact congrArg₂ (HMul.hMul (α := EReal)) (rd2_at arg4 harg4 x3 _ _ r k r k (by simp) (by simp)) (rd2_at arg13 harg13 x12 _ _ k j k j (by simp) (by simp))
  rw [rmsT_at, hT2 r]
  unfold Weights.fin
  refine congrArg (fun g => rmsRow _ g j) ?_
  funext k
  exact rd2_at arg14 harg14 x13 _ _ 0 k 0 k (by simp) (by simp)

end Cert.Kernel2Ideal.Gen
end
-- ==== Proof.TGlueA.lean ====
module
public import proofs.«01_k».proof.Proof.TTile
@[expose] public section
set_option maxRecDepth 16384
noncomputable section
namespace Cert.Kernel2Ideal.Gen
open Idealize.ShloMosaic Idealize.ShloMosaic.TcCoe Idealize.ShloMosaic.Tactic
open Idealize.SL Idealize.SL.Sem
open Idealize.ShloMosaic.Pipeline (Dat Cfg Window BodyObligation cellOf)

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S11x16x512 .f32) (harg16 : arg16.IsWhole) (arg17 : Memref sig .tc .vmem S8x576x128 .f32) (harg17 : arg17.IsWhole) (arg18 : Memref sig .tc .vmem S512x2816 .bf16) (harg18 : arg18.IsWhole) (hc0 : cond0_0 i) (x0 : Vec Ideal S512x1024 .f32) (x1 : Vec Ideal S512x512 .bf16) (x2 : Vec Ideal S512x512 .bf16) (x3 : Vec Ideal S512x256 .f32) (x4 : Vec Ideal S1024x1024 .bf16) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1024x1024 .bf16) (x12 : Vec Ideal S256x1024 .bf16) (x13 : Vec Ideal S1x1024 .f32)

theorem hidA : (kernelRun0_A.sl.v24 (F := Ideal) c arg1 harg1 arg2 harg2 arg3 harg3 arg5 harg5 x0 x1 x2 x4) =
    hT (rdT arg1 harg1 x0 (Rect.unit ![0, 0] S512x1024.size (by decide))) (rdT arg2 harg2 x1 (Rect.unit ![0, 0] S512x512.size (by decide))) (rdT arg3 harg3 x2 (Rect.unit ![0, 0] S512x512.size (by decide))) (rdT arg5 harg5 x4 (Rect.unit ![0, 0] S512x1024.size (by decide))) (rdT arg5 harg5 x4 (Rect.unit ![512, 0] S512x1024.size (by decide))) := by
  sl_kernel_rfl

theorem embA : (kernelRun0_A.sl.v30 (F := Ideal) c arg4 harg4 arg13 harg13 x3 x12) =
    pT (rdT arg4 harg4 x3 (Rect.unit ![0, 0] S512x256.size (by decide))) (rdT arg13 harg13 x12 (Rect.unit ![0, 0] S256x1024.size (by decide))) := by
  sl_kernel_rfl

theorem rmsA : (kernelRun0_A.sl.v44 (F := Ideal) c arg1 harg1 arg2 harg2 arg3 harg3 arg5 harg5 arg6 harg6 x0 x1 x2 x4 x5) =
    rmsT (kernelRun0_A.sl.v24 (F := Ideal) c arg1 harg1 arg2 harg2 arg3 harg3 arg5 harg5 x0 x1 x2 x4) (rdT arg6 harg6 x5 (Rect.unit ![0, 0] S1x1024.size (by decide))) := by
  sl_kernel_rfl

theorem segsA : (kernelRun0_A.sl.HS1_64 (F := Ideal) c arg1 harg1 arg2 harg2 arg3 harg3 arg5 harg5 arg6 harg6 x0 x1 x2 x4 x5) =
    segList (kernelRun0_A.sl.v44 (F := Ideal) c arg1 harg1 arg2 harg2 arg3 harg3 arg5 harg5 arg6 harg6 x0 x1 x2 x4 x5) := by
  sl_kernel_rfl

theorem rowsA : (kernelRun0_A.sl.v1333 (F := Ideal) c arg1 harg1 arg2 harg2 arg3 harg3 arg5 harg5 arg6 harg6 arg17 x0 x1 x2 x4 x5) =
    rowsT arg17.view (kernelRun0_A.sl.HS1_64 (F := Ideal) c arg1 harg1 arg2 harg2 arg3 harg3 arg5 harg5 arg6 harg6 x0 x1 x2 x4 x5) := by
  sl_kernel_rfl

theorem truncA : (kernelRun0_A.sl.v1334 (F := Ideal) c arg1 harg1 arg2 harg2 arg3 harg3 arg5 harg5 arg6 harg6 arg17 x0 x1 x2 x4 x5) =
    truncf (F := Ideal) .bf16 (kernelRun0_A.sl.v1333 (F := Ideal) c arg1 harg1 arg2 harg2 arg3 harg3 arg5 harg5 arg6 harg6 arg17 x0 x1 x2 x4 x5) bitsLt_bf16_f32 := by
  sl_kernel_rfl

theorem actsA : (kernelRun0_A.sl.HS2_11 (F := Ideal) c arg1 harg1 arg2 harg2 arg3 harg3 arg5 harg5 arg6 harg6 arg7 harg7 arg8 harg8 arg9 harg9 arg16 arg17 x0 x1 x2 x4 x5 x6 x7 x8) =
    actList arg8 harg8 arg9 harg9 x7 x8 (zc arg7 harg7 x6 (kernelRun0_A.sl.v1334 (F := Ideal) c arg1 harg1 arg2 harg2 arg3 harg3 arg5 harg5 arg6 harg6 arg17 x0 x1 x2 x4 x5)) (fun j => arg16.view.readCov (keepList zeroList (zc arg7 harg7 x6 (kernelRun0_A.sl.v1334 (F := Ideal) c arg1 harg1 arg2 harg2 arg3 harg3 arg5 harg5 arg6 harg6 arg17 x0 x1 x2 x4 x5)) j) (kR j).toLoadRect) := by
  sl_kernel_rfl

theorem actA : (kernelRun0_A.sl.v2117 (F := Ideal) c arg1 harg1 arg2 harg2 arg3 harg3 arg5 harg5 arg6 harg6 arg7 harg7 arg8 harg8 arg9 harg9 arg16 arg17 arg18 x0 x1 x2 x4 x5 x6 x7 x8) =
    arg18.view.readCov (kernelRun0_A.sl.HS2_11 (F := Ideal) c arg1 harg1 arg2 harg2 arg3 harg3 arg5 harg5 arg6 harg6 arg7 harg7 arg8 harg8 arg9 harg9 arg16 arg17 x0 x1 x2 x4 x5 x6 x7 x8) (Rect.unit ![0, 0] S512x2816.size (by decide)).toLoadRect := by
  sl_kernel_rfl

theorem backA : (kernelRun0_A.sl.HS1_576 (F := Ideal) c arg1 harg1 arg2 harg2 arg3 harg3 arg5 harg5 arg6 harg6 arg7 harg7 arg8 harg8 arg9 harg9 arg10 harg10 arg16 arg17 arg18 x0 x1 x2 x4 x5 x6 x7 x8 x9) =
    rowList (dT (kernelRun0_A.sl.v2117 (F := Ideal) c arg1 harg1 arg2 harg2 arg3 harg3 arg5 harg5 arg6 harg6 arg7 harg7 arg8 harg8 arg9 harg9 arg16 arg17 arg18 x0 x1 x2 x4 x5 x6 x7 x8) (rdT arg10 harg10 x9 (Rect.unit ![0, 0] S2816x1024.size (by decide)))) ++ (kernelRun0_A.sl.HS1_64 (F := Ideal) c arg1 harg1 arg2 harg2 arg3 harg3 arg5 harg5 arg6 harg6 x0 x1 x2 x4 x5) := by
  sl_kernel_rfl

theorem finA : (kernelRun0_A.sl.r_77 (F := Ideal) c arg1 harg1 arg2 harg2 arg3 harg3 arg4 harg4 arg5 harg5 arg6 harg6 arg7 harg7 arg8 harg8 arg9 harg9 arg10 harg10 arg11 harg11 arg12 harg12 arg13 harg13 arg16 arg17 arg18 x0 x1 x2 x3 x4 x5 x6 x7 x8 x9 x10 x11 x12) =
    eT (addf (kernelRun0_A.sl.v24 (F := Ideal) c arg1 harg1 arg2 harg2 arg3 harg3 arg5 harg5 x0 x1 x2 x4) (segsT arg17.view (kernelRun0_A.sl.HS1_576 (F := Ideal) c arg1 harg1 arg2 harg2 arg3 harg3 arg5 harg5 arg6 harg6 arg7 harg7 arg8 harg8 arg9 harg9 arg10 harg10 arg16 arg17 arg18 x0 x1 x2 x4 x5 x6 x7 x8 x9))) (kernelRun0_A.sl.v30 (F := Ideal) c arg4 harg4 arg13 harg13 x3 x12) (rdT arg11 harg11 x10 (Rect.unit ![0, 0] S1x1024.size (by decide))) (rdT arg12 harg12 x11 (Rect.unit ![0, 0] S1024x1024.size (by decide))) := by
  sl_kernel_rfl

theorem resA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).1 =
    [⟨Rect.unit ![0, 0] S512x1024.size (by decide), rmsT (kernelRun0_A.sl.r_77 (F := Ideal) c arg1 harg1 arg2 harg2 arg3 harg3 arg4 harg4 arg5 harg5 arg6 harg6 arg7 harg7 arg8 harg8 arg9 harg9 arg10 harg10 arg11 harg11 arg12 harg12 arg13 harg13 arg16 arg17 arg18 x0 x1 x2 x3 x4 x5 x6 x7 x8 x9 x10 x11 x12) (rdT arg14 harg14 x13 (Rect.unit ![0, 0] S1x1024.size (by decide)))⟩] := by
  sl_kernel_rfl

theorem keepA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13).2.1 =
    keepList zeroList (zc arg7 harg7 x6 (kernelRun0_A.sl.v1334 (F := Ideal) c arg1 harg1 arg2 harg2 arg3 harg3 arg5 harg5 arg6 harg6 arg17 x0 x1 x2 x4 x5)) 11 := by
  sl_kernel_rfl

end Cert.Kernel2Ideal.Gen
end
-- ==== Proof.TGlueB.lean ====
module
public import proofs.«01_k».proof.Proof.TTile
@[expose] public section
set_option maxRecDepth 16384
noncomputable section
namespace Cert.Kernel2Ideal.Gen
open Idealize.ShloMosaic Idealize.ShloMosaic.TcCoe Idealize.ShloMosaic.Tactic
open Idealize.SL Idealize.SL.Sem
open Idealize.ShloMosaic.Pipeline (Dat Cfg Window BodyObligation cellOf)

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S11x16x512 .f32) (harg16 : arg16.IsWhole) (arg17 : Memref sig .tc .vmem S8x576x128 .f32) (harg17 : arg17.IsWhole) (arg18 : Memref sig .tc .vmem S512x2816 .bf16) (harg18 : arg18.IsWhole) (hc0 : ¬cond0_0 i) (x0 : Vec Ideal S512x1024 .f32) (x1 : Vec Ideal S512x512 .bf16) (x2 : Vec Ideal S512x512 .bf16) (x3 : Vec Ideal S512x256 .f32) (x4 : Vec Ideal S1024x1024 .bf16) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1024x1024 .bf16) (x12 : Vec Ideal S256x1024 .bf16) (x13 : Vec Ideal S1x1024 .f32) (xs0 : Vec Ideal S11x16x512 .f32)

theorem hidB : (kernelRun0_B.sl.v24 (F := Ideal) c arg1 harg1 arg2 harg2 arg3 harg3 arg5 harg5 x0 x1 x2 x4) =
    hT (rdT arg1 harg1 x0 (Rect.unit ![0, 0] S512x1024.size (by decide))) (rdT arg2 harg2 x1 (Rect.unit ![0, 0] S512x512.size (by decide))) (rdT arg3 harg3 x2 (Rect.unit ![0, 0] S512x512.size (by decide))) (rdT arg5 harg5 x4 (Rect.unit ![0, 0] S512x1024.size (by decide))) (rdT arg5 harg5 x4 (Rect.unit ![512, 0] S512x1024.size (by decide))) := by
  sl_kernel_rfl

theorem embB : (kernelRun0_B.sl.v30 (F := Ideal) c arg4 harg4 arg13 harg13 x3 x12) =
    pT (rdT arg4 harg4 x3 (Rect.unit ![0, 0] S512x256.size (by decide))) (rdT arg13 harg13 x12 (Rect.unit ![0, 0] S256x1024.size (by decide))) := by
  sl_kernel_rfl

theorem rmsB : (kernelRun0_B.sl.v44 (F := Ideal) c arg1 harg1 arg2 harg2 arg3 harg3 arg5 harg5 arg6 harg6 x0 x1 x2 x4 x5) =
    rmsT (kernelRun0_B.sl.v24 (F := Ideal) c arg1 harg1 arg2 harg2 arg3 harg3 arg5 harg5 x0 x1 x2 x4) (rdT arg6 harg6 x5 (Rect.unit ![0, 0] S1x1024.size (by decide))) := by
  sl_kernel_rfl

theorem segsB : (kernelRun0_B.sl.HS1_64 (F := Ideal) c arg1 harg1 arg2 harg2 arg3 harg3 arg5 harg5 arg6 harg6 x0 x1 x2 x4 x5) =
    segList (kernelRun0_B.sl.v44 (F := Ideal) c arg1 harg1 arg2 harg2 arg3 harg3 arg5 harg5 arg6 harg6 x0 x1 x2 x4 x5) := by
  sl_kernel_rfl

theorem rowsB : (kernelRun0_B.sl.v1333 (F := Ideal) c arg1 harg1 arg2 harg2 arg3 harg3 arg5 harg5 arg6 harg6 arg17 x0 x1 x2 x4 x5) =
    rowsT arg17.view (kernelRun0_B.sl.HS1_64 (F := Ideal) c arg1 harg1 arg2 harg2 arg3 harg3 arg5 harg5 arg6 harg6 x0 x1 x2 x4 x5) := by
  sl_kernel_rfl

theorem truncB : (kernelRun0_B.sl.v1334 (F := Ideal) c arg1 harg1 arg2 harg2 arg3 harg3 arg5 harg5 arg6 harg6 arg17 x0 x1 x2 x4 x5) =
    truncf (F := Ideal) .bf16 (kernelRun0_B.sl.v1333 (F := Ideal) c arg1 harg1 arg2 harg2 arg3 harg3 arg5 harg5 arg6 harg6 arg17 x0 x1 x2 x4 x5) bitsLt_bf16_f32 := by
  sl_kernel_rfl

theorem actsB : (kernelRun0_B.sl.HS2_11 (F := Ideal) c arg1 harg1 arg2 harg2 arg3 harg3 arg5 harg5 arg6 harg6 arg7 harg7 arg8 harg8 arg9 harg9 arg16 harg16 arg17 x0 x1 x2 x4 x5 x6 x7 x8 xs0) =
    actList arg8 harg8 arg9 harg9 x7 x8 (zc arg7 harg7 x6 (kernelRun0_B.sl.v1334 (F := Ideal) c arg1 harg1 arg2 harg2 arg3 harg3 arg5 harg5 arg6 harg6 arg17 x0 x1 x2 x4 x5)) (fun j => rdT arg16 harg16 xs0 (kR j)) := by
  sl_kernel_rfl

theorem actB : (kernelRun0_B.sl.v2117 (F := Ideal) c arg1 harg1 arg2 harg2 arg3 harg3 arg5 harg5 arg6 harg6 arg7 harg7 arg8 harg8 arg9 harg9 arg16 harg16 arg17 arg18 x0 x1 x2 x4 x5 x6 x7 x8 xs0) =
    arg18.view.readCov (kernelRun0_B.sl.HS2_11 (F := Ideal) c arg1 harg1 arg2 harg2 arg3 harg3 arg5 harg5 arg6 harg6 arg7 harg7 arg8 harg8 arg9 harg9 arg16 harg16 arg17 x0 x1 x2 x4 x5 x6 x7 x8 xs0) (Rect.unit ![0, 0] S512x2816.size (by decide)).toLoadRect := by
  sl_kernel_rfl

theorem backB : (kernelRun0_B.sl.HS1_576 (F := Ideal) c arg1 harg1 arg2 harg2 arg3 harg3 arg5 harg5 arg6 harg6 arg7 harg7 arg8 harg8 arg9 harg9 arg10 harg10 arg16 harg16 arg17 arg18 x0 x1 x2 x4 x5 x6 x7 x8 x9 xs0) =
    rowList (dT (kernelRun0_B.sl.v2117 (F := Ideal) c arg1 harg1 arg2 harg2 arg3 harg3 arg5 harg5 arg6 harg6 arg7 harg7 arg8 harg8 arg9 harg9 arg16 harg16 arg17 arg18 x0 x1 x2 x4 x5 x6 x7 x8 xs0) (rdT arg10 harg10 x9 (Rect.unit ![0, 0] S2816x1024.size (by decide)))) ++ (kernelRun0_B.sl.HS1_64 (F := Ideal) c arg1 harg1 arg2 harg2 arg3 harg3 arg5 harg5 arg6 harg6 x0 x1 x2 x4 x5) := by
  sl_kernel_rfl

theorem finB : (kernelRun0_B.sl.r_77 (F := Ideal) c arg1 harg1 arg2 harg2 arg3 harg3 arg4 harg4 arg5 harg5 arg6 harg6 arg7 harg7 arg8 harg8 arg9 harg9 arg10 harg10 arg11 harg11 arg12 harg12 arg13 harg13 arg16 harg16 arg17 arg18 x0 x1 x2 x3 x4 x5 x6 x7 x8 x9 x10 x11 x12 xs0) =
    eT (addf (kernelRun0_B.sl.v24 (F := Ideal) c arg1 harg1 arg2 harg2 arg3 harg3 arg5 harg5 x0 x1 x2 x4) (segsT arg17.view (kernelRun0_B.sl.HS1_576 (F := Ideal) c arg1 harg1 arg2 harg2 arg3 harg3 arg5 harg5 arg6 harg6 arg7 harg7 arg8 harg8 arg9 harg9 arg10 harg10 arg16 harg16 arg17 arg18 x0 x1 x2 x4 x5 x6 x7 x8 x9 xs0))) (kernelRun0_B.sl.v30 (F := Ideal) c arg4 harg4 arg13 harg13 x3 x12) (rdT arg11 harg11 x10 (Rect.unit ![0, 0] S1x1024.size (by decide))) (rdT arg12 harg12 x11 (Rect.unit ![0, 0] S1024x1024.size (by decide))) := by
  sl_kernel_rfl

theorem resB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0).1 =
    [⟨Rect.unit ![0, 0] S512x1024.size (by decide), rmsT (kernelRun0_B.sl.r_77 (F := Ideal) c arg1 harg1 arg2 harg2 arg3 harg3 arg4 harg4 arg5 harg5 arg6 harg6 arg7 harg7 arg8 harg8 arg9 harg9 arg10 harg10 arg11 harg11 arg12 harg12 arg13 harg13 arg16 harg16 arg17 arg18 x0 x1 x2 x3 x4 x5 x6 x7 x8 x9 x10 x11 x12 xs0) (rdT arg14 harg14 x13 (Rect.unit ![0, 0] S1x1024.size (by decide)))⟩] := by
  sl_kernel_rfl

theorem keepB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0).2.1 =
    keepList [] (zc arg7 harg7 x6 (kernelRun0_B.sl.v1334 (F := Ideal) c arg1 harg1 arg2 harg2 arg3 harg3 arg5 harg5 arg6 harg6 arg17 x0 x1 x2 x4 x5)) 11 := by
  sl_kernel_rfl

end Cert.Kernel2Ideal.Gen
end
-- ==== Proof.TOut.lean ====
module
public import proofs.«01_k».proof.Proof.TBody
public import proofs.«01_k».proof.Proof.TGlueA
public import proofs.«01_k».proof.Proof.TGlueB
@[expose] public section
set_option maxRecDepth 16384
noncomputable section
namespace Cert.Kernel2Ideal.Gen
open Idealize.ShloMosaic Idealize.ShloMosaic.TcCoe Idealize.ShloMosaic.Tactic
open Idealize.SL Idealize.SL.Sem Cert.Tail
open Idealize.ShloMosaic.Pipeline (Dat Cfg Window BodyObligation cellOf)

theorem one_piece (P : FVec Ideal S512x1024 .f32) (inb) (y : S512x1024.Idx) :
    View.canon [(⟨Rect.unit ![0, 0] S512x1024.size inb, P⟩ : View.Piece (Elt Ideal) S512x1024 .f32)] y = P y := by
  have hy : (Rect.unit ![0, 0] S512x1024.size inb : Rect S512x1024).emb y = y := by
    funext a
    fin_cases a
    · exact Fin.ext ((Nat.zero_add _).trans (Nat.one_mul _))
    · exact Fin.ext ((Nat.zero_add _).trans (Nat.one_mul _))
  exact (congrArg (View.canon _) hy.symm).trans (View.canon_cons_emb _ _ _ _)

theorem kR_rd (m : Memref sig .tc .vmem S11x16x512 .f32) (h : m.IsWhole) (x : Vec Ideal S11x16x512 .f32) (j : ℕ) (hj : j < 11) (i : Fin 16) (f : Fin 512) :
    (rdT m h x (kR j) (ix3 (0 : Fin 1) i f) : EReal) = x (ix3 (⟨j, hj⟩ : Fin 11) i f) := by
  rw [rdT_eq]
  exact congrArg x (kR_emb j hj i f)

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S11x16x512 .f32) (harg16 : arg16.IsWhole) (arg17 : Memref sig .tc .vmem S8x576x128 .f32) (harg17 : arg17.IsWhole) (arg18 : Memref sig .tc .vmem S512x2816 .bf16) (harg18 : arg18.IsWhole) (hc0 : cond0_0 i) (x0 : Vec Ideal S512x1024 .f32) (x1 : Vec Ideal S512x512 .bf16) (x2 : Vec Ideal S512x512 .bf16) (x3 : Vec Ideal S512x256 .f32) (x4 : Vec Ideal S1024x1024 .bf16) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1024x1024 .bf16) (x12 : Vec Ideal S256x1024 .bf16) (x13 : Vec Ideal S1x1024 .f32)

theorem outA_at (r : Fin 512) (j : Fin 1024) :
    (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 (ix2 r j) : EReal) =
      Weights.fin (tileW x4 x5 x6 x7 x8 x9 x10 x11 x12 x13) ((hRow x0 x1 x2 (tileW x4 x5 x6 x7 x8 x9 x10 x11 x12 x13)) r.val) (zTwo (tileW x4 x5 x6 x7 x8 x9 x10 x11 x12 x13) (hRow x0 x1 x2 (tileW x4 x5 x6 x7 x8 x9 x10 x11 x12 x13)) (fun _ => 0) (fun _ => 0) r.val) (zOne (tileW x4 x5 x6 x7 x8 x9 x10 x11 x12 x13) (hRow x0 x1 x2 (tileW x4 x5 x6 x7 x8 x9 x10 x11 x12 x13)) (fun _ => 0) r.val) (Weights.up (tileW x4 x5 x6 x7 x8 x9 x10 x11 x12 x13) ((hRow x0 x1 x2 (tileW x4 x5 x6 x7 x8 x9 x10 x11 x12 x13)) r.val))
        (fun k => x3 (ix2 r k)) j := by
  unfold out0_A_14
  rw [View.read_writes_junk_eq_canon, resA]
  refine (one_piece _ _ _).trans ?_
  exact tile_at arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13
    arg17.view arg18.view _ _ _ _ _ _ _ _ _ _ _ (hidA c arg1 harg1 arg2 harg2 arg3 harg3 arg5 harg5 x0 x1 x2 x4) (rmsA c arg1 harg1 arg2 harg2 arg3 harg3 arg5 harg5 arg6 harg6 x0 x1 x2 x4 x5) (segsA c arg1 harg1 arg2 harg2 arg3 harg3 arg5 harg5 arg6 harg6 x0 x1 x2 x4 x5) (rowsA c arg1 harg1 arg2 harg2 arg3 harg3 arg5 harg5 arg6 harg6 arg17 x0 x1 x2 x4 x5) (truncA c arg1 harg1 arg2 harg2 arg3 harg3 arg5 harg5 arg6 harg6 arg17 x0 x1 x2 x4 x5) (embA c arg4 harg4 arg13 harg13 x3 x12) (actsA c arg1 harg1 arg2 harg2 arg3 harg3 arg5 harg5 arg6 harg6 arg7 harg7 arg8 harg8 arg9 harg9 arg16 arg17 x0 x1 x2 x4 x5 x6 x7 x8) (actA c arg1 harg1 arg2 harg2 arg3 harg3 arg5 harg5 arg6 harg6 arg7 harg7 arg8 harg8 arg9 harg9 arg16 arg17 arg18 x0 x1 x2 x4 x5 x6 x7 x8) (backA c arg1 harg1 arg2 harg2 arg3 harg3 arg5 harg5 arg6 harg6 arg7 harg7 arg8 harg8 arg9 harg9 arg10 harg10 arg16 arg17 arg18 x0 x1 x2 x4 x5 x6 x7 x8 x9) (finA c arg1 harg1 arg2 harg2 arg3 harg3 arg4 harg4 arg5 harg5 arg6 harg6 arg7 harg7 arg8 harg8 arg9 harg9 arg10 harg10 arg11 harg11 arg12 harg12 arg13 harg13 arg16 arg17 arg18 x0 x1 x2 x3 x4 x5 x6 x7 x8 x9 x10 x11 x12)
    (fun _ => 0) (fun _ => 0) (fun j hj f => keep_read _ _ j hj _ f) (fun j hj f => keep_read _ _ j hj _ f) r j

theorem keptA_at (j : Fin 11) (k : Fin 16) (f : Fin 512) :
    (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 (ix3 j k f) : EReal) =
      Weights.up (tileW x4 x5 x6 x7 x8 x9 x10 x11 x12 x13) ((hRow x0 x1 x2 (tileW x4 x5 x6 x7 x8 x9 x10 x11 x12 x13)) (pos (496 + k.val))) (colOf j.val f) := by
  unfold sout0_A_0
  rw [View.read_writes_junk_eq_canon, keepA]
  refine (keep_canon zeroList _ 11 j.val (le_refl _) j.isLt k f).trans ?_
  rw [if_pos j.isLt]
  exact up_at arg1 harg1 arg2 harg2 arg3 harg3 arg5 harg5 arg6 harg6 arg7 harg7 x0 x1 x2 x4 x5 x6 x7 x8 x9 x10 x11 x12 x13 arg17.view _ _ _ _ _ (hidA c arg1 harg1 arg2 harg2 arg3 harg3 arg5 harg5 x0 x1 x2 x4) (rmsA c arg1 harg1 arg2 harg2 arg3 harg3 arg5 harg5 arg6 harg6 x0 x1 x2 x4 x5) (segsA c arg1 harg1 arg2 harg2 arg3 harg3 arg5 harg5 arg6 harg6 x0 x1 x2 x4 x5) (rowsA c arg1 harg1 arg2 harg2 arg3 harg3 arg5 harg5 arg6 harg6 arg17 x0 x1 x2 x4 x5) (truncA c arg1 harg1 arg2 harg2 arg3 harg3 arg5 harg5 arg6 harg6 arg17 x0 x1 x2 x4 x5) j.val _ f
end

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x256 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S11x16x512 .f32) (harg16 : arg16.IsWhole) (arg17 : Memref sig .tc .vmem S8x576x128 .f32) (harg17 : arg17.IsWhole) (arg18 : Memref sig .tc .vmem S512x2816 .bf16) (harg18 : arg18.IsWhole) (hc0 : ¬cond0_0 i) (x0 : Vec Ideal S512x1024 .f32) (x1 : Vec Ideal S512x512 .bf16) (x2 : Vec Ideal S512x512 .bf16) (x3 : Vec Ideal S512x256 .f32) (x4 : Vec Ideal S1024x1024 .bf16) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1024x1024 .bf16) (x12 : Vec Ideal S256x1024 .bf16) (x13 : Vec Ideal S1x1024 .f32) (xs0 : Vec Ideal S11x16x512 .f32)

theorem outB_at
    (q2 q1 : Fin 5632 → EReal)
    (h1 : ∀ (j : Fin 11) f, (xs0 (ix3 j (15 : Fin 16) f) : EReal) = q1 (colOf j.val f))
    (h2 : ∀ (j : Fin 11) f, (xs0 (ix3 j (7 : Fin 16) f) : EReal) = q2 (colOf j.val f)) (r : Fin 512) (j : Fin 1024) :
    (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 (ix2 r j) : EReal) =
      Weights.fin (tileW x4 x5 x6 x7 x8 x9 x10 x11 x12 x13) ((hRow x0 x1 x2 (tileW x4 x5 x6 x7 x8 x9 x10 x11 x12 x13)) r.val) (zTwo (tileW x4 x5 x6 x7 x8 x9 x10 x11 x12 x13) (hRow x0 x1 x2 (tileW x4 x5 x6 x7 x8 x9 x10 x11 x12 x13)) q2 q1 r.val) (zOne (tileW x4 x5 x6 x7 x8 x9 x10 x11 x12 x13) (hRow x0 x1 x2 (tileW x4 x5 x6 x7 x8 x9 x10 x11 x12 x13)) q1 r.val) (Weights.up (tileW x4 x5 x6 x7 x8 x9 x10 x11 x12 x13) ((hRow x0 x1 x2 (tileW x4 x5 x6 x7 x8 x9 x10 x11 x12 x13)) r.val))
        (fun k => x3 (ix2 r k)) j := by
  unfold out0_B_14
  rw [View.read_writes_junk_eq_canon, resB]
  refine (one_piece _ _ _).trans ?_
  exact tile_at arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13
    arg17.view arg18.view _ _ _ _ _ _ _ _ _ _ _ (hidB c arg1 harg1 arg2 harg2 arg3 harg3 arg5 harg5 x0 x1 x2 x4) (rmsB c arg1 harg1 arg2 harg2 arg3 harg3 arg5 harg5 arg6 harg6 x0 x1 x2 x4 x5) (segsB c arg1 harg1 arg2 harg2 arg3 harg3 arg5 harg5 arg6 harg6 x0 x1 x2 x4 x5) (rowsB c arg1 harg1 arg2 harg2 arg3 harg3 arg5 harg5 arg6 harg6 arg17 x0 x1 x2 x4 x5) (truncB c arg1 harg1 arg2 harg2 arg3 harg3 arg5 harg5 arg6 harg6 arg17 x0 x1 x2 x4 x5) (embB c arg4 harg4 arg13 harg13 x3 x12) (actsB c arg1 harg1 arg2 harg2 arg3 harg3 arg5 harg5 arg6 harg6 arg7 harg7 arg8 harg8 arg9 harg9 arg16 harg16 arg17 x0 x1 x2 x4 x5 x6 x7 x8 xs0) (actB c arg1 harg1 arg2 harg2 arg3 harg3 arg5 harg5 arg6 harg6 arg7 harg7 arg8 harg8 arg9 harg9 arg16 harg16 arg17 arg18 x0 x1 x2 x4 x5 x6 x7 x8 xs0) (backB c arg1 harg1 arg2 harg2 arg3 harg3 arg5 harg5 arg6 harg6 arg7 harg7 arg8 harg8 arg9 harg9 arg10 harg10 arg16 harg16 arg17 arg18 x0 x1 x2 x4 x5 x6 x7 x8 x9 xs0) (finB c arg1 harg1 arg2 harg2 arg3 harg3 arg4 harg4 arg5 harg5 arg6 harg6 arg7 harg7 arg8 harg8 arg9 harg9 arg10 harg10 arg11 harg11 arg12 harg12 arg13 harg13 arg16 harg16 arg17 arg18 x0 x1 x2 x3 x4 x5 x6 x7 x8 x9 x10 x11 x12 xs0)
    q2 q1 (fun j hj f => (kR_rd arg16 harg16 xs0 j hj _ f).trans (h1 ⟨j, hj⟩ f)) (fun j hj f => (kR_rd arg16 harg16 xs0 j hj _ f).trans (h2 ⟨j, hj⟩ f)) r j

theorem keptB_at (j : Fin 11) (k : Fin 16) (f : Fin 512) :
    (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 x13 xs0 (ix3 j k f) : EReal) =
      Weights.up (tileW x4 x5 x6 x7 x8 x9 x10 x11 x12 x13) ((hRow x0 x1 x2 (tileW x4 x5 x6 x7 x8 x9 x10 x11 x12 x13)) (pos (496 + k.val))) (colOf j.val f) := by
  unfold sout0_B_0
  rw [View.read_writes_junk_eq_canon, keepB]
  refine (keep_canon [] _ 11 j.val (le_refl _) j.isLt k f).trans ?_
  rw [if_pos j.isLt]
  exact up_at arg1 harg1 arg2 harg2 arg3 harg3 arg5 harg5 arg6 harg6 arg7 harg7 x0 x1 x2 x4 x5 x6 x7 x8 x9 x10 x11 x12 x13 arg17.view _ _ _ _ _ (hidB c arg1 harg1 arg2 harg2 arg3 harg3 arg5 harg5 x0 x1 x2 x4) (rmsB c arg1 harg1 arg2 harg2 arg3 harg3 arg5 harg5 arg6 harg6 x0 x1 x2 x4 x5) (segsB c arg1 harg1 arg2 harg2 arg3 harg3 arg5 harg5 arg6 harg6 x0 x1 x2 x4 x5) (rowsB c arg1 harg1 arg2 harg2 arg3 harg3 arg5 harg5 arg6 harg6 arg17 x0 x1 x2 x4 x5) (truncB c arg1 harg1 arg2 harg2 arg3 harg3 arg5 harg5 arg6 harg6 arg17 x0 x1 x2 x4 x5) j.val _ f
end

end Cert.Kernel2Ideal.Gen
end
-- ==== Proof.TFold.lean ====
module
public import proofs.«01_k».proof.Proof.TOut
public import proofs.«01_k».proof.Proof.Gen.Kernel2Ideal.Value
@[expose] public section
set_option maxRecDepth 16384
noncomputable section
namespace Cert.Kernel2Ideal.Gen
open Idealize.ShloMosaic Idealize.ShloMosaic.TcCoe Idealize.ShloMosaic.Tactic
open Idealize.SL Idealize.SL.Sem Cert.Tail
open Idealize.ShloMosaic.Pipeline (Dat Cfg Window BodyObligation cellOf)

variable (m : (ℓ : Loc nD τ sig) → Buf (Elt Ideal) ℓ) (c : Dev nD)

/-- The weights the kernel is called on. -/
def weights : Weights where
  wo k j := m ((c : Thread nD τ).loc main_arg4) (ix3 (0 : Fin 1) k j)
  nf j := m ((c : Thread nD τ).loc main_arg5) (ix2 (0 : Fin 1) j)
  wu k f := m ((c : Thread nD τ).loc main_arg6) (ix3 (0 : Fin 1) k f)
  cw t f := m ((c : Thread nD τ).loc main_arg7) (ix3 (0 : Fin 1) t f)
  cb f := m ((c : Thread nD τ).loc main_arg8) (ix2 (0 : Fin 1) f)
  wd f j := m ((c : Thread nD τ).loc main_arg9) (ix3 (0 : Fin 1) f j)
  npl j := m ((c : Thread nD τ).loc main_arg10) (ix2 (0 : Fin 1) j)
  wpg k j := m ((c : Thread nD τ).loc main_arg11) (ix3 (0 : Fin 1) k j)
  wpp k j := m ((c : Thread nD τ).loc main_arg12) (ix3 (0 : Fin 1) k j)
  nfin j := m ((c : Thread nD τ).loc main_arg13) (ix1 j)

/-- The rows the kernel is called on. -/
def rows : Rows where
  x r j := m ((c : Thread nD τ).loc main_arg0) (ix3 (⟨r.val / 4096, by omega⟩ : Fin 16) (⟨r.val % 4096, by omega⟩ : Fin 4096) j)
  og r k := m ((c : Thread nD τ).loc main_arg1) (ix2 r k)
  od r k := m ((c : Thread nD τ).loc main_arg2) (ix2 r k)
  p r k := m ((c : Thread nD τ).loc main_arg3) (ix4 (0 : Fin 1) (⟨r.val / 4096, by omega⟩ : Fin 16) (⟨r.val % 4096, by omega⟩ : Fin 4096) k)

theorem idx : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_3.index t (0 : Fin 2) = t.val ∧ win0_3.index t (1 : Fin 2) = 0 ∧
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = 0 ∧ win0_7.index t (1 : Fin 2) = 0 ∧
    win0_8.index t (0 : Fin 2) = 0 ∧ win0_8.index t (1 : Fin 2) = 0 ∧
    win0_9.index t (0 : Fin 2) = 0 ∧ win0_9.index t (1 : Fin 2) = 0 ∧
    win0_10.index t (0 : Fin 2) = 0 ∧ win0_10.index t (1 : Fin 2) = 0 ∧
    win0_11.index t (0 : Fin 2) = 0 ∧ win0_11.index t (1 : Fin 2) = 0 ∧
    win0_12.index t (0 : Fin 2) = 0 ∧ win0_12.index t (1 : Fin 2) = 0 ∧
    win0_13.index t (0 : Fin 2) = 0 ∧ win0_13.index t (1 : Fin 2) = 0 ∧
    win0_14.index t (0 : Fin 2) = t.val ∧ win0_14.index t (1 : Fin 2) = 0 :=
  (by decide +kernel : ∀ t : Fin grid0.N, _)

theorem t_lt (t : Fin cfg0.N) : t.val < 128 := lt_of_lt_of_eq t.isLt (show cfg0.N = 128 from N_0)

/-- Row `s` of tile `t` among the 65536. -/
abbrev row (t : ℕ) (s : ℕ) : Fin 65536 := ⟨(512 * t + s) % 65536, Nat.mod_lt _ (by norm_num)⟩

theorem V_v0 (r : Fin 65536) (j : Fin 1024) :
    (V m c main_v0 (ix2 r j) : EReal) = m ((c : Thread nD τ).loc main_arg0) (ix3 (⟨r.val / 4096, by omega⟩ : Fin 16) (⟨r.val % 4096, by omega⟩ : Fin 4096) j) := by
  entry_read
  pointwise []
  blk_ext []

theorem V_v2 (r : Fin 65536) (j : Fin 256) :
    (V m c main_v2 (ix2 r j) : EReal) = m ((c : Thread nD τ).loc main_arg3) (ix4 (0 : Fin 1) (⟨r.val / 4096, by omega⟩ : Fin 16) (⟨r.val % 4096, by omega⟩ : Fin 4096) j) := by
  entry_read
  pointwise []
  blk_ext []

theorem V_v4 (r : Fin 1024) (j : Fin 1024) :
    (V m c main_v4 (ix2 r j) : EReal) = m ((c : Thread nD τ).loc main_arg4) (ix3 (0 : Fin 1) r j) := by
  entry_read
  pointwise []
  blk_ext []

theorem V_v6 (r : Fin 1) (j : Fin 1024) :
    (V m c main_v6 (ix2 r j) : EReal) = m ((c : Thread nD τ).loc main_arg5) (ix2 (0 : Fin 1) j) := by
  entry_read
  pointwise []
  blk_ext []

theorem V_v8 (r : Fin 1024) (j : Fin 5632) :
    (V m c main_v8 (ix2 r j) : EReal) = m ((c : Thread nD τ).loc main_arg6) (ix3 (0 : Fin 1) r j) := by
  entry_read
  pointwise []
  blk_ext []

theorem V_v9 (r : Fin 3) (j : Fin 5632) :
    (V m c main_v9 (ix2 r j) : EReal) = m ((c : Thread nD τ).loc main_arg7) (ix3 (0 : Fin 1) r j) := by
  entry_read
  pointwise []
  blk_ext []

theorem V_v11 (r : Fin 1) (j : Fin 5632) :
    (V m c main_v11 (ix2 r j) : EReal) = m ((c : Thread nD τ).loc main_arg8) (ix2 (0 : Fin 1) j) := by
  entry_read
  pointwise []
  blk_ext []

theorem V_v13 (r : Fin 2816) (j : Fin 1024) :
    (V m c main_v13 (ix2 r j) : EReal) = m ((c : Thread nD τ).loc main_arg9) (ix3 (0 : Fin 1) r j) := by
  entry_read
  pointwise []
  blk_ext []

theorem V_v15 (r : Fin 1) (j : Fin 1024) :
    (V m c main_v15 (ix2 r j) : EReal) = m ((c : Thread nD τ).loc main_arg10) (ix2 (0 : Fin 1) j) := by
  entry_read
  pointwise []
  blk_ext []

theorem V_v17 (r : Fin 1024) (j : Fin 1024) :
    (V m c main_v17 (ix2 r j) : EReal) = m ((c : Thread nD τ).loc main_arg11) (ix3 (0 : Fin 1) r j) := by
  entry_read
  pointwise []
  blk_ext []

theorem V_v19 (r : Fin 256) (j : Fin 1024) :
    (V m c main_v19 (ix2 r j) : EReal) = m ((c : Thread nD τ).loc main_arg12) (ix3 (0 : Fin 1) r j) := by
  entry_read
  pointwise []
  blk_ext []

theorem V_v20 (r : Fin 1) (j : Fin 1024) :
    (V m c main_v20 (ix2 r j) : EReal) = m ((c : Thread nD τ).loc main_arg13) (ix1 j) := by
  entry_read
  pointwise []
  blk_ext []

theorem blk_0 (t : Fin cfg0.N) (r : Fin 512) (j : Fin 1024) :
    (iblk m c 0 t (ix2 r j) : EReal) = m ((c : Thread nD τ).loc main_arg0) (ix3 (⟨(row t.val r.val).val / 4096, by omega⟩ : Fin 16) (⟨(row t.val r.val).val % 4096, by omega⟩ : Fin 4096) j) := by
  have ht := t_lt t
  have e := idx t
  have hv : V m c main_v0 = fun i : S65536x1024.Idx => (m ((c : Thread nD τ).loc main_arg0) (ix3 (⟨(i 0).val / 4096, by have := (i 0).isLt; change _ < 65536 at this; omega⟩ : Fin 16) (⟨(i 0).val % 4096, by have := (i 0).isLt; change _ < 65536 at this; omega⟩ : Fin 4096) (i 1)) : EReal) :=
    funext fun i => (congrArg (V m c main_v0) (eq_ix2 i)).trans (V_v0 m c (i 0) (i 1))
  unfold iblk
  rw [show V m c (Pipeline.arrRef spec0 0) = V m c main_v0 from rfl, hv]
  blk_ext [e]

theorem blk_3 (t : Fin cfg0.N) (r : Fin 512) (j : Fin 256) :
    (iblk m c 3 t (ix2 r j) : EReal) = m ((c : Thread nD τ).loc main_arg3) (ix4 (0 : Fin 1) (⟨(row t.val r.val).val / 4096, by omega⟩ : Fin 16) (⟨(row t.val r.val).val % 4096, by omega⟩ : Fin 4096) j) := by
  have ht := t_lt t
  have e := idx t
  have hv : V m c main_v2 = fun i : S65536x256.Idx => (m ((c : Thread nD τ).loc main_arg3) (ix4 (0 : Fin 1) (⟨(i 0).val / 4096, by have := (i 0).isLt; change _ < 65536 at this; omega⟩ : Fin 16) (⟨(i 0).val % 4096, by have := (i 0).isLt; change _ < 65536 at this; omega⟩ : Fin 4096) (i 1)) : EReal) :=
    funext fun i => (congrArg (V m c main_v2) (eq_ix2 i)).trans (V_v2 m c (i 0) (i 1))
  unfold iblk
  rw [show V m c (Pipeline.arrRef spec0 3) = V m c main_v2 from rfl, hv]
  blk_ext [e]

theorem blk_4 (t : Fin cfg0.N) (r : Fin 1024) (j : Fin 1024) :
    (iblk m c 4 t (ix2 r j) : EReal) = m ((c : Thread nD τ).loc main_arg4) (ix3 (0 : Fin 1) r j) := by
  have ht := t_lt t
  have e := idx t
  have hv : V m c main_v4 = fun i : S1024x1024.Idx => (m ((c : Thread nD τ).loc main_arg4) (ix3 (0 : Fin 1) (i 0) (i 1)) : EReal) :=
    funext fun i => (congrArg (V m c main_v4) (eq_ix2 i)).trans (V_v4 m c (i 0) (i 1))
  unfold iblk
  rw [show V m c (Pipeline.arrRef spec0 4) = V m c main_v4 from rfl, hv]
  blk_ext [e]

theorem blk_5 (t : Fin cfg0.N) (r : Fin 1) (j : Fin 1024) :
    (iblk m c 5 t (ix2 r j) : EReal) = m ((c : Thread nD τ).loc main_arg5) (ix2 (0 : Fin 1) j) := by
  have ht := t_lt t
  have e := idx t
  have hv : V m c main_v6 = fun i : S1x1024.Idx => (m ((c : Thread nD τ).loc main_arg5) (ix2 (0 : Fin 1) (i 1)) : EReal) :=
    funext fun i => (congrArg (V m c main_v6) (eq_ix2 i)).trans (V_v6 m c (i 0) (i 1))
  unfold iblk
  rw [show V m c (Pipeline.arrRef spec0 5) = V m c main_v6 from rfl, hv]
  blk_ext [e]

theorem blk_6 (t : Fin cfg0.N) (r : Fin 1024) (j : Fin 5632) :
    (iblk m c 6 t (ix2 r j) : EReal) = m ((c : Thread nD τ).loc main_arg6) (ix3 (0 : Fin 1) r j) := by
  have ht := t_lt t
  have e := idx t
  have hv : V m c main_v8 = fun i : S1024x5632.Idx => (m ((c : Thread nD τ).loc main_arg6) (ix3 (0 : Fin 1) (i 0) (i 1)) : EReal) :=
    funext fun i => (congrArg (V m c main_v8) (eq_ix2 i)).trans (V_v8 m c (i 0) (i 1))
  unfold iblk
  rw [show V m c (Pipeline.arrRef spec0 6) = V m c main_v8 from rfl, hv]
  blk_ext [e]

theorem blk_7 (t : Fin cfg0.N) (r : Fin 3) (j : Fin 5632) :
    (iblk m c 7 t (ix2 r j) : EReal) = m ((c : Thread nD τ).loc main_arg7) (ix3 (0 : Fin 1) r j) := by
  have ht := t_lt t
  have e := idx t
  have hv : V m c main_v9 = fun i : S3x5632.Idx => (m ((c : Thread nD τ).loc main_arg7) (ix3 (0 : Fin 1) (i 0) (i 1)) : EReal) :=
    funext fun i => (congrArg (V m c main_v9) (eq_ix2 i)).trans (V_v9 m c (i 0) (i 1))
  unfold iblk
  rw [show V m c (Pipeline.arrRef spec0 7) = V m c main_v9 from rfl, hv]
  blk_ext [e]

theorem blk_8 (t : Fin cfg0.N) (r : Fin 1) (j : Fin 5632) :
    (iblk m c 8 t (ix2 r j) : EReal) = m ((c : Thread nD τ).loc main_arg8) (ix2 (0 : Fin 1) j) := by
  have ht := t_lt t
  have e := idx t
  have hv : V m c main_v11 = fun i : S1x5632.Idx => (m ((c : Thread nD τ).loc main_arg8) (ix2 (0 : Fin 1) (i 1)) : EReal) :=
    funext fun i => (congrArg (V m c main_v11) (eq_ix2 i)).trans (V_v11 m c (i 0) (i 1))
  unfold iblk
  rw [show V m c (Pipeline.arrRef spec0 8) = V m c main_v11 from rfl, hv]
  blk_ext [e]

theorem blk_9 (t : Fin cfg0.N) (r : Fin 2816) (j : Fin 1024) :
    (iblk m c 9 t (ix2 r j) : EReal) = m ((c : Thread nD τ).loc main_arg9) (ix3 (0 : Fin 1) r j) := by
  have ht := t_lt t
  have e := idx t
  have hv : V m c main_v13 = fun i : S2816x1024.Idx => (m ((c : Thread nD τ).loc main_arg9) (ix3 (0 : Fin 1) (i 0) (i 1)) : EReal) :=
    funext fun i => (congrArg (V m c main_v13) (eq_ix2 i)).trans (V_v13 m c (i 0) (i 1))
  unfold iblk
  rw [show V m c (Pipeline.arrRef spec0 9) = V m c main_v13 from rfl, hv]
  blk_ext [e]

theorem blk_10 (t : Fin cfg0.N) (r : Fin 1) (j : Fin 1024) :
    (iblk m c 10 t (ix2 r j) : EReal) = m ((c : Thread nD τ).loc main_arg10) (ix2 (0 : Fin 1) j) := by
  have ht := t_lt t
  have e := idx t
  have hv : V m c main_v15 = fun i : S1x1024.Idx => (m ((c : Thread nD τ).loc main_arg10) (ix2 (0 : Fin 1) (i 1)) : EReal) :=
    funext fun i => (congrArg (V m c main_v15) (eq_ix2 i)).trans (V_v15 m c (i 0) (i 1))
  unfold iblk
  rw [show V m c (Pipeline.arrRef spec0 10) = V m c main_v15 from rfl, hv]
  blk_ext [e]

theorem blk_11 (t : Fin cfg0.N) (r : Fin 1024) (j : Fin 1024) :
    (iblk m c 11 t (ix2 r j) : EReal) = m ((c : Thread nD τ).loc main_arg11) (ix3 (0 : Fin 1) r j) := by
  have ht := t_lt t
  have e := idx t
  have hv : V m c main_v17 = fun i : S1024x1024.Idx => (m ((c : Thread nD τ).loc main_arg11) (ix3 (0 : Fin 1) (i 0) (i 1)) : EReal) :=
    funext fun i => (congrArg (V m c main_v17) (eq_ix2 i)).trans (V_v17 m c (i 0) (i 1))
  unfold iblk
  rw [show V m c (Pipeline.arrRef spec0 11) = V m c main_v17 from rfl, hv]
  blk_ext [e]

theorem blk_12 (t : Fin cfg0.N) (r : Fin 256) (j : Fin 1024) :
    (iblk m c 12 t (ix2 r j) : EReal) = m ((c : Thread nD τ).loc main_arg12) (ix3 (0 : Fin 1) r j) := by
  have ht := t_lt t
  have e := idx t
  have hv : V m c main_v19 = fun i : S256x1024.Idx => (m ((c : Thread nD τ).loc main_arg12) (ix3 (0 : Fin 1) (i 0) (i 1)) : EReal) :=
    funext fun i => (congrArg (V m c main_v19) (eq_ix2 i)).trans (V_v19 m c (i 0) (i 1))
  unfold iblk
  rw [show V m c (Pipeline.arrRef spec0 12) = V m c main_v19 from rfl, hv]
  blk_ext [e]

theorem blk_13 (t : Fin cfg0.N) (r : Fin 1) (j : Fin 1024) :
    (iblk m c 13 t (ix2 r j) : EReal) = m ((c : Thread nD τ).loc main_arg13) (ix1 j) := by
  have ht := t_lt t
  have e := idx t
  have hv : V m c main_v20 = fun i : S1x1024.Idx => (m ((c : Thread nD τ).loc main_arg13) (ix1 (i 1)) : EReal) :=
    funext fun i => (congrArg (V m c main_v20) (eq_ix2 i)).trans (V_v20 m c (i 0) (i 1))
  unfold iblk
  rw [show V m c (Pipeline.arrRef spec0 13) = V m c main_v20 from rfl, hv]
  blk_ext [e]

theorem blk_1 (t : Fin cfg0.N) (r : Fin 512) (j : Fin 512) :
    (iblk m c 1 t (ix2 r j) : EReal) = m ((c : Thread nD τ).loc main_arg1) (ix2 (row t.val r.val) j) := by
  have ht := t_lt t
  have e := idx t
  blk_ext [iblk, V, e]

theorem blk_2 (t : Fin cfg0.N) (r : Fin 512) (j : Fin 512) :
    (iblk m c 2 t (ix2 r j) : EReal) = m ((c : Thread nD τ).loc main_arg2) (ix2 (row t.val r.val) j) := by
  have ht := t_lt t
  have e := idx t
  blk_ext [iblk, V, e]

theorem tileW_eq (t : Fin cfg0.N) : tileW (iblk m c 4 t) (iblk m c 5 t) (iblk m c 6 t) (iblk m c 7 t) (iblk m c 8 t) (iblk m c 9 t)
    (iblk m c 10 t) (iblk m c 11 t) (iblk m c 12 t) (iblk m c 13 t) = weights m c := by
  unfold tileW weights
  congr 1
  · funext a b; exact blk_4 m c t a b
  · funext b; exact blk_5 m c t 0 b
  · funext a b; exact blk_6 m c t a b
  · funext a b; exact blk_7 m c t a b
  · funext b; exact blk_8 m c t 0 b
  · funext a b; exact blk_9 m c t a b
  · funext b; exact blk_10 m c t 0 b
  · funext a b; exact blk_11 m c t a b
  · funext a b; exact blk_12 m c t a b
  · funext b; exact blk_13 m c t 0 b

theorem hRow_eq (t : Fin cfg0.N) (s : ℕ) (hs : s < 512) :
    hRow (iblk m c 0 t) (iblk m c 1 t) (iblk m c 2 t) (weights m c) s = hid (weights m c) (rows m c) (row t.val s) := by
  have e : s % 512 = s := Nat.mod_eq_of_lt hs
  unfold hRow hid
  have e0 : (fun j => (iblk m c 0 t (ix2 (⟨s % 512, by omega⟩ : Fin 512) j) : EReal)) = (rows m c).x (row t.val s) := by
    funext j; refine (blk_0 m c t _ j).trans ?_; simp only [e]; rfl
  have e1 : (fun j => (iblk m c 1 t (ix2 (⟨s % 512, by omega⟩ : Fin 512) j) : EReal)) = (rows m c).og (row t.val s) := by
    funext j; refine (blk_1 m c t _ j).trans ?_; simp only [e]; rfl
  have e2 : (fun j => (iblk m c 2 t (ix2 (⟨s % 512, by omega⟩ : Fin 512) j) : EReal)) = (rows m c).od (row t.val s) := by
    funext j; refine (blk_2 m c t _ j).trans ?_; simp only [e]; rfl
  rw [e0, e1, e2]

/-- What a point keeps: the up projection of its rows 510 and 511. -/
theorem kept_eq (t : Fin cfg0.N) (j : Fin 11) (f : Fin 512) :
    ((outsAt0 m c t.val t.isLt).2 (ix3 j (15 : Fin 16) f) : EReal) = (weights m c).up (hid (weights m c) (rows m c) (row t.val 511)) (colOf j.val f) ∧
    ((outsAt0 m c t.val t.isLt).2 (ix3 j (7 : Fin 16) f) : EReal) = (weights m c).up (hid (weights m c) (rows m c) (row t.val 510)) (colOf j.val f) := by
  rcases Nat.eq_zero_or_pos (t.val % 8) with h0 | h0
  · have e := congrArg Prod.snd (outsAt0_A m c t h0)
    dsimp only at e
    rw [e, keptA_at, keptA_at, tileW_eq, ← hRow_eq m c t 511 (by omega), ← hRow_eq m c t 510 (by omega)]
    exact ⟨rfl, rfl⟩
  · have e := congrArg Prod.snd (outsAt0_B m c t (by omega))
    dsimp only at e
    rw [e, keptB_at, keptB_at, tileW_eq, ← hRow_eq m c t 511 (by omega), ← hRow_eq m c t 510 (by omega)]
    exact ⟨rfl, rfl⟩

/-- What a point leaves in the output block. -/
theorem outs_eq (t : Fin cfg0.N) (r : Fin 512) (j : Fin 1024) :
    ((outsAt0 m c t.val t.isLt).1 (ix2 r j) : EReal) = out (weights m c) (rows m c) (row t.val r.val) j := by
  have ht := t_lt t
  have er : (row t.val r.val).val = 512 * t.val + r.val := Nat.mod_eq_of_lt (by omega)
  have hp : (fun k => (iblk m c 3 t (ix2 r k) : EReal)) = (rows m c).p (row t.val r.val) := funext fun k => blk_3 m c t r k
  have hz0 : (weights m c).up (hRow (iblk m c 0 t) (iblk m c 1 t) (iblk m c 2 t) (weights m c) r.val) =
      zback (weights m c) (rows m c) 0 (row t.val r.val) := by
    funext f
    unfold zback
    rw [if_neg (by omega), hRow_eq m c t r.val r.isLt]
    rfl
  have hb : ∀ k : ℕ, k ≤ r.val → ∀ f, (weights m c).up (hRow (iblk m c 0 t) (iblk m c 1 t) (iblk m c 2 t) (weights m c) (r.val - k)) f =
      zback (weights m c) (rows m c) k (row t.val r.val) f := fun k hk f => by
    unfold zback
    rw [if_neg (by omega), hRow_eq m c t (r.val - k) (by omega)]
    congr 2
    exact Fin.ext (by simp only [row]; omega)
  have key : ∀ q2 q1 : Fin 5632 → EReal,
      (∀ f, r.val = 0 → q1 f = zback (weights m c) (rows m c) 1 (row t.val r.val) f) →
      (∀ f, r.val = 0 → q2 f = zback (weights m c) (rows m c) 2 (row t.val r.val) f) →
      (∀ f, r.val = 1 → q1 f = zback (weights m c) (rows m c) 2 (row t.val r.val) f) →
      (weights m c).fin (hRow (iblk m c 0 t) (iblk m c 1 t) (iblk m c 2 t) (weights m c) r.val)
        (zTwo (weights m c) (hRow (iblk m c 0 t) (iblk m c 1 t) (iblk m c 2 t) (weights m c)) q2 q1 r.val)
        (zOne (weights m c) (hRow (iblk m c 0 t) (iblk m c 1 t) (iblk m c 2 t) (weights m c)) q1 r.val)
        ((weights m c).up (hRow (iblk m c 0 t) (iblk m c 1 t) (iblk m c 2 t) (weights m c) r.val))
        (fun k => iblk m c 3 t (ix2 r k)) j = out (weights m c) (rows m c) (row t.val r.val) j := by
    intro q2 q1 a1 a2 a3
    have h1 : zOne (weights m c) (hRow (iblk m c 0 t) (iblk m c 1 t) (iblk m c 2 t) (weights m c)) q1 r.val =
        zback (weights m c) (rows m c) 1 (row t.val r.val) := by
      funext f
      unfold zOne
      by_cases h : r.val = 0
      · rw [if_pos h]; exact a1 f h
      · rw [if_neg h]; exact hb 1 (by omega) f
    have h2 : zTwo (weights m c) (hRow (iblk m c 0 t) (iblk m c 1 t) (iblk m c 2 t) (weights m c)) q2 q1 r.val =
        zback (weights m c) (rows m c) 2 (row t.val r.val) := by
      funext f
      unfold zTwo
      by_cases h : r.val = 0
      · rw [if_pos h]; exact a2 f h
      · rw [if_neg h]
        by_cases h' : r.val = 1
        · rw [if_pos h']; exact a3 f h'
        · rw [if_neg h']; exact hb 2 (by omega) f
    rw [h1, h2, hz0, hp, hRow_eq m c t r.val r.isLt]
    rfl
  rcases Nat.eq_zero_or_pos (t.val % 8) with h0 | h0
  · have e := congrFun (congrArg Prod.fst (outsAt0_A m c t h0)) (ix2 r j)
    dsimp only at e
    rw [e, outA_at, tileW_eq]
    refine key _ _ (fun f h => ?_) (fun f h => ?_) (fun f h => ?_)
    · unfold zback; rw [if_pos (by omega)]
    · unfold zback; rw [if_pos (by omega)]
    · unfold zback; rw [if_pos (by omega)]
  · have hpp : t.val - 1 < cfg0.N := by have := t.isLt; omega
    have e := congrFun (congrArg Prod.fst (outsAt0_B m c t (by omega))) (ix2 r j)
    dsimp only at e
    have hk := kept_eq m c ⟨t.val - 1, hpp⟩
    rw [e]
    refine (outB_at _ _ _ _ _ _ _ _ _ _ _ _ _ _ _ _ _ _ _ _ _ _ _ _ _ _ _ _ _ _ _ _ _ _ _ _ _ _ _ _ _ _ _ _ _ _ _ _ _ _ _ _ _ _
      ((weights m c).up (hid (weights m c) (rows m c) (row (t.val - 1) 510)))
      ((weights m c).up (hid (weights m c) (rows m c) (row (t.val - 1) 511)))
      (fun j f => (hk j f).1) (fun j f => (hk j f).2) r j).trans ?_
    rw [tileW_eq]
    refine key _ _ (fun f h => ?_) (fun f h => ?_) (fun f h => ?_)
    · unfold zback; rw [if_neg (by omega)]; congr 2; exact Fin.ext (by simp only [row]; omega)
    · unfold zback; rw [if_neg (by omega)]; congr 2; exact Fin.ext (by simp only [row]; omega)
    · unfold zback; rw [if_neg (by omega)]; congr 2; exact Fin.ext (by simp only [row]; omega)

/-- What the call leaves in its result. -/
theorem result_eq (i : S65536x1024.Idx) :
    (Cert.Kernel2Ideal.Value.G14 m c i : EReal) = out (weights m c) (rows m c) (i 0) (i 1) := by
  have h0 : (i 0).val < 65536 := (i 0).isLt
  have h1 : (i 1).val < 1024 := (i 1).isLt
  have hp : Cert.Kernel2Ideal.Value.pt14Of i < cfg0.N := by
    rw [show cfg0.N = 128 from N_0]
    simp only [Cert.Kernel2Ideal.Value.pt14Of, Cert.Kernel2Ideal.Value.run14Of]
    omega
  unfold Cert.Kernel2Ideal.Value.G14
  rw [dif_pos hp]
  have e := Cert.Kernel2Ideal.Value.outsAt0_sweep m c _ hp
  rw [← e]
  have el : Cert.Kernel2Ideal.Value.loc14Of i = ix2 (⟨(i 0).val % 512, by omega⟩ : Fin 512) (⟨(i 1).val % 1024, by omega⟩ : Fin 1024) := by
    funext a; fin_cases a <;> rfl
  rw [el]
  refine (outs_eq m c ⟨_, hp⟩ _ _).trans ?_
  congr 1
  · apply Fin.ext
    simp only [row, Cert.Kernel2Ideal.Value.pt14Of, Cert.Kernel2Ideal.Value.run14Of]
    omega
  · apply Fin.ext
    simp only
    omega

end Cert.Kernel2Ideal.Gen
end
-- ==== Proof.TRef.lean ====
module
public import proofs.«01_k».proof.Proof.Tail
public import proofs.«01_k».proof.Proof.Gen.Reference2Ideal.Run
public import Idealize.ShloMosaic.Lib.Pipeline.ValueKit
public import Idealize.ShloMosaic.Lib.Quiescent
@[expose] public section
set_option maxRecDepth 16384
noncomputable section
namespace Cert.Reference2Ideal.Value
open Idealize.ShloMosaic Idealize.ShloMosaic.TcCoe Idealize.ShloMosaic.Tactic Idealize.ShloMosaic.StableHlo
open Cert.Reference2Ideal.Gen Idealize.SL Idealize.SL.Sem Cert.Tail

variable (V0 : Valuation τ sig (Elt Ideal))

/-- The weights among the reference's arrays. -/
def weights : Weights where
  wo k j := (V0 (Proc.devRef .tc main_arg4) : FVec Ideal S1x1024x1024 .f32) (ix3 (0 : Fin 1) k j)
  nf j := (V0 (Proc.devRef .tc main_arg5) : FVec Ideal S1x1024 .f32) (ix2 (0 : Fin 1) j)
  wu k f := (V0 (Proc.devRef .tc main_arg6) : FVec Ideal S1x1024x5632 .f32) (ix3 (0 : Fin 1) k f)
  cw t f := (V0 (Proc.devRef .tc main_arg7) : FVec Ideal S1x3x5632 .f32) (ix3 (0 : Fin 1) t f)
  cb f := (V0 (Proc.devRef .tc main_arg8) : FVec Ideal S1x5632 .f32) (ix2 (0 : Fin 1) f)
  wd f j := (V0 (Proc.devRef .tc main_arg9) : FVec Ideal S1x2816x1024 .f32) (ix3 (0 : Fin 1) f j)
  npl j := (V0 (Proc.devRef .tc main_arg10) : FVec Ideal S1x1024 .f32) (ix2 (0 : Fin 1) j)
  wpg k j := (V0 (Proc.devRef .tc main_arg11) : FVec Ideal S1x1024x1024 .f32) (ix3 (0 : Fin 1) k j)
  wpp k j := (V0 (Proc.devRef .tc main_arg12) : FVec Ideal S1x256x1024 .f32) (ix3 (0 : Fin 1) k j)
  nfin j := (V0 (Proc.devRef .tc main_arg13) : FVec Ideal S1024 .f32) (ix1 j)

/-- The rows among them. -/
def rows : Rows where
  x r j := (V0 (Proc.devRef .tc main_arg0) : FVec Ideal S16x4096x1024 .f32) (ix3 ⟨r.val / 4096, by omega⟩ ⟨r.val % 4096, by omega⟩ j)
  og r k := (V0 (Proc.devRef .tc main_arg1) : FVec Ideal S65536x512 .bf16) (ix2 r k)
  od r k := (V0 (Proc.devRef .tc main_arg2) : FVec Ideal S65536x512 .bf16) (ix2 r k)
  p r k := (V0 (Proc.devRef .tc main_arg3) : FVec Ideal S1x16x4096x256 .f32) (ix4 (0 : Fin 1) ⟨r.val / 4096, by omega⟩ ⟨r.val % 4096, by omega⟩ k)

abbrev tok (b : Fin 16) (t : Fin 4096) : Fin 65536 := ⟨4096 * b.val + t.val, by omega⟩

def h1T (a0 : FVec Ideal S16x4096x1024 .f32) (a1 : FVec Ideal S65536x512 .bf16) (a2 : FVec Ideal S65536x512 .bf16) (a4 : FVec Ideal S1x1024x1024 .f32) : FVec Ideal S16x4096x1024 .f32 :=
  addf (F := Ideal) (φ := .f32) a0 (Host.dotGeneral dot_S16x4096x1024_S1024x1024_S16x4096x1024_2_0_01_1_n_n none (concatenate S16x4096x1024 2 [⟨S16x4096x512, (shapeCast _ (extf .f32 a1 bitsLt_bf16_f32) shapeCasts_S65536x512_S16x4096x512)⟩, ⟨S16x4096x512, (shapeCast _ (extf .f32 a2 bitsLt_bf16_f32) shapeCasts_S65536x512_S16x4096x512)⟩] concatenates_S16x4096x512_S16x4096x512_S16x4096x1024_d2) (shapeCast _ a4 shapeCasts_S1x1024x1024_S1024x1024))

def zT (H : FVec Ideal S16x4096x1024 .f32) (a5 : FVec Ideal S1x1024 .f32) (a6 : FVec Ideal S1x1024x5632 .f32) : FVec Ideal S16x4098x5632 .f32 :=
  pad S16x4098x5632 ![0, 2, 0] ![0, 0, 0] ![0, 0, 0] (Host.dotGeneral dot_S16x4096x1024_S1024x5632_S16x4096x5632_2_0_01_1_n_n none (mulf (F := Ideal) (φ := .f32) (mulf (F := Ideal) (φ := .f32) H (broadcastInDim S16x4096x1024 ![0, 1, 2] bcast_S16x4096x1_S16x4096x1024_0_1_2 (Host.rsqrt (addf (F := Ideal) (φ := .f32) (Host.divf (broadcastInDim S16x4096x1 ![0, 1] bcast_S16x4096_S16x4096x1_0_1 (Host.reduceAdd (mulf (F := Ideal) (φ := .f32) H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ a5 shapeCasts_S1x1024_S1024)))) (shapeCast _ a6 shapeCasts_S1x1024x5632_S1024x5632)) (sitofp .f32 (constantI S_ 32 0#32)) pads_S16x4096x5632_S16x4098x5632_000_200_000 h_S_

def cvT (Z : FVec Ideal S16x4098x5632 .f32) (a7 : FVec Ideal S1x3x5632 .f32) (a8 : FVec Ideal S1x5632 .f32) : FVec Ideal S16x4096x5632 .f32 :=
  addf (F := Ideal) (φ := .f32) (broadcastInDim S16x4096x5632 ![0, 1, 2] bcast_S1x1x5632_S16x4096x5632_0_1_2 (broadcastInDim S1x1x5632 ![2] bcast_S5632_S1x1x5632_2 (shapeCast _ a8 shapeCasts_S1x5632_S5632))) (addf (F := Ideal) (φ := .f32) (addf (F := Ideal) (φ := .f32) (addf (F := Ideal) (φ := .f32) (broadcastInDim S16x4096x5632 ![] bcast_S_S16x4096x5632 (constant S_ .f32 0x00000000#32)) (mulf (F := Ideal) (φ := .f32) (extractStridedSlice S16x4096x5632 ![0, 0, 0] Z slices_S16x4098x5632_S16x4096x5632_0_0_0) (broadcastInDim S16x4096x5632 ![0, 1, 2] bcast_S1x1x5632_S16x4096x5632_0_1_2 (broadcastInDim S1x1x5632 ![2] bcast_S5632_S1x1x5632_2 (shapeCast _ (extractStridedSlice S1x5632 ![0, 0] (shapeCast S3x5632 a7 shapeCasts_S1x3x5632_S3x5632) slices_S3x5632_S1x5632_0_0) shapeCasts_S1x5632_S5632))))) (mulf (F := Ideal) (φ := .f32) (extractStridedSlice S16x4096x5632 ![0, 1, 0] Z slices_S16x4098x5632_S16x4096x5632_0_1_0) (broadcastInDim S16x4096x5632 ![0, 1, 2] bcast_S1x1x5632_S16x4096x5632_0_1_2 (broadcastInDim S1x1x5632 ![2] bcast_S5632_S1x1x5632_2 (shapeCast _ (extractStridedSlice S1x5632 ![1, 0] (shapeCast S3x5632 a7 shapeCasts_S1x3x5632_S3x5632) slices_S3x5632_S1x5632_1_0) shapeCasts_S1x5632_S5632))))) (mulf (F := Ideal) (φ := .f32) (extractStridedSlice S16x4096x5632 ![0, 2, 0] Z slices_S16x4098x5632_S16x4096x5632_0_2_0) (broadcastInDim S16x4096x5632 ![0, 1, 2] bcast_S1x1x5632_S16x4096x5632_0_1_2 (broadcastInDim S1x1x5632 ![2] bcast_S5632_S1x1x5632_2 (shapeCast _ (extractStridedSlice S1x5632 ![2, 0] (shapeCast S3x5632 a7 shapeCasts_S1x3x5632_S3x5632) slices_S3x5632_S1x5632_2_0) shapeCasts_S1x5632_S5632)))))

def h2T (H : FVec Ideal S16x4096x1024 .f32) (C : FVec Ideal S16x4096x5632 .f32) (a9 : FVec Ideal S1x2816x1024 .f32) : FVec Ideal S16x4096x1024 .f32 :=
  addf (F := Ideal) (φ := .f32) H (Host.dotGeneral dot_S16x4096x2816_S2816x1024_S16x4096x1024_2_0_01_1_n_n none (mulf (F := Ideal) (φ := .f32) (mulf (F := Ideal) (φ := .f32) (extractStridedSlice S16x4096x2816 ![0, 0, 0] C slices_S16x4096x5632_S16x4096x2816_0_0_0) (mulf (F := Ideal) (φ := .f32) (broadcastInDim S16x4096x2816 ![] bcast_S_S16x4096x2816 (constant S_ .f32 0x3F000000#32)) (addf (F := Ideal) (φ := .f32) (broadcastInDim S16x4096x2816 ![] bcast_S_S16x4096x2816 (constant S_ .f32 0x3F800000#32)) (Host.tanh (mulf (F := Ideal) (φ := .f32) (broadcastInDim S16x4096x2816 ![] bcast_S_S16x4096x2816 (constant S_ .f32 0x3F4C422A#32)) (addf (F := Ideal) (φ := .f32) (extractStridedSlice S16x4096x2816 ![0, 0, 0] C slices_S16x4096x5632_S16x4096x2816_0_0_0) (mulf (F := Ideal) (φ := .f32) (broadcastInDim S16x4096x2816 ![] bcast_S_S16x4096x2816 (constant S_ .f32 0x3D372713#32)) (mulf (F := Ideal) (φ := .f32) (mulf (F := Ideal) (φ := .f32) (extractStridedSlice S16x4096x2816 ![0, 0, 0] C slices_S16x4096x5632_S16x4096x2816_0_0_0) (extractStridedSlice S16x4096x2816 ![0, 0, 0] C slices_S16x4096x5632_S16x4096x2816_0_0_0)) (extractStridedSlice S16x4096x2816 ![0, 0, 0] C slices_S16x4096x5632_S16x4096x2816_0_0_0))))))))) (extractStridedSlice S16x4096x2816 ![0, 0, 2816] C slices_S16x4096x5632_S16x4096x2816_0_0_2816)) (shapeCast _ a9 shapeCasts_S1x2816x1024_S2816x1024))

def h3T (H : FVec Ideal S16x4096x1024 .f32) (a3 : FVec Ideal S1x16x4096x256 .f32) (a10 : FVec Ideal S1x1024 .f32) (a11 : FVec Ideal S1x1024x1024 .f32) (a12 : FVec Ideal S1x256x1024 .f32) : FVec Ideal S16x4096x1024 .f32 :=
  addf (F := Ideal) (φ := .f32) H (mulf (F := Ideal) (φ := .f32) (Host.divf (broadcastInDim S16x4096x1024 ![] bcast_S_S16x4096x1024 (constant S_ .f32 0x3F800000#32)) (addf (F := Ideal) (φ := .f32) (broadcastInDim S16x4096x1024 ![] bcast_S_S16x4096x1024 (constant S_ .f32 0x3F800000#32)) (Host.exp (Host.negf (Host.dotGeneral dot_S16x4096x1024_S1024x1024_S16x4096x1024_2_0_01_1_n_n none (mulf (F := Ideal) (φ := .f32) (mulf (F := Ideal) (φ := .f32) H (broadcastInDim S16x4096x1024 ![0, 1, 2] bcast_S16x4096x1_S16x4096x1024_0_1_2 (Host.rsqrt (addf (F := Ideal) (φ := .f32) (Host.divf (broadcastInDim S16x4096x1 ![0, 1] bcast_S16x4096_S16x4096x1_0_1 (Host.reduceAdd (mulf (F := Ideal) (φ := .f32) H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast _ a10 shapeCasts_S1x1024_S1024)))) (shapeCast _ a11 shapeCasts_S1x1024x1024_S1024x1024)))))) (Host.dotGeneral dot_S16x4096x256_S256x1024_S16x4096x1024_2_0_01_1_n_n none (shapeCast _ a3 shapeCasts_S1x16x4096x256_S16x4096x256) (shapeCast _ a12 shapeCasts_S1x256x1024_S256x1024)))

def outT (H : FVec Ideal S16x4096x1024 .f32) (a13 : FVec Ideal S1024 .f32) : FVec Ideal S65536x1024 .f32 :=
  shapeCast _ (mulf (F := Ideal) (φ := .f32) (mulf (F := Ideal) (φ := .f32) H (broadcastInDim S16x4096x1024 ![0, 1, 2] bcast_S16x4096x1_S16x4096x1024_0_1_2 (Host.rsqrt (addf (F := Ideal) (φ := .f32) (Host.divf (broadcastInDim S16x4096x1 ![0, 1] bcast_S16x4096_S16x4096x1_0_1 (Host.reduceAdd (mulf (F := Ideal) (φ := .f32) H H) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 a13))) shapeCasts_S16x4096x1024_S65536x1024

theorem rows_x (b : Fin 16) (t : Fin 4096) (j : Fin 1024) :
    (rows V0).x (tok b t) j = (V0 (Proc.devRef .tc main_arg0) : FVec Ideal S16x4096x1024 .f32) (ix3 b t j) := by
  have e1 : (⟨(tok b t).val / 4096, by omega⟩ : Fin 16) = b := Fin.ext (by simp only; omega)
  have e2 : (⟨(tok b t).val % 4096, by omega⟩ : Fin 4096) = t := Fin.ext (by simp only; omega)
  show (V0 (Proc.devRef .tc main_arg0) : FVec Ideal S16x4096x1024 .f32)
    (ix3 (⟨(tok b t).val / 4096, by omega⟩ : Fin 16) (⟨(tok b t).val % 4096, by omega⟩ : Fin 4096) j) = _
  rw [e1, e2]

theorem rows_p (b : Fin 16) (t : Fin 4096) (j : Fin 256) :
    (rows V0).p (tok b t) j = (V0 (Proc.devRef .tc main_arg3) : FVec Ideal S1x16x4096x256 .f32) (ix4 (0 : Fin 1) b t j) := by
  have e1 : (⟨(tok b t).val / 4096, by omega⟩ : Fin 16) = b := Fin.ext (by simp only; omega)
  have e2 : (⟨(tok b t).val % 4096, by omega⟩ : Fin 4096) = t := Fin.ext (by simp only; omega)
  show (V0 (Proc.devRef .tc main_arg3) : FVec Ideal S1x16x4096x256 .f32)
    (ix4 (0 : Fin 1) (⟨(tok b t).val / 4096, by omega⟩ : Fin 16) (⟨(tok b t).val % 4096, by omega⟩ : Fin 4096) j) = _
  rw [e1, e2]

theorem h1T_at (a0 : FVec Ideal S16x4096x1024 .f32) (a1 : FVec Ideal S65536x512 .bf16) (a2 : FVec Ideal S65536x512 .bf16)
    (a4 : FVec Ideal S1x1024x1024 .f32) (b : Fin 16) (t : Fin 4096) (j : Fin 1024) :
    h1T a0 a1 a2 a4 (ix3 b t j) = HAdd.hAdd (α := EReal) (a0 (ix3 b t j))
      ((∑ x : Fin 512, HMul.hMul (α := EReal) (a1 (ix2 (⟨b.val * 4096 + t.val, by omega⟩ : Fin 65536) x)) (a4 (ix3 (0 : Fin 1) (⟨x.val, by omega⟩ : Fin 1024) j))) +
        ∑ x : Fin 512, HMul.hMul (α := EReal) (a2 (ix2 (⟨b.val * 4096 + t.val, by omega⟩ : Fin 65536) x)) (a4 (ix3 (0 : Fin 1) (⟨512 + x.val, by omega⟩ : Fin 1024) j))) := by
  unfold h1T
  pointwise []

theorem h1_at (b : Fin 16) (t : Fin 4096) (j : Fin 1024) :
    (res_main_v7 V0 : FVec Ideal S16x4096x1024 .f32) (ix3 b t j) = hid (weights V0) (rows V0) (tok b t) j := by
  refine (h1T_at (V0 (Proc.devRef .tc main_arg0)) (V0 (Proc.devRef .tc main_arg1)) (V0 (Proc.devRef .tc main_arg2))
    (V0 (Proc.devRef .tc main_arg4)) b t j).trans ?_
  unfold hid Weights.h1
  rw [rows_x]
  have e : (⟨b.val * 4096 + t.val, by omega⟩ : Fin 65536) = tok b t := Fin.ext (by simp only; omega)
  rw [e]
  rfl

theorem zT_at (H : FVec Ideal S16x4096x1024 .f32) (a5 : FVec Ideal S1x1024 .f32) (a6 : FVec Ideal S1x1024x5632 .f32)
    (b : Fin 16) (t : Fin 4098) (f : Fin 5632) :
    zT H a5 a6 (ix3 b t f) = (if h : 2 ≤ t.val ∧ t.val - 2 < 4096 then
      ∑ x : Fin 1024, rmsRow (fun y => H (ix3 b (⟨t.val - 2, h.2⟩ : Fin 4096) y)) (fun y => a5 (ix2 (0 : Fin 1) y)) x *
        (a6 (ix3 (0 : Fin 1) x f) : EReal) else (0 : EReal)) := by
  unfold zT rmsRow
  pointwise []
  have e : (FloatOps.sitofp FTy.f32 (0#32) : Ideal .f32) = (0 : EReal) := by
    show (((0#32 : BitVec 32).toInt : ℝ) : EReal) = 0
    simp
  rw [e]

theorem z_at (b : Fin 16) (t : Fin 4096) (k : ℕ) (hk : k ≤ 2) (s : Fin 4098) (hs : s.val + k = t.val + 2) (f : Fin 5632) :
    (res_main_v27 V0 : FVec Ideal S16x4098x5632 .f32) (ix3 b s f) = zback (weights V0) (rows V0) k (tok b t) f := by
  refine (zT_at (res_main_v7 V0) (V0 (Proc.devRef .tc main_arg5)) (V0 (Proc.devRef .tc main_arg6)) b s f).trans ?_
  unfold zback
  have hm : (tok b t).val % 4096 = t.val := by simp only; omega
  rw [hm]
  by_cases h : t.val < k
  · rw [if_pos h, dif_neg (by omega)]
  · rw [if_neg h, dif_pos (by omega)]
    have e : (⟨(tok b t).val - k, by omega⟩ : Fin 65536) = tok b ⟨s.val - 2, by omega⟩ := Fin.ext (by simp only; omega)
    rw [e]
    unfold Weights.up
    simp only [h1_at]
    rfl

theorem cvT_at (Z : FVec Ideal S16x4098x5632 .f32) (a7 : FVec Ideal S1x3x5632 .f32) (a8 : FVec Ideal S1x5632 .f32)
    (b : Fin 16) (t : Fin 4096) (f : Fin 5632) :
    cvT Z a7 a8 (ix3 b t f) = HAdd.hAdd (α := EReal) (a8 (ix2 (0 : Fin 1) f))
      (HMul.hMul (α := EReal) (Z (ix3 b (⟨t.val, by omega⟩ : Fin 4098) f)) (a7 (ix3 (0 : Fin 1) (0 : Fin 3) f)) +
        HMul.hMul (α := EReal) (Z (ix3 b (⟨1 + t.val, by omega⟩ : Fin 4098) f)) (a7 (ix3 (0 : Fin 1) (1 : Fin 3) f)) +
        HMul.hMul (α := EReal) (Z (ix3 b (⟨2 + t.val, by omega⟩ : Fin 4098) f)) (a7 (ix3 (0 : Fin 1) (2 : Fin 3) f))) := by
  unfold cvT
  pointwise []

/-- A row's convolved channels. -/
def cvRow (r : Fin 65536) : Fin 5632 → EReal :=
  (weights V0).conv (zback (weights V0) (rows V0) 2 r) (zback (weights V0) (rows V0) 1 r) (zback (weights V0) (rows V0) 0 r)

theorem cv_at (b : Fin 16) (t : Fin 4096) (f : Fin 5632) :
    (res_main_v52 V0 : FVec Ideal S16x4096x5632 .f32) (ix3 b t f) = cvRow V0 (tok b t) f := by
  refine (cvT_at (res_main_v27 V0) (V0 (Proc.devRef .tc main_arg7)) (V0 (Proc.devRef .tc main_arg8)) b t f).trans ?_
  rw [z_at V0 b t 2 (by omega) ⟨t.val, by omega⟩ (by simp only), z_at V0 b t 1 (by omega) ⟨1 + t.val, by omega⟩ (by simp only; omega),
    z_at V0 b t 0 (by omega) ⟨2 + t.val, by omega⟩ (by simp only; omega)]
  rfl

theorem h2T_at (H : FVec Ideal S16x4096x1024 .f32) (C : FVec Ideal S16x4096x5632 .f32) (a9 : FVec Ideal S1x2816x1024 .f32)
    (b : Fin 16) (t : Fin 4096) (j : Fin 1024) :
    h2T H C a9 (ix3 b t j) = HAdd.hAdd (α := EReal) (H (ix3 b t j))
      (∑ x : Fin 2816, act (fun f => C (ix3 b t f)) x * (a9 (ix3 (0 : Fin 1) x j) : EReal)) := by
  unfold h2T act geluR
  pointwise []
  rw [word_half, word_c, word_d, EReal.coe_one]

theorem h2_at (b : Fin 16) (t : Fin 4096) (j : Fin 1024) :
    (res_main_v70 V0 : FVec Ideal S16x4096x1024 .f32) (ix3 b t j) =
      (weights V0).h2 (hid (weights V0) (rows V0) (tok b t)) (cvRow V0 (tok b t)) j := by
  refine (h2T_at (res_main_v7 V0) (res_main_v52 V0) (V0 (Proc.devRef .tc main_arg9)) b t j).trans ?_
  simp only [h1_at, cv_at]
  rfl

theorem h3T_at (H : FVec Ideal S16x4096x1024 .f32) (a3 : FVec Ideal S1x16x4096x256 .f32) (a10 : FVec Ideal S1x1024 .f32)
    (a11 : FVec Ideal S1x1024x1024 .f32) (a12 : FVec Ideal S1x256x1024 .f32) (b : Fin 16) (t : Fin 4096) (j : Fin 1024) :
    h3T H a3 a10 a11 a12 (ix3 b t j) = HAdd.hAdd (α := EReal) (H (ix3 b t j))
      (Ideal.logistic (∑ x : Fin 1024, rmsRow (fun y => H (ix3 b t y)) (fun y => a10 (ix2 (0 : Fin 1) y)) x * (a11 (ix3 (0 : Fin 1) x j) : EReal)) *
        ∑ x : Fin 256, HMul.hMul (α := EReal) (a3 (ix4 (0 : Fin 1) b t x)) (a12 (ix3 (0 : Fin 1) x j))) := by
  unfold h3T rmsRow
  pointwise []
  rfl

theorem h3_at (b : Fin 16) (t : Fin 4096) (j : Fin 1024) :
    (res_main_v97 V0 : FVec Ideal S16x4096x1024 .f32) (ix3 b t j) =
      (weights V0).h3 ((weights V0).h2 (hid (weights V0) (rows V0) (tok b t)) (cvRow V0 (tok b t))) ((rows V0).p (tok b t)) j := by
  refine (h3T_at (res_main_v70 V0) (V0 (Proc.devRef .tc main_arg3)) (V0 (Proc.devRef .tc main_arg10)) (V0 (Proc.devRef .tc main_arg11))
    (V0 (Proc.devRef .tc main_arg12)) b t j).trans ?_
  unfold Weights.h3
  simp only [h2_at, rows_p]
  rfl

theorem outT_at (H : FVec Ideal S16x4096x1024 .f32) (a13 : FVec Ideal S1024 .f32) (r : Fin 65536) (j : Fin 1024) :
    outT H a13 (ix2 r j) = rmsRow (fun y => H (ix3 (⟨r.val / 4096, by omega⟩ : Fin 16) (⟨r.val % 4096, by omega⟩ : Fin 4096) y))
      (fun y => a13 (ix1 y)) j := by
  unfold outT rmsRow
  pointwise []

/-- What the reference leaves, at an index. -/
theorem out_at (r : Fin 65536) (j : Fin 1024) :
    outT (res_main_v97 V0) (V0 (Proc.devRef .tc main_arg13)) (ix2 r j) = out (weights V0) (rows V0) r j := by
  refine (outT_at (res_main_v97 V0) (V0 (Proc.devRef .tc main_arg13)) r j).trans ?_
  simp only [h3_at]
  have e : tok ⟨r.val / 4096, by omega⟩ ⟨r.val % 4096, by omega⟩ = r := Fin.ext (by simp only; omega)
  rw [e]
  rfl

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111) = outT (res_main_v97 (launchContents m c)) (launchContents m c (Proc.devRef .tc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1, (h c).2⟩) (run m ρ)

/-- The reference's frame: no counter exists, so each is at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0 :=
  (θ_run defs _ _).mono (fun r h => ⟨fun c => (h c).2, sem_eq_zero_of_no_sems rfl r.2⟩) (run_out m ρ)

end Cert.Reference2Ideal.Value
-- ==== Proof.TTop.lean ====
module
public import proofs.«01_k».proof.Defs
public import proofs.«01_k».proof.Proof.TFold
public import proofs.«01_k».proof.Proof.TRef
@[expose] public section
set_option maxRecDepth 16384
noncomputable section
namespace Cert.Proof
open Idealize.ShloMosaic Idealize.ShloMosaic.TcCoe Idealize.SL.Sem Idealize.ShloMosaic.StableHlo

/-- The tail's result and its reference's, from the same weights and rows, are one array. -/
theorem tail_values (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (hw : Cert.Reference2Ideal.Value.weights (launchContents m' c) = Cert.Kernel2Ideal.Gen.weights m c)
    (hr : Cert.Reference2Ideal.Value.rows (launchContents m' c) = Cert.Kernel2Ideal.Gen.rows m c) :
    Cert.Reference2Ideal.Value.outT (Cert.Reference2Ideal.Value.res_main_v97 (launchContents m' c))
        (launchContents m' c (Proc.devRef .tc Cert.Reference2Ideal.main_arg13)) =
      Cert.Kernel2Ideal.Value.G14 m c := by
  funext i
  have hi : i = ix2 (i 0) (i 1) := by
    funext d
    match d with
    | 0 => rfl
    | 1 => rfl
  refine Eq.trans ?_ (Cert.Kernel2Ideal.Gen.result_eq m c i).symm
  rw [← hw, ← hr]
  exact (congrArg _ hi).trans (Cert.Reference2Ideal.Value.out_at _ (i 0) (i 1))

theorem algebraic_tail : Cert.algebraic_Kernel2Ideal_Reference2Ideal := by
  intro m g m' g' _ hm
  refine ⟨fun c => Cert.Kernel2Ideal.Value.G14 m c, Cert.Kernel2Ideal.Value.run m g, ?_⟩
  refine (θ_run _ _ _).mono (fun r h c => ?_) (Cert.Reference2Ideal.Value.run_out m' g')
  refine ⟨(h c).1.trans ?_, (h c).2⟩
  obtain ⟨h0, h1, h2, h3, h4, h5, h6, h7, h8, h9, h10, h11, h12, h13⟩ := hm c
  refine tail_values m m' c ?_ ?_
  · unfold Cert.Reference2Ideal.Value.weights Cert.Kernel2Ideal.Gen.weights
    simp only [← h4, ← h5, ← h6, ← h7, ← h8, ← h9, ← h10, ← h11, ← h12, ← h13]
  · unfold Cert.Reference2Ideal.Value.rows Cert.Kernel2Ideal.Gen.rows
    simp only [← h0, ← h1, ← h2, ← h3]

theorem preserves_tail : Cert.preserves_Kernel2_Kernel2Ideal :=
  IdealRules.named_const.statement Cert.Kernel2Ideal.κ "gelu_b" .f32 0x3D922279#32 _ rfl

end Cert.Proof
end
-- ==== Proof.Inp.lean ====
module
public import proofs.«01_k».proof.Proof.Tail
@[expose] public section
set_option maxRecDepth 16384
noncomputable section
namespace Cert.Inp
open Idealize.ShloMosaic Cert.Tail

theorem word_sixteen : Ideal.ofBits FTy.f32 0x41800000#32 = ((16 : ℝ) : EReal) := by
  simp [Ideal.ofBits, Ideal.ieee, -EReal.coe_mul]; norm_num
theorem word_sixteenth : Ideal.ofBits FTy.f32 0x3D800000#32 = ((1 / 16 : ℝ) : EReal) := by
  simp [Ideal.ofBits, Ideal.ieee, -EReal.coe_mul]; norm_num
theorem word_eighth : Ideal.ofBits FTy.f32 0x3E000000#32 = ((1 / 8 : ℝ) : EReal) := by
  simp [Ideal.ofBits, Ideal.ieee, -EReal.coe_mul]; norm_num
theorem word_log2e : Ideal.ofBits FTy.f32 0x3FB8AA3B#32 = ((12102203 / 8388608 : ℝ) : EReal) := by
  simp [Ideal.ofBits, Ideal.ieee, -EReal.coe_mul]; norm_num
theorem word_scale : Ideal.ofBits FTy.f32 0x3E38AA3B#32 = ((12102203 / 67108864 : ℝ) : EReal) := by
  simp [Ideal.ofBits, Ideal.ieee, -EReal.coe_mul]; norm_num

/-- The two scales of the queries in one word. -/
theorem scale_eq : Ideal.ofBits FTy.f32 0x3E000000#32 * Ideal.ofBits FTy.f32 0x3FB8AA3B#32 = Ideal.ofBits FTy.f32 0x3E38AA3B#32 := by
  rw [word_eighth, word_log2e, word_scale, ← EReal.coe_mul]
  congr 1; norm_num

theorem exp_nonneg (x : EReal) : 0 ≤ Ideal.exp x := by
  induction x with
  | bot => exact le_refl _
  | top => exact le_top
  | coe r => exact EReal.coe_nonneg.mpr (Real.exp_pos r).le

theorem log1p_ne_bot (x : EReal) (h : 0 ≤ x) : Ideal.log1p x ≠ ⊥ := by
  unfold Ideal.log1p
  induction x with
  | bot => exact absurd h (by simp)
  | top =>
    show Ideal.log (1 + ⊤) ≠ ⊥
    have e : (1 : EReal) + ⊤ = ⊤ := EReal.add_top_of_ne_bot (EReal.coe_ne_bot 1)
    rw [e]
    exact top_ne_bot
  | coe r =>
    have hr : 0 ≤ r := EReal.coe_nonneg.mp h
    show Ideal.log (((1 : ℝ) : EReal) + (r : EReal)) ≠ ⊥
    rw [← EReal.coe_add]
    show (if 1 + r ≤ 0 then (⊥ : EReal) else ((Real.log (1 + r) : ℝ) : EReal)) ≠ ⊥
    rw [if_neg (by linarith)]
    exact EReal.coe_ne_bot _

theorem neg_max_neg (p : EReal) : -(max (-p) 0) = min p 0 := by
  rcases le_total p 0 with h | h
  · rw [min_eq_left h, max_eq_left (by rw [EReal.le_neg]; simpa using h), neg_neg]
  · rw [min_eq_right h, max_eq_right (by rw [EReal.neg_le]; simpa using h), neg_zero]

/-- The logarithm of the logistic function, over sixteen: both texts' forms. -/
theorem lsg (p : EReal) :
    (min p 0 - Ideal.log1p (Ideal.exp (0 - max p (-p)))) * Ideal.ofBits FTy.f32 0x3D800000#32 =
      Ideal.div (-(max (-p) 0 + Ideal.log1p (Ideal.exp (-(max (-p) p))))) (Ideal.ofBits FTy.f32 0x41800000#32) := by
  rw [zero_sub, max_comm p (-p)]
  have hb := log1p_ne_bot _ (exp_nonneg (-(max (-p) p)))
  generalize Ideal.log1p (Ideal.exp (-(max (-p) p))) = l at hb ⊢
  have hm : max (-p) 0 ≠ ⊥ := fun e => by
    have : (0 : EReal) ≤ ⊥ := e ▸ le_max_right (-p) 0
    simp at this
  rw [EReal.neg_add (Or.inl hm) (Or.inr hb), neg_max_neg, word_sixteen, word_sixteenth]
  unfold Ideal.div
  rw [if_neg (by exact_mod_cast (by norm_num : (16 : ℝ) ≠ 0)), ← EReal.coe_inv]
  congr 2
  norm_num

/-- What the projection is called on: the rows, their positions and the weights. -/
structure Data where
  x : Fin 65536 → Fin 1024 → EReal
  pos : Fin 65536 → EReal
  nm : Fin 1024 → EReal
  wi : Fin 1024 → Fin 3088 → EReal
  wa : Fin 16 → Fin 256 → EReal
  ba : Fin 256 → EReal

namespace Data
variable (d : Data)

/-- The projection of a normed row. -/
def z (r : Fin 65536) (j : Fin 3088) : EReal := ∑ k : Fin 1024, rmsRow (d.x r) d.nm k * d.wi k j

def pre (r : Fin 65536) (j : Fin 256) : EReal := (∑ l : Fin 16, d.z r ⟨1536 + l.val, by omega⟩ * d.wa l j) + d.ba j

def freq (i : ℕ) : EReal :=
  Ideal.pow (Ideal.ofBits FTy.f32 0x461C4000#32)
    (Ideal.div (-(Ideal.ofBits FTy.f32 0x40000000#32 * (FloatOps.sitofp (F := Ideal) FTy.f32 (BitVec.ofNat 32 i) : EReal))) (Ideal.ofBits FTy.f32 0x42800000#32))

def ang (r : Fin 65536) (i : ℕ) : EReal := d.pos r * freq i

/-- A rotated column of a row. -/
def rot (r : Fin 65536) (s : Fin 512 → EReal) (j : Fin 512) : EReal :=
  if j.val % 64 < 32 then s j * Ideal.cos (d.ang r (j.val % 64)) - s ⟨(j.val / 64 * 64 + (32 + j.val % 64)) % 512, Nat.mod_lt _ (by norm_num)⟩ * Ideal.sin (d.ang r (j.val % 64))
  else s j * Ideal.cos (d.ang r (j.val % 64 - 32)) + s ⟨j.val / 64 * 64 + (j.val % 64 - 32), by omega⟩ * Ideal.sin (d.ang r (j.val % 64 - 32))

def gq (r : Fin 65536) (j : Fin 256) : EReal := d.z r ⟨j.val, by omega⟩ * Ideal.ofBits FTy.f32 0x3E000000#32
def gk (r : Fin 65536) (j : Fin 256) : EReal := d.z r ⟨256 + j.val, by omega⟩
def gv (r : Fin 65536) (j : Fin 512) : EReal := d.z r ⟨512 + j.val, by omega⟩
def gg (r : Fin 65536) (j : Fin 512) : EReal := d.z r ⟨1024 + j.val, by omega⟩
def la (r : Fin 65536) (j : Fin 256) : EReal :=
  Ideal.div (-(max (-(d.pre r j)) 0 + Ideal.log1p (Ideal.exp (-(max (-(d.pre r j)) (d.pre r j)))))) (Ideal.ofBits FTy.f32 0x41800000#32)
def dq (r : Fin 65536) (j : Fin 512) : EReal :=
  d.rot r (fun i => d.z r ⟨1552 + i.val, by omega⟩) j * Ideal.ofBits FTy.f32 0x3E000000#32 * Ideal.ofBits FTy.f32 0x3FB8AA3B#32
def dk (r : Fin 65536) (j : Fin 512) : EReal := d.rot r (fun i => d.z r ⟨2064 + i.val, by omega⟩) j
def dvt (b : Fin 256) (j : Fin 512) (t : Fin 256) : EReal := d.z ⟨256 * b.val + t.val, by omega⟩ ⟨2576 + j.val, by omega⟩

end Data

end Cert.Inp
end
-- ==== Proof.IHost.lean ====
module
public import proofs.«01_k».proof.Proof.Inp
public import proofs.«01_k».proof.Proof.Gen.Kernel3Ideal.Value
public import Idealize.ShloMosaic.Lib.Pipeline.ValueKit
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail Cert.Inp
open Idealize.ShloMosaic.Pipeline (Dat Cfg Window BodyObligation cellOf)

variable (m : (ℓ : Loc nD τ sig) → Buf (Elt Ideal) ℓ) (c : Dev nD)

/-- What the kernel is called on. -/
def data : Data where
  x r k := m ((c : Thread nD τ).loc main_arg0) (ix3 (⟨r.val / 4096, by omega⟩ : Fin 16) (⟨r.val % 4096, by omega⟩ : Fin 4096) k)
  pos r := (FloatOps.sitofp (F := Ideal) FTy.f32 (m ((c : Thread nD τ).loc main_arg1) (ix2 (⟨r.val / 4096, by omega⟩ : Fin 16) (⟨r.val % 4096, by omega⟩ : Fin 4096)) : BitVec 32) : EReal)
  nm k := m ((c : Thread nD τ).loc main_arg2) (ix2 (0 : Fin 1) k)
  wi k j := m ((c : Thread nD τ).loc main_arg3) (ix3 (0 : Fin 1) k j)
  wa l j := m ((c : Thread nD τ).loc main_arg4) (ix3 (0 : Fin 1) l j)
  ba j := m ((c : Thread nD τ).loc main_arg5) (ix2 (0 : Fin 1) j)

theorem V_v22 (r : Fin 65536) (j : Fin 1024) :
    (V m c main_v22 (ix2 r j) : EReal) = m ((c : Thread nD τ).loc main_arg0) (ix3 (⟨r.val / 4096, by omega⟩ : Fin 16) (⟨r.val % 4096, by omega⟩ : Fin 4096) j) := by
  entry_read
  pointwise []
  blk_ext []

theorem V_v23 (r : Fin 65536) (j : Fin 1) :
    (V m c main_v23 (ix2 r j) : BitVec 32) = m ((c : Thread nD τ).loc main_arg1) (ix2 (⟨r.val / 4096, by omega⟩ : Fin 16) (⟨r.val % 4096, by omega⟩ : Fin 4096)) := by
  entry_read
  pointwise []
  blk_ext []

theorem V_v39 (r : Fin 1) (j : Fin 1024) :
    (V m c main_v39 (ix2 r j) : EReal) = m ((c : Thread nD τ).loc main_arg2) (ix2 (0 : Fin 1) j) := by
  entry_read
  pointwise []
  blk_ext []

theorem V_v41 (r : Fin 1) (j : Fin 256) :
    (V m c main_v41 (ix2 r j) : EReal) = m ((c : Thread nD τ).loc main_arg5) (ix2 (0 : Fin 1) j) := by
  entry_read
  pointwise []
  blk_ext []

theorem V_v33 (r : Fin 512) (j : Fin 1024) :
    (V m c main_v33 (ix2 r j) : EReal) = m ((c : Thread nD τ).loc main_arg3) (ix3 (0 : Fin 1) j (⟨2576 + r.val, by omega⟩ : Fin 3088)) := by
  entry_read
  pointwise []
  blk_ext []

/-- The first weight's columns, the low-rank gate's last and padded. -/
def packW (a3 : FVec Ideal S1x1024x3088 .f32) : FVec Ideal S1024x2688 .bf16 :=
  truncf (F := Ideal) .bf16 (concatenate S1024x2688 1 [
    ⟨S1024x1536, extractStridedSlice S1024x1536 ![0, 0] (shapeCast _ a3 shapeCasts_S1x1024x3088_S1024x3088) slices_S1024x3088_S1024x1536_0_0⟩,
    ⟨S1024x1024, extractStridedSlice S1024x1024 ![0, 1552] (shapeCast _ a3 shapeCasts_S1x1024x3088_S1024x3088) slices_S1024x3088_S1024x1024_0_1552⟩,
    ⟨S1024x16, extractStridedSlice S1024x16 ![0, 1536] (shapeCast _ a3 shapeCasts_S1x1024x3088_S1024x3088) slices_S1024x3088_S1024x16_0_1536⟩,
    ⟨S1024x112, broadcastInDim S1024x112 ![] bcast_S_S1024x112 (constant (F := Ideal) S_ .f32 0x00000000#32)⟩]
    concatenates_S1024x1536_S1024x1024_S1024x16_S1024x112_S1024x2688_d1) bitsLt_bf16_f32

theorem V_v30_eq : V m c main_v30 = packW (m ((c : Thread nD τ).loc main_arg3)) := by
  sl_kernel_rfl

theorem packW_at (a3 : FVec Ideal S1x1024x3088 .f32) (k : Fin 1024) (j : Fin 2688) :
    (packW a3 (ix2 k j) : EReal) =
      if h : j.val < 1536 then (a3 (ix3 (0 : Fin 1) k (⟨j.val, by omega⟩ : Fin 3088)) : EReal)
      else if h : j.val < 2560 then (a3 (ix3 (0 : Fin 1) k (⟨j.val + 16, by omega⟩ : Fin 3088)) : EReal)
      else if h : j.val < 2576 then (a3 (ix3 (0 : Fin 1) k (⟨j.val - 1024, by omega⟩ : Fin 3088)) : EReal)
      else 0 := by
  unfold packW
  pointwise []
  have hj := j.isLt
  repeat' split
  all_goals first
    | omega
    | rfl
    | exact congrArg (fun q => (a3 (ix3 (0 : Fin 1) k q) : EReal)) (Fin.ext (by simp only; omega))

theorem V_v37 (r : Fin 128) (j : Fin 256) :
    (V m c main_v37 (ix2 r j) : EReal) = if h : r.val < 16 then (data m c).wa ⟨r.val, h⟩ j else 0 := by
  entry_read
  pointwise []
  rfl

theorem V_v13 (r : Fin 1) (j : Fin 128) :
    (V m c main_v13 (ix2 r j) : EReal) = Data.freq (j.val % 32) := by
  entry_read
  pointwise []
  rfl

theorem V_v21 (r : Fin 1) (j : Fin 128) :
    (V m c main_v21 (ix2 r j) : EReal) = if j.val % 64 < 32 then (-1 : EReal) else (1 : EReal) := by
  entry_read
  pointwise []
  rfl

theorem idx : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) :=
  (by decide +kernel : ∀ t : Fin grid0.N, _)

theorem idxo : ∀ t : Fin cfg0.N,
    (win0_9.index t (0 : Fin 2) = t.val ∧ win0_9.index t (1 : Fin 2) = 0) ∧
    (win0_10.index t (0 : Fin 2) = t.val ∧ win0_10.index t (1 : Fin 2) = 0) ∧
    (win0_11.index t (0 : Fin 2) = t.val ∧ win0_11.index t (1 : Fin 2) = 0) ∧
    (win0_12.index t (0 : Fin 2) = t.val ∧ win0_12.index t (1 : Fin 2) = 0) ∧
    (win0_13.index t (0 : Fin 2) = t.val ∧ win0_13.index t (1 : Fin 2) = 0) ∧
    (win0_14.index t (0 : Fin 2) = t.val ∧ win0_14.index t (1 : Fin 2) = 0) ∧
    (win0_15.index t (0 : Fin 2) = t.val ∧ win0_15.index t (1 : Fin 2) = 0) ∧
    (win0_16.index t (0 : Fin 3) = t.val ∧ win0_16.index t (1 : Fin 3) = 0 ∧ win0_16.index t (2 : Fin 3) = 0) :=
  (by decide +kernel : ∀ t : Fin grid0.N, _)

theorem flusho : ∀ t : Fin cfg0.N,
    win0_9.flush t = true ∧ win0_10.flush t = true ∧ win0_11.flush t = true ∧ win0_12.flush t = true ∧
    win0_13.flush t = true ∧ win0_14.flush t = true ∧ win0_15.flush t = true ∧ win0_16.flush t = true :=
  (by decide +kernel : ∀ t : Fin grid0.N, _)

theorem t_lt (t : Fin cfg0.N) : t.val < 128 := lt_of_lt_of_eq t.isLt (show cfg0.N = 128 from N_0)

end Cert.Kernel3Ideal.Gen
end
-- ==== Proof.IBlock.lean ====
module
public import proofs.«01_k».proof.Proof.Tail
public import proofs.«01_k».proof.Proof.Gen.Kernel3Ideal.Skeleton
public import Idealize.ShloMosaic.Lib.Pipeline.ValueKit
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail

/-- The rows of a tile normed by their root mean squares and scaled. -/
theorem pay21_at (x : FVec Ideal S512x1024 .f32) (g : FVec Ideal S1x1024 .f32) (r : Fin 512) (j : Fin 1024) :
    (k0_pay21 (F := Ideal) x g (ix2 r j) : EReal) = rmsRow (fun j => x (ix2 r j)) (fun j => g (ix2 (0 : Fin 1) j)) j := by
  unfold k0_pay21 rmsRow; pointwise []

theorem pay22_at (x : FVec Ideal S512x1024 .f32) (g : FVec Ideal S1x1024 .f32) (w : FVec Ideal S1024x256 .bf16) (r : Fin 512) (j : Fin 256) :
    (k0_pay22 (F := Ideal) x g w (ix2 r j) : EReal) =
      HMul.hMul (α := EReal) (∑ k : Fin 1024, HMul.hMul (α := EReal) (k0_pay21 (F := Ideal) x g (ix2 r k)) (w (ix2 k j))) (Ideal.ofBits FTy.f32 0x3E000000#32) := by
  unfold k0_pay22; generalize k0_pay21 (F := Ideal) x g = u; pointwise []

theorem pay23_at (x : FVec Ideal S512x1024 .f32) (g : FVec Ideal S1x1024 .f32) (w : FVec Ideal S1024x256 .bf16) (r : Fin 512) (j : Fin 256) :
    (k0_pay23 (F := Ideal) x g w (ix2 r j) : EReal) =
      ∑ k : Fin 1024, HMul.hMul (α := EReal) (k0_pay21 (F := Ideal) x g (ix2 r k)) (w (ix2 k j)) := by
  unfold k0_pay23; generalize k0_pay21 (F := Ideal) x g = u; pointwise []

theorem pay24_at (x : FVec Ideal S512x1024 .f32) (g : FVec Ideal S1x1024 .f32) (w : FVec Ideal S1024x512 .bf16) (r : Fin 512) (j : Fin 512) :
    (k0_pay24 (F := Ideal) x g w (ix2 r j) : EReal) =
      ∑ k : Fin 1024, HMul.hMul (α := EReal) (k0_pay21 (F := Ideal) x g (ix2 r k)) (w (ix2 k j)) := by
  unfold k0_pay24; generalize k0_pay21 (F := Ideal) x g = u; pointwise []

theorem pay28_at (u : FVec Ideal S512x1024 .bf16) (w : FVec Ideal S1024x512 .bf16) (r : Fin 512) (j : Fin 512) :
    (k0_pay28 (F := Ideal) u w (ix2 r j) : EReal) = ∑ k : Fin 1024, HMul.hMul (α := EReal) (u (ix2 r k)) (w (ix2 k j)) := by
  unfold k0_pay28; pointwise []

theorem pay33_at (u : FVec Ideal S512x1024 .bf16) (w : FVec Ideal S1024x512 .bf16) (r : Fin 512) (j : Fin 512) :
    (k0_pay33 (F := Ideal) u w (ix2 r j) : EReal) = ∑ k : Fin 1024, HMul.hMul (α := EReal) (u (ix2 r k)) (w (ix2 k j)) := by
  unfold k0_pay33; pointwise []

theorem pay34_at (u : FVec Ideal S512x1024 .bf16) (w : FVec Ideal S1024x512 .bf16) (r : Fin 512) (j : Fin 512) :
    (k0_pay34 (F := Ideal) u w (ix2 r j) : EReal) = ∑ k : Fin 1024, HMul.hMul (α := EReal) (u (ix2 r k)) (w (ix2 k j)) := by
  unfold k0_pay34; pointwise []

theorem pay35_at (u : FVec Ideal S512x1024 .bf16) (w : FVec Ideal S512x1024 .bf16) (a : Fin 512) (r : Fin 512) :
    (k0_pay35 (F := Ideal) u w (ix2 a r) : EReal) = ∑ k : Fin 1024, HMul.hMul (α := EReal) (w (ix2 a k)) (u (ix2 r k)) := by
  unfold k0_pay35; pointwise []

/-- The low-rank gate of a tile, its logarithm, and the division by sixteen as a product. -/
theorem pay32_at (u : FVec Ideal S512x1024 .bf16) (w : FVec Ideal S1024x128 .bf16) (v : FVec Ideal S128x256 .bf16) (b : FVec Ideal S1x256 .f32) (r : Fin 512) (j : Fin 256) :
    ∃ p : EReal, p = HAdd.hAdd (α := EReal) (∑ l : Fin 128, HMul.hMul (α := EReal) (∑ k : Fin 1024, HMul.hMul (α := EReal) (u (ix2 r k)) (w (ix2 k l))) (v (ix2 l j))) (b (ix2 (0 : Fin 1) j)) ∧
    (k0_pay32 (F := Ideal) u w v b (ix2 r j) : EReal) =
      ((min p 0 - Ideal.log1p (Ideal.exp (0 - max p (-p)))) * Ideal.ofBits FTy.f32 0x3D800000#32 : EReal) := by
  refine ⟨_, rfl, ?_⟩
  unfold k0_pay32
  pointwise []
  rfl

/-- A tile of the rotated projection: a slice of 128 channels. -/
def ropeTile (z c s : FVec Ideal S512x128 .f32) (k : IVec S512x128 1) (a : Ideal .f32) : FVec Ideal S512x128 .bf16 :=
  truncf (F := Ideal) .bf16 (mulf (addf (mulf z c) (mulf (select k (dynamicRotate 1 96#32 none z rotates_S512x128_d1) (dynamicRotate 1 32#32 none z rotates_S512x128_d1)) s))
    (broadcast S512x128 a)) bitsLt_bf16_f32

theorem ropeTile_at (z c s : FVec Ideal S512x128 .f32) (k : IVec S512x128 1) (a : Ideal .f32)
    (hk : ∀ (r : Fin 512) (l : Fin 128), k (ix2 r l) = if l.val / 32 % 2 = 0 then 1#1 else 0#1) (r : Fin 512) (l : Fin 128) :
    (ropeTile z c s k a (ix2 r l) : EReal) = (HMul.hMul (α := EReal) (z (ix2 r l)) (c (ix2 r l)) +
      HMul.hMul (α := EReal) (if l.val / 32 % 2 = 0 then z (ix2 r (⟨(l.val + 32) % 128, by omega⟩ : Fin 128)) else
        z (ix2 r (⟨(l.val + 96) % 128, by omega⟩ : Fin 128))) (s (ix2 r l))) * (a : EReal) := by
  unfold ropeTile
  pointwise []
  rw [hk]
  by_cases h : l.val / 32 % 2 = 0
  · rw [if_pos h, if_pos h]; rfl
  · rw [if_neg h, if_neg h]; rfl

/-- The four tiles side by side. -/
theorem four_at (t0 t1 t2 t3 : FVec Ideal S512x128 .bf16) (r j : Fin 512) :
    (concatenate S512x512 1 [⟨S512x128, t0⟩, ⟨S512x128, t1⟩, ⟨S512x128, t2⟩, ⟨S512x128, t3⟩] concatenates_S512x128_S512x128_S512x128_S512x128_S512x512_d1 (ix2 r j) : EReal) =
      if j.val / 128 = 0 then t0 (ix2 r (⟨j.val % 128, by omega⟩ : Fin 128)) else
      if j.val / 128 = 1 then t1 (ix2 r (⟨j.val % 128, by omega⟩ : Fin 128)) else
      if j.val / 128 = 2 then t2 (ix2 r (⟨j.val % 128, by omega⟩ : Fin 128)) else t3 (ix2 r (⟨j.val % 128, by omega⟩ : Fin 128)) := by
  pointwise []
  have hj := j.isLt
  repeat' split
  all_goals first
    | omega
    | exact congrArg (fun q => (t0 (ix2 r q) : EReal)) (Fin.ext (by simp only; omega))
    | exact congrArg (fun q => (t1 (ix2 r q) : EReal)) (Fin.ext (by simp only; omega))
    | exact congrArg (fun q => (t2 (ix2 r q) : EReal)) (Fin.ext (by simp only; omega))
    | exact congrArg (fun q => (t3 (ix2 r q) : EReal)) (Fin.ext (by simp only; omega))

theorem slice_at (z : FVec Ideal S512x512 .f32) (r : Fin 512) (l : Fin 128) :
   (extractStridedSlice S512x128 ![0, 128] z slices_S512x512_o0_128_S512x128 (ix2 r l) : EReal) = z (ix2 r (⟨128 + l.val, by omega⟩ : Fin 512)) := by
  pointwise []

theorem pay27_eq (c s : FVec Ideal S512x128 .f32) (k : IVec S512x128 1) (x : FVec Ideal S512x1024 .f32) (g : FVec Ideal S1x1024 .f32) (w : FVec Ideal S1024x512 .bf16) :
    k0_pay27 (F := Ideal) c s k (k0_pay24 x g w) (k0_pay25 x g w) (k0_pay26 x g w) 32#32 =
      concatenate S512x512 1 [
        ⟨S512x128, ropeTile (extractStridedSlice S512x128 ![0, 0] (k0_pay24 x g w) slices_S512x512_o0_0_S512x128) c s k (Scalar.ofBits .f32 0x3E38AA3B#32 : Ideal .f32)⟩,
        ⟨S512x128, ropeTile (extractStridedSlice S512x128 ![0, 128] (k0_pay24 x g w) slices_S512x512_o0_128_S512x128) c s k (Scalar.ofBits .f32 0x3E38AA3B#32 : Ideal .f32)⟩,
        ⟨S512x128, ropeTile (extractStridedSlice S512x128 ![0, 256] (k0_pay24 x g w) slices_S512x512_o0_256_S512x128) c s k (Scalar.ofBits .f32 0x3E38AA3B#32 : Ideal .f32)⟩,
        ⟨S512x128, ropeTile (extractStridedSlice S512x128 ![0, 384] (k0_pay24 x g w) slices_S512x512_o0_384_S512x128) c s k (Scalar.ofBits .f32 0x3E38AA3B#32 : Ideal .f32)⟩]
        concatenates_S512x128_S512x128_S512x128_S512x128_S512x512_d1 := rfl

theorem pay30_eq (c s : FVec Ideal S512x128 .f32) (k : IVec S512x128 1) (u : FVec Ideal S512x1024 .bf16) (w : FVec Ideal S1024x512 .bf16) :
    k0_pay30 (F := Ideal) c s k (k0_pay28 u w) (k0_pay29 u w) =
      concatenate S512x512 1 [
        ⟨S512x128, ropeTile (extractStridedSlice S512x128 ![0, 0] (k0_pay28 u w) slices_S512x512_o0_0_S512x128) c s k (Scalar.ofBits .f32 0x3F800000#32 : Ideal .f32)⟩,
        ⟨S512x128, ropeTile (extractStridedSlice S512x128 ![0, 128] (k0_pay28 u w) slices_S512x512_o0_128_S512x128) c s k (Scalar.ofBits .f32 0x3F800000#32 : Ideal .f32)⟩,
        ⟨S512x128, ropeTile (extractStridedSlice S512x128 ![0, 256] (k0_pay28 u w) slices_S512x512_o0_256_S512x128) c s k (Scalar.ofBits .f32 0x3F800000#32 : Ideal .f32)⟩,
        ⟨S512x128, ropeTile (extractStridedSlice S512x128 ![0, 384] (k0_pay28 u w) slices_S512x512_o0_384_S512x128) c s k (Scalar.ofBits .f32 0x3F800000#32 : Ideal .f32)⟩]
        concatenates_S512x128_S512x128_S512x128_S512x128_S512x512_d1 := rfl
-- ==== Proof.ITrig.lean ====
module
public import proofs.«01_k».proof.Proof.Tail
public import proofs.«01_k».proof.Proof.Gen.Kernel3Ideal.Skeleton
public import Idealize.ShloMosaic.Lib.Pipeline.ValueKit
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail

theorem pay4_at (p l : Fin 128) : k0_pay4 (ix2 p l) = BitVec.ofNat 32 (l.val / 32) := by
  unfold k0_pay4
  pointwise []
  revert l; decide +kernel

theorem pay20_at (r : Fin 512) (l : Fin 128) : k0_pay20 k0_pay18 k0_pay19 (ix2 r l) = if l.val / 32 % 2 = 0 then 1#1 else 0#1 := by
  unfold k0_pay20 k0_pay18 k0_pay19
  pointwise []
  revert l; decide +kernel

/-- One of four lane groups of an array, copied to every group of lanes. -/
def one (k : IVec S128x128 32) (n : BitVec 32) (x : FVec Ideal S128x128 .f32) : FVec Ideal S128x128 .f32 :=
  select (cmpi .eq k (broadcast S128x128 n)) x (broadcast S128x128 (Scalar.ofBits .f32 0x00000000#32 : Ideal .f32))

def spr (v : FVec Ideal S128x128 .f32) : FVec Ideal S128x128 .f32 :=
  addf (addf v (dynamicRotate 1 64#32 none v rotates_S128x128_d1))
    (dynamicRotate 1 32#32 none (addf v (dynamicRotate 1 64#32 none v rotates_S128x128_d1)) rotates_S128x128_d1)

theorem one_at (k : IVec S128x128 32) (hk : ∀ p l : Fin 128, k (ix2 p l) = BitVec.ofNat 32 (l.val / 32)) (n : ℕ) (hn : n < 4)
    (x : FVec Ideal S128x128 .f32) (p l : Fin 128) :
    (one k (BitVec.ofNat 32 n) x (ix2 p l) : EReal) = if l.val / 32 = n then (x (ix2 p l) : EReal) else 0 := by
  unfold one
  pointwise []
  rw [hk]
  have e : IntOp.cmpi CmpIPredicate.eq (BitVec.ofNat 32 (l.val / 32)) (BitVec.ofNat 32 n) = if l.val / 32 = n then 1#1 else 0#1 := by
    have h4 : l.val / 32 < 4 := by omega
    generalize l.val / 32 = q at h4 ⊢
    revert n q; decide +kernel
  rw [e]
  by_cases h : l.val / 32 = n
  · rw [if_pos h, if_pos h]; rfl
  · rw [if_neg h, if_neg h]; rfl

theorem spr4_at (v : FVec Ideal S128x128 .f32) (p l : Fin 128) :
    (spr v (ix2 p l) : EReal) = HAdd.hAdd (α := EReal) (HAdd.hAdd (α := EReal) (v (ix2 p l)) (v (ix2 p (⟨(l.val + 128 - 64) % 128, by omega⟩ : Fin 128))))
      (HAdd.hAdd (α := EReal) (v (ix2 p (⟨(l.val + 128 - 32) % 128, by omega⟩ : Fin 128)))
        (v (ix2 p (⟨((l.val + 128 - 32) % 128 + 128 - 64) % 128, by omega⟩ : Fin 128)))) := by
  unfold spr
  pointwise []

theorem spr_at (k : IVec S128x128 32) (hk : ∀ p l : Fin 128, k (ix2 p l) = BitVec.ofNat 32 (l.val / 32)) (n : ℕ) (hn : n < 4)
    (x : FVec Ideal S128x128 .f32) (p l : Fin 128) :
    (spr (one k (BitVec.ofNat 32 n) x) (ix2 p l) : EReal) = x (ix2 p (⟨32 * n + l.val % 32, by omega⟩ : Fin 128)) := by
  have ho := one_at k hk n hn x p
  rw [spr4_at, ho, ho, ho, ho]
  show (((if l.val / 32 = n then (x (ix2 p l) : EReal) else 0) + (if (l.val + 128 - 64) % 128 / 32 = n then (x (ix2 p (⟨(l.val + 128 - 64) % 128, by omega⟩ : Fin 128)) : EReal) else 0)) +
    ((if (l.val + 128 - 32) % 128 / 32 = n then (x (ix2 p (⟨(l.val + 128 - 32) % 128, by omega⟩ : Fin 128)) : EReal) else 0) +
     (if ((l.val + 128 - 32) % 128 + 128 - 64) % 128 / 32 = n then (x (ix2 p (⟨((l.val + 128 - 32) % 128 + 128 - 64) % 128, by omega⟩ : Fin 128)) : EReal) else 0)) : EReal) = _
  have hl := l.isLt
  have h : l.val / 32 = n ∨ (l.val + 128 - 64) % 128 / 32 = n ∨ (l.val + 128 - 32) % 128 / 32 = n ∨ ((l.val + 128 - 32) % 128 + 128 - 64) % 128 / 32 = n := by
    omega
  rcases h with h | h | h | h
  · rw [if_pos h, if_neg (by omega), if_neg (by omega), if_neg (by omega), add_zero, add_zero, add_zero]
    exact congrArg (fun q => (x (ix2 p q) : EReal)) (Fin.ext (by show l.val = 32 * n + l.val % 32; omega))
  · rw [if_neg (c := l.val / 32 = n) (by omega), if_pos h, if_neg (by omega), if_neg (by omega), zero_add, add_zero, add_zero]
    exact congrArg (fun q => (x (ix2 p q) : EReal)) (Fin.ext (by show (l.val + 128 - 64) % 128 = 32 * n + l.val % 32; omega))
  · rw [if_neg (c := l.val / 32 = n) (by omega), if_neg (c := (l.val + 128 - 64) % 128 / 32 = n) (by omega), if_pos h, if_neg (by omega), zero_add, zero_add, add_zero]
    exact congrArg (fun q => (x (ix2 p q) : EReal)) (Fin.ext (by show (l.val + 128 - 32) % 128 = 32 * n + l.val % 32; omega))
  · rw [if_neg (c := l.val / 32 = n) (by omega), if_neg (c := (l.val + 128 - 64) % 128 / 32 = n) (by omega), if_neg (c := (l.val + 128 - 32) % 128 / 32 = n) (by omega), if_pos h, zero_add, zero_add, zero_add]
    exact congrArg (fun q => (x (ix2 p q) : EReal)) (Fin.ext (by show ((l.val + 128 - 32) % 128 + 128 - 64) % 128 = 32 * n + l.val % 32; omega))

/-- The four groups one under the other. -/
theorem stack_at (t0 t1 t2 t3 : FVec Ideal S128x128 .f32) (r : Fin 512) (l : Fin 128) :
    (concatenate S512x128 0 [⟨S128x128, t0⟩, ⟨S128x128, t1⟩, ⟨S128x128, t2⟩, ⟨S128x128, t3⟩] concatenates_S128x128_S128x128_S128x128_S128x128_S512x128_d0 (ix2 r l) : EReal) =
      if r.val / 128 = 0 then t0 (ix2 (⟨r.val % 128, by omega⟩ : Fin 128) l) else
      if r.val / 128 = 1 then t1 (ix2 (⟨r.val % 128, by omega⟩ : Fin 128) l) else
      if r.val / 128 = 2 then t2 (ix2 (⟨r.val % 128, by omega⟩ : Fin 128) l) else t3 (ix2 (⟨r.val % 128, by omega⟩ : Fin 128) l) := by
  pointwise []
  have hj := r.isLt
  repeat' split
  all_goals first
    | omega
    | exact congrArg (fun q => (t0 (ix2 q l) : EReal)) (Fin.ext (by simp only; omega))
    | exact congrArg (fun q => (t1 (ix2 q l) : EReal)) (Fin.ext (by simp only; omega))
    | exact congrArg (fun q => (t2 (ix2 q l) : EReal)) (Fin.ext (by simp only; omega))
    | exact congrArg (fun q => (t3 (ix2 q l) : EReal)) (Fin.ext (by simp only; omega))

def stack (k : IVec S128x128 32) (x : FVec Ideal S128x128 .f32) : FVec Ideal S512x128 .f32 :=
  concatenate S512x128 0 [⟨S128x128, spr (one k 0#32 x)⟩, ⟨S128x128, spr (one k 1#32 x)⟩, ⟨S128x128, spr (one k 2#32 x)⟩, ⟨S128x128, spr (one k 3#32 x)⟩] concatenates_S128x128_S128x128_S128x128_S128x128_S512x128_d0

theorem stack_eq (k : IVec S128x128 32) (hk : ∀ p l : Fin 128, k (ix2 p l) = BitVec.ofNat 32 (l.val / 32)) (x : FVec Ideal S128x128 .f32) (r : Fin 512) (l : Fin 128) :
    (stack k x (ix2 r l) : EReal) = x (ix2 (⟨r.val % 128, by omega⟩ : Fin 128) (⟨32 * (r.val / 128) + l.val % 32, by omega⟩ : Fin 128)) := by
  refine (stack_at _ _ _ _ r l).trans ?_
  have hr := r.isLt
  have h : r.val / 128 = 0 ∨ r.val / 128 = 1 ∨ r.val / 128 = 2 ∨ r.val / 128 = 3 := by omega
  rcases h with h | h | h | h
  · rw [if_pos h]
    refine (spr_at k hk 0 (by omega) x _ l).trans (congrArg (fun q => (x (ix2 _ q) : EReal)) (Fin.ext ?_))
    show 32 * 0 + _ = 32 * (r.val / 128) + _
    rw [h]
  · rw [if_neg (by omega), if_pos h]
    refine (spr_at k hk 1 (by omega) x _ l).trans (congrArg (fun q => (x (ix2 _ q) : EReal)) (Fin.ext ?_))
    show 32 * 1 + _ = 32 * (r.val / 128) + _
    rw [h]
  · rw [if_neg (by omega), if_neg (by omega), if_pos h]
    refine (spr_at k hk 2 (by omega) x _ l).trans (congrArg (fun q => (x (ix2 _ q) : EReal)) (Fin.ext ?_))
    show 32 * 2 + _ = 32 * (r.val / 128) + _
    rw [h]
  · rw [if_neg (by omega), if_neg (by omega), if_neg (by omega)]
    refine (spr_at k hk 3 (by omega) x _ l).trans (congrArg (fun q => (x (ix2 _ q) : EReal)) (Fin.ext ?_))
    show 32 * 3 + _ = 32 * (r.val / 128) + _
    rw [h]

/-- The angles: position times frequency, four groups of 128 rows side by side in the lanes. -/
theorem pay8_at (x : IVec S512x1 32) (f : FVec Ideal S1x128 .f32) (p l : Fin 128) :
    (k0_pay8 (F := Ideal) (k0_pay5 x) k0_pay6 (k0_pay7 x) f (ix2 p l) : EReal) =
      HMul.hMul (α := EReal) (FloatOps.sitofp (F := Ideal) FTy.f32 (x (ix2 (⟨128 * (l.val / 32) + p.val, by omega⟩ : Fin 512) (0 : Fin 1)))) (f (ix2 (0 : Fin 1) l)) := by
  unfold k0_pay8 k0_pay5 k0_pay6 k0_pay7 k0_pay3
  have hk := pay4_at
  generalize k0_pay4 = k at hk ⊢
  pointwise []
  rw [hk]
  have h4 : l.val / 32 < 4 := by omega
  have e : ∀ q, q < 4 → ∀ n, n < 4 → IntOp.cmpi CmpIPredicate.eq (BitVec.ofNat 32 q) (BitVec.ofNat 32 n) = if q = n then 1#1 else 0#1 := by
    decide +kernel
  have e3 := e _ h4 3 (by omega)
  have e2 := e _ h4 2 (by omega)
  have e1 := e _ h4 1 (by omega)
  change IntOp.cmpi CmpIPredicate.eq (BitVec.ofNat 32 (l.val / 32)) 3#32 = _ at e3
  change IntOp.cmpi CmpIPredicate.eq (BitVec.ofNat 32 (l.val / 32)) 2#32 = _ at e2
  change IntOp.cmpi CmpIPredicate.eq (BitVec.ofNat 32 (l.val / 32)) 1#32 = _ at e1
  rw [e3, e2, e1]
  refine congrArg (fun q : EReal => q * (f (ix2 (0 : Fin 1) l) : EReal)) ?_
  have c : ∀ a : Fin 512, a.val = 128 * (l.val / 32) + p.val →
      (FloatOps.sitofp (F := Ideal) FTy.f32 (x (ix2 a (0 : Fin 1))) : EReal) =
      FloatOps.sitofp (F := Ideal) FTy.f32 (x (ix2 (⟨128 * (l.val / 32) + p.val, by omega⟩ : Fin 512) (0 : Fin 1))) := fun a ha =>
    congrArg (fun a : Fin 512 => (FloatOps.sitofp (F := Ideal) FTy.f32 (x (ix2 a (0 : Fin 1))) : EReal)) (Fin.ext ha)
  have hq : l.val / 32 = 0 ∨ l.val / 32 = 1 ∨ l.val / 32 = 2 ∨ l.val / 32 = 3 := by omega
  rcases hq with h | h | h | h
  · rw [if_neg (c := l.val / 32 = 3) (by omega), if_neg (c := l.val / 32 = 2) (by omega), if_neg (c := l.val / 32 = 1) (by omega)]
    exact c ⟨p.val, by omega⟩ (by show p.val = _; omega)
  · rw [if_neg (c := l.val / 32 = 3) (by omega), if_neg (c := l.val / 32 = 2) (by omega), if_pos (c := l.val / 32 = 1) h]
    exact c ⟨128 + p.val, by omega⟩ (by show 128 + p.val = _; omega)
  · rw [if_neg (c := l.val / 32 = 3) (by omega), if_pos (c := l.val / 32 = 2) h]
    exact c ⟨256 + p.val, by omega⟩ (by show 256 + p.val = _; omega)
  · rw [if_pos (c := l.val / 32 = 3) h]
    exact c ⟨384 + p.val, by omega⟩ (by show 384 + p.val = _; omega)

theorem cos_at (x : IVec S512x1 32) (f : FVec Ideal S1x128 .f32) (r : Fin 512) (l : Fin 128) :
    (k0_pay16 (F := Ideal) (k0_pay10 k0_pay4 (k0_pay5 x) k0_pay6 (k0_pay7 x) f) (k0_pay11 k0_pay4 (k0_pay5 x) k0_pay6 (k0_pay7 x) f)
      (k0_pay12 k0_pay4 (k0_pay5 x) k0_pay6 (k0_pay7 x) f) (k0_pay13 k0_pay4 (k0_pay5 x) k0_pay6 (k0_pay7 x) f) (ix2 r l) : EReal) =
      Ideal.cos (HMul.hMul (α := EReal) (FloatOps.sitofp (F := Ideal) FTy.f32 (x (ix2 r (0 : Fin 1)))) (f (ix2 (0 : Fin 1) (⟨32 * (r.val / 128) + l.val % 32, by omega⟩ : Fin 128)))) := by
  refine (stack_eq k0_pay4 pay4_at (k0_pay9 (k0_pay5 x) k0_pay6 (k0_pay7 x) f) r l).trans ?_
  show Ideal.cos (k0_pay8 (F := Ideal) (k0_pay5 x) k0_pay6 (k0_pay7 x) f _) = _
  rw [pay8_at]
  congr 6
  show 128 * ((32 * (r.val / 128) + l.val % 32) / 32) + r.val % 128 = r.val
  omega

theorem sin_at (x : IVec S512x1 32) (f : FVec Ideal S1x128 .f32) (s : FVec Ideal S1x128 .f32) (r : Fin 512) (l : Fin 128) :
    (k0_pay17 (F := Ideal) k0_pay4 (k0_pay14 (k0_pay5 x) k0_pay6 (k0_pay7 x) f) k0_pay15 s (ix2 r l) : EReal) =
      Ideal.sin (HMul.hMul (α := EReal) (FloatOps.sitofp (F := Ideal) FTy.f32 (x (ix2 r (0 : Fin 1)))) (f (ix2 (0 : Fin 1) (⟨32 * (r.val / 128) + l.val % 32, by omega⟩ : Fin 128))))
        * (s (ix2 (0 : Fin 1) l) : EReal) := by
  have e : k0_pay17 (F := Ideal) k0_pay4 (k0_pay14 (k0_pay5 x) k0_pay6 (k0_pay7 x) f) k0_pay15 s =
    mulf (stack k0_pay4 (k0_pay14 (k0_pay5 x) k0_pay6 (k0_pay7 x) f)) (broadcastTo S512x128 (shapeCast S1x128 s shapeCasts_S1x128_S1x128) broadcasts_S1x128_S512x128) := rfl
  rw [e]
  have h := stack_eq k0_pay4 pay4_at (k0_pay14 (F := Ideal) (k0_pay5 x) k0_pay6 (k0_pay7 x) f) r l
  generalize stack k0_pay4 (k0_pay14 (k0_pay5 x) k0_pay6 (k0_pay7 x) f) = w at h ⊢
  pointwise []
  rw [h]
  refine congrArg (fun q : EReal => q * (s (ix2 (0 : Fin 1) l) : EReal)) ?_
  show Ideal.sin (k0_pay8 (F := Ideal) (k0_pay5 x) k0_pay6 (k0_pay7 x) f _) = _
  rw [pay8_at]
  congr 6
  show 128 * ((32 * (r.val / 128) + l.val % 32) / 32) + r.val % 128 = r.val
  omega

end Cert.Kernel3Ideal.Gen
end
-- ==== Proof.ITile.lean ====
module
public import proofs.«01_k».proof.Proof.Inp
public import proofs.«01_k».proof.Proof.IBlock
public import proofs.«01_k».proof.Proof.ITrig
public import proofs.«01_k».proof.Proof.Gen.Kernel3Ideal.Value
public import Idealize.ShloMosaic.Lib.Pipeline.ValueKit
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail Cert.Inp

theorem one_256 (P : FVec Ideal S512x256 .bf16) (y : S512x256.Idx) :
    (View.canon [(⟨r0_5, P⟩ : View.Piece (Elt Ideal) S512x256 .bf16)] y : EReal) = P y := by
  have hy : r0_5.emb y = y := by
    funext a
    fin_cases a
    · exact Fin.ext ((Nat.zero_add _).trans (Nat.one_mul _))
    · exact Fin.ext ((Nat.zero_add _).trans (Nat.one_mul _))
  exact (congrArg (View.canon _) hy.symm).trans (View.canon_cons_emb _ _ _ _)

theorem one_256f (P : FVec Ideal S512x256 .f32) (y : S512x256.Idx) :
    (View.canon [(⟨r0_5, P⟩ : View.Piece (Elt Ideal) S512x256 .f32)] y : EReal) = P y := by
  have hy : r0_5.emb y = y := by
    funext a
    fin_cases a
    · exact Fin.ext ((Nat.zero_add _).trans (Nat.one_mul _))
    · exact Fin.ext ((Nat.zero_add _).trans (Nat.one_mul _))
  exact (congrArg (View.canon _) hy.symm).trans (View.canon_cons_emb _ _ _ _)

theorem one_512 (P : FVec Ideal S512x512 .bf16) (y : S512x512.Idx) :
    (View.canon [(⟨r0_8, P⟩ : View.Piece (Elt Ideal) S512x512 .bf16)] y : EReal) = P y := by
  have hy : r0_8.emb y = y := by
    funext a
    fin_cases a
    · exact Fin.ext ((Nat.zero_add _).trans (Nat.one_mul _))
    · exact Fin.ext ((Nat.zero_add _).trans (Nat.one_mul _))
  exact (congrArg (View.canon _) hy.symm).trans (View.canon_cons_emb _ _ _ _)

/-- Whole-buffer loads read the buffer. -/
theorem ld_full {a b : ℕ} {e : EltTy} (X : Vec Ideal ⟨2, ![a, b]⟩ e) (inb) :
    View.ld X (Rect.unit (s := ⟨2, ![a, b]⟩) ![0, 0] ![a, b] inb) = X := by
  funext y
  refine congrArg X ?_
  funext q
  fin_cases q
  · exact Fin.ext ((Nat.zero_add _).trans (Nat.one_mul _))
  · exact Fin.ext ((Nat.zero_add _).trans (Nat.one_mul _))

/-- What a tile of rows is fed: the rows of the data its blocks hold. -/
structure Feeds (d : Data) (R : Fin 512 → Fin 65536) (x0 : Vec Ideal S512x1024 .f32) (x1 : Vec Ideal S512x1 .i32) (x2 : Vec Ideal S1x1024 .f32)
    (x3 : Vec Ideal S1024x2688 .bf16) (x4 : Vec Ideal S512x1024 .bf16) (x5 : Vec Ideal S128x256 .bf16) (x6 : Vec Ideal S1x256 .f32)
    (x7 : Vec Ideal S1x128 .f32) (x8 : Vec Ideal S1x128 .f32) : Prop where
  h0 : ∀ r k, (x0 (ix2 r k) : EReal) = d.x (R r) k
  h1 : ∀ r : Fin 512, (FloatOps.sitofp (F := Ideal) FTy.f32 (x1 (ix2 r (0 : Fin 1))) : EReal) = d.pos (R r)
  h2 : ∀ k, (x2 (ix2 (0 : Fin 1) k) : EReal) = d.nm k
  h3 : ∀ (k : Fin 1024) (j : Fin 2688), (x3 (ix2 k j) : EReal) =
      if h : j.val < 1536 then d.wi k (⟨j.val, by omega⟩ : Fin 3088)
      else if h : j.val < 2560 then d.wi k (⟨j.val + 16, by omega⟩ : Fin 3088)
      else if h : j.val < 2576 then d.wi k (⟨j.val - 1024, by omega⟩ : Fin 3088)
      else 0
  h4 : ∀ (a : Fin 512) (k : Fin 1024), (x4 (ix2 a k) : EReal) = d.wi k (⟨2576 + a.val, by omega⟩ : Fin 3088)
  h5 : ∀ (l : Fin 128) (j : Fin 256), (x5 (ix2 l j) : EReal) = if h : l.val < 16 then d.wa ⟨l.val, h⟩ j else 0
  h6 : ∀ j, (x6 (ix2 (0 : Fin 1) j) : EReal) = d.ba j
  h7 : ∀ l : Fin 128, (x7 (ix2 (0 : Fin 1) l) : EReal) = Data.freq (l.val % 32)
  h8 : ∀ l : Fin 128, (x8 (ix2 (0 : Fin 1) l) : EReal) = if l.val % 64 < 32 then (-1 : EReal) else (1 : EReal)

section
variable {d : Data} {R : Fin 512 → Fin 65536} {x0 : Vec Ideal S512x1024 .f32} {x1 : Vec Ideal S512x1 .i32} {x2 : Vec Ideal S1x1024 .f32}
    {x3 : Vec Ideal S1024x2688 .bf16} {x4 : Vec Ideal S512x1024 .bf16} {x5 : Vec Ideal S128x256 .bf16} {x6 : Vec Ideal S1x256 .f32}
    {x7 : Vec Ideal S1x128 .f32} {x8 : Vec Ideal S1x128 .f32} (H : Feeds d R x0 x1 x2 x3 x4 x5 x6 x7 x8)
include H

theorem u_at (r : Fin 512) (k : Fin 1024) :
    (k0_pay21 (F := Ideal) (View.ld x0 r0_2) (View.ld x2 r0_3) (ix2 r k) : EReal) = rmsRow (d.x (R r)) d.nm k := by
  rw [show View.ld x0 r0_2 = x0 from ld_full x0 _, show View.ld x2 r0_3 = x2 from ld_full x2 _, pay21_at]
  simp only [H.h0, H.h2]

theorem w4_at (k : Fin 1024) (j : Fin 256) : (View.ld x3 r0_4 (ix2 k j) : EReal) = d.wi k ⟨j.val, by omega⟩ := by
  have e : (View.ld x3 r0_4 (ix2 k j) : EReal) = x3 (ix2 k (⟨j.val, by omega⟩ : Fin 2688)) := by
    refine congrArg x3 ?_
    funext q
    fin_cases q
    · exact Fin.ext ((Nat.zero_add _).trans (Nat.one_mul _))
    · exact Fin.ext ((Nat.zero_add _).trans (Nat.one_mul _))
  rw [e, H.h3, dif_pos (by show j.val < 1536; omega)]

theorem w6_at (k : Fin 1024) (j : Fin 256) : (View.ld x3 r0_6 (ix2 k j) : EReal) = d.wi k ⟨256 + j.val, by omega⟩ := by
  have e : (View.ld x3 r0_6 (ix2 k j) : EReal) = x3 (ix2 k (⟨256 + j.val, by omega⟩ : Fin 2688)) := by
    refine congrArg x3 ?_
    funext q
    fin_cases q
    · exact Fin.ext ((Nat.zero_add _).trans (Nat.one_mul _))
    · exact Fin.ext (congrArg (256 + ·) (Nat.one_mul _))
  rw [e, H.h3, dif_pos (by show 256 + j.val < 1536; omega)]

theorem w13_at (k : Fin 1024) (j : Fin 512) : (View.ld x3 r0_13 (ix2 k j) : EReal) = d.wi k ⟨512 + j.val, by omega⟩ := by
  have e : (View.ld x3 r0_13 (ix2 k j) : EReal) = x3 (ix2 k (⟨512 + j.val, by omega⟩ : Fin 2688)) := by
    refine congrArg x3 ?_
    funext q
    fin_cases q
    · exact Fin.ext ((Nat.zero_add _).trans (Nat.one_mul _))
    · exact Fin.ext (congrArg (512 + ·) (Nat.one_mul _))
  rw [e, H.h3, dif_pos (by show 512 + j.val < 1536; omega)]

theorem w14_at (k : Fin 1024) (j : Fin 512) : (View.ld x3 r0_14 (ix2 k j) : EReal) = d.wi k ⟨1024 + j.val, by omega⟩ := by
  have e : (View.ld x3 r0_14 (ix2 k j) : EReal) = x3 (ix2 k (⟨1024 + j.val, by omega⟩ : Fin 2688)) := by
    refine congrArg x3 ?_
    funext q
    fin_cases q
    · exact Fin.ext ((Nat.zero_add _).trans (Nat.one_mul _))
    · exact Fin.ext (congrArg (1024 + ·) (Nat.one_mul _))
  rw [e, H.h3, dif_pos (by show 1024 + j.val < 1536; omega)]

theorem w7_at (k : Fin 1024) (j : Fin 512) : (View.ld x3 r0_7 (ix2 k j) : EReal) = d.wi k ⟨1552 + j.val, by omega⟩ := by
  have e : (View.ld x3 r0_7 (ix2 k j) : EReal) = x3 (ix2 k (⟨1536 + j.val, by omega⟩ : Fin 2688)) := by
    refine congrArg x3 ?_
    funext q
    fin_cases q
    · exact Fin.ext ((Nat.zero_add _).trans (Nat.one_mul _))
    · exact Fin.ext (congrArg (1536 + ·) (Nat.one_mul _))
  rw [e, H.h3, dif_neg (by show ¬ 1536 + j.val < 1536; omega), dif_pos (by show 1536 + j.val < 2560; omega)]
  exact congrArg (d.wi k) (Fin.ext (by simp only; omega))

theorem w9_at (k : Fin 1024) (j : Fin 512) : (View.ld x3 r0_9 (ix2 k j) : EReal) = d.wi k ⟨2064 + j.val, by omega⟩ := by
  have e : (View.ld x3 r0_9 (ix2 k j) : EReal) = x3 (ix2 k (⟨2048 + j.val, by omega⟩ : Fin 2688)) := by
    refine congrArg x3 ?_
    funext q
    fin_cases q
    · exact Fin.ext ((Nat.zero_add _).trans (Nat.one_mul _))
    · exact Fin.ext (congrArg (2048 + ·) (Nat.one_mul _))
  rw [e, H.h3, dif_neg (by show ¬ 2048 + j.val < 1536; omega), dif_pos (by show 2048 + j.val < 2560; omega)]
  exact congrArg (d.wi k) (Fin.ext (by simp only; omega))

theorem w10_at (k : Fin 1024) (l : Fin 16) :
    (k0_pay31 (F := Ideal) (View.ld x3 r0_10) (ix2 k (⟨l.val, by omega⟩ : Fin 128)) : EReal) = d.wi k ⟨1536 + l.val, by omega⟩ := by
  have e0 : k0_pay31 (F := Ideal) (View.ld x3 r0_10) (ix2 k (⟨l.val, by omega⟩ : Fin 128)) = View.ld x3 r0_10 (ix2 k (⟨l.val, by omega⟩ : Fin 128)) := by
    unfold k0_pay31
    pointwise []
  have e : (View.ld x3 r0_10 (ix2 k (⟨l.val, by omega⟩ : Fin 128)) : EReal) = x3 (ix2 k (⟨2560 + l.val, by omega⟩ : Fin 2688)) := by
    refine congrArg x3 ?_
    funext q
    fin_cases q
    · exact Fin.ext ((Nat.zero_add _).trans (Nat.one_mul _))
    · exact Fin.ext (congrArg (2560 + ·) (Nat.one_mul _))
  rw [e0, e, H.h3, dif_neg (by show ¬ 2560 + l.val < 1536; omega), dif_neg (by show ¬ 2560 + l.val < 2560; omega), dif_pos (by show 2560 + l.val < 2576; omega)]
  exact congrArg (d.wi k) (Fin.ext (by simp only; omega))

theorem out9_at (r : Fin 512) (j : Fin 256) : (out0_9 x0 x1 x2 x3 x4 x5 x6 x7 x8 (ix2 r j) : EReal) = d.gq (R r) j := by
  unfold out0_9
  rw [one_256, pay22_at]
  simp only [u_at H, w4_at H]
  rfl

theorem out10_at (r : Fin 512) (j : Fin 256) : (out0_10 x0 x1 x2 x3 x4 x5 x6 x7 x8 (ix2 r j) : EReal) = d.gk (R r) j := by
  unfold out0_10
  rw [one_256, pay23_at]
  simp only [u_at H, w6_at H]
  rfl

theorem out11_at (r : Fin 512) (j : Fin 512) : (out0_11 x0 x1 x2 x3 x4 x5 x6 x7 x8 (ix2 r j) : EReal) = d.gv (R r) j := by
  unfold out0_11 k0_pay43
  rw [one_512, pay33_at]
  simp only [u_at H, w13_at H]
  rfl

theorem out12_at (r : Fin 512) (j : Fin 512) : (out0_12 x0 x1 x2 x3 x4 x5 x6 x7 x8 (ix2 r j) : EReal) = d.gg (R r) j := by
  unfold out0_12 k0_pay43
  rw [one_512, pay34_at]
  simp only [u_at H, w14_at H]
  rfl

theorem out16_at (a : Fin 2) (j : Fin 512) (s : Fin 256) :
    (out0_16 x0 x1 x2 x3 x4 x5 x6 x7 x8 (ix3 a j s) : EReal) = d.z (R ⟨a.val * 256 + s.val, by omega⟩) ⟨2576 + j.val, by omega⟩ := by
  unfold out0_16 k0_pay44 k0_pay43
  refine (Cert.Kernel3Ideal.Value.canon16_eq _ _ _ _).trans ?_
  have e : Cert.Kernel3Ideal.Value.ix16_0 (ix3 a j s) = ix2 j (⟨a.val * 256 + s.val, by omega⟩ : Fin 512) := by
    funext q
    fin_cases q <;> rfl
  show (k0_pay35 (F := Ideal) (k0_pay21 (View.ld x0 r0_2) (View.ld x2 r0_3)) (View.ld x4 r0_2) (Cert.Kernel3Ideal.Value.ix16_0 (ix3 a j s)) : EReal) = _
  rw [e, pay35_at]
  unfold Data.z
  refine Finset.sum_congr rfl fun k _ => ?_
  rw [u_at H, show View.ld x4 r0_2 = x4 from ld_full x4 _, H.h4]
  exact mul_comm _ _

theorem out13_at (r : Fin 512) (j : Fin 256) : (out0_13 x0 x1 x2 x3 x4 x5 x6 x7 x8 (ix2 r j) : EReal) = d.la (R r) j := by
  unfold out0_13 k0_pay43
  rw [one_256f]
  obtain ⟨p, hp, e⟩ := pay32_at (k0_pay21 (View.ld x0 r0_2) (View.ld x2 r0_3)) (k0_pay31 (View.ld x3 r0_10)) (View.ld x5 r0_11) (View.ld x6 r0_12) r j
  rw [e, lsg]
  have hpre : p = d.pre (R r) j := by
    rw [hp, show View.ld x5 r0_11 = x5 from ld_full x5 _, show View.ld x6 r0_12 = x6 from ld_full x6 _, H.h6]
    unfold Data.pre
    refine congrArg (fun q : EReal => q + d.ba j) ?_
    refine (Fin.sum_univ_add (a := 16) (b := 112) _).trans ?_
    rw [Finset.sum_eq_zero (s := (Finset.univ : Finset (Fin 112))) (fun i _ => by
      rw [H.h5, dif_neg (by show ¬ 16 + i.val < 16; omega)]
      exact mul_zero _), add_zero]
    refine Finset.sum_congr rfl fun l _ => ?_
    rw [H.h5, dif_pos (show (Fin.castAdd 112 l).val < 16 from l.isLt)]
    refine congrArg₂ (fun a b : EReal => a * b) ?_ rfl
    unfold Data.z
    refine Finset.sum_congr rfl fun k _ => ?_
    rw [u_at H]
    exact congrArg (fun q : EReal => rmsRow (d.x (R r)) d.nm k * q) (w10_at H k l)
  rw [hpre]
  rfl

theorem c_at (r : Fin 512) (l : Fin 128) :
    (k0_pay40 x0 x1 x2 x3 x4 x5 x6 x7 x8 (ix2 r l) : EReal) = Ideal.cos (d.ang (R r) (l.val % 32)) := by
  unfold k0_pay40 k0_pay36 k0_pay37 k0_pay38 k0_pay39
  rw [show View.ld x1 r0_0 = x1 from ld_full x1 _, show View.ld x7 r0_1 = x7 from ld_full x7 _]
  refine (cos_at x1 x7 r l).trans ?_
  rw [H.h1, H.h7]
  unfold Data.ang
  rw [show (32 * (r.val / 128) + l.val % 32) % 32 = l.val % 32 by omega]

theorem s_at (r : Fin 512) (l : Fin 128) :
    (k0_pay41 x0 x1 x2 x3 x4 x5 x6 x7 x8 (ix2 r l) : EReal) = Ideal.sin (d.ang (R r) (l.val % 32)) * (if l.val % 64 < 32 then (-1 : EReal) else (1 : EReal)) := by
  unfold k0_pay41 k0_pay36 k0_pay37 k0_pay38 k0_pay39
  rw [show View.ld x1 r0_0 = x1 from ld_full x1 _, show View.ld x7 r0_1 = x7 from ld_full x7 _, show View.ld x8 r0_1 = x8 from ld_full x8 _]
  refine (sin_at x1 x7 x8 r l).trans ?_
  rw [H.h1, H.h7, H.h8]
  unfold Data.ang
  rw [show (32 * (r.val / 128) + l.val % 32) % 32 = l.val % 32 by omega]

end

end Cert.Kernel3Ideal.Gen
end
-- ==== Proof.IRope.lean ====
module
public import proofs.«01_k».proof.Proof.ITile
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail Cert.Inp

theorem sl0_at (z : FVec Ideal S512x512 .f32) (r : Fin 512) (l : Fin 128) :
    (extractStridedSlice S512x128 ![0, 0] z slices_S512x512_o0_0_S512x128 (ix2 r l) : EReal) = z (ix2 r (⟨l.val, by omega⟩ : Fin 512)) := by
  pointwise []
theorem sl1_at (z : FVec Ideal S512x512 .f32) (r : Fin 512) (l : Fin 128) :
    (extractStridedSlice S512x128 ![0, 128] z slices_S512x512_o0_128_S512x128 (ix2 r l) : EReal) = z (ix2 r (⟨128 + l.val, by omega⟩ : Fin 512)) := by
  pointwise []
theorem sl2_at (z : FVec Ideal S512x512 .f32) (r : Fin 512) (l : Fin 128) :
    (extractStridedSlice S512x128 ![0, 256] z slices_S512x512_o0_256_S512x128 (ix2 r l) : EReal) = z (ix2 r (⟨256 + l.val, by omega⟩ : Fin 512)) := by
  pointwise []
theorem sl3_at (z : FVec Ideal S512x512 .f32) (r : Fin 512) (l : Fin 128) :
    (extractStridedSlice S512x128 ![0, 384] z slices_S512x512_o0_384_S512x128 (ix2 r l) : EReal) = z (ix2 r (⟨384 + l.val, by omega⟩ : Fin 512)) := by
  pointwise []

/-- The column a rotated column is paired with. -/
def mate (j : Fin 512) : Fin 512 := ⟨if j.val % 64 < 32 then j.val / 64 * 64 + (32 + j.val % 64) else j.val / 64 * 64 + (j.val % 64 - 32), by split <;> omega⟩

/-- A tile of rotated columns, its columns known by where they lie in the row. -/
theorem tile_at (t : FVec Ideal S512x128 .f32) (z : FVec Ideal S512x512 .f32) (o : ℕ) (ho : o + 128 ≤ 512) (h64 : o % 128 = 0)
    (ht : ∀ (r : Fin 512) (l : Fin 128), (t (ix2 r l) : EReal) = z (ix2 r (⟨o + l.val, by omega⟩ : Fin 512)))
    (c s : FVec Ideal S512x128 .f32) (k : IVec S512x128 1) (a : Ideal .f32)
    (hk : ∀ (r : Fin 512) (l : Fin 128), k (ix2 r l) = if l.val / 32 % 2 = 0 then 1#1 else 0#1) (r : Fin 512) (j : Fin 512) (hj : o ≤ j.val ∧ j.val < o + 128) :
    (ropeTile t c s k a (ix2 r (⟨j.val % 128, by omega⟩ : Fin 128)) : EReal) =
      (HMul.hMul (α := EReal) (z (ix2 r j)) (c (ix2 r (⟨j.val % 128, by omega⟩ : Fin 128))) +
        HMul.hMul (α := EReal) (z (ix2 r (mate j))) (s (ix2 r (⟨j.val % 128, by omega⟩ : Fin 128)))) * (a : EReal) := by
  rw [ropeTile_at t c s k a hk, ht, ht, ht]
  have e0 : (⟨o + j.val % 128, by omega⟩ : Fin 512) = j := Fin.ext (by simp only; omega)
  refine congrArg (fun q : EReal => q * (a : EReal)) ?_
  refine congrArg₂ (fun a b : EReal => a + b) (congrArg₂ (fun a b : EReal => a * b) ?_ rfl) (congrArg₂ (fun a b : EReal => a * b) ?_ rfl)
  · exact congrArg (fun q => (z (ix2 r q) : EReal)) e0
  · unfold mate
    show (if j.val % 128 / 32 % 2 = 0 then (z (ix2 r (⟨o + (j.val % 128 + 32) % 128, by omega⟩ : Fin 512)) : EReal) else z (ix2 r (⟨o + (j.val % 128 + 96) % 128, by omega⟩ : Fin 512))) = _
    by_cases h : j.val % 64 < 32
    · rw [if_pos (show j.val % 128 / 32 % 2 = 0 by omega)]
      exact congrArg (fun q => (z (ix2 r q) : EReal)) (Fin.ext (by simp only [if_pos h]; omega))
    · rw [if_neg (show ¬ j.val % 128 / 32 % 2 = 0 by omega)]
      exact congrArg (fun q => (z (ix2 r q) : EReal)) (Fin.ext (by simp only [if_neg h]; omega))

theorem rope_at (z : FVec Ideal S512x512 .f32) (c s : FVec Ideal S512x128 .f32) (k : IVec S512x128 1) (a : Ideal .f32)
    (hk : ∀ (r : Fin 512) (l : Fin 128), k (ix2 r l) = if l.val / 32 % 2 = 0 then 1#1 else 0#1) (r : Fin 512) (j : Fin 512) :
    (concatenate S512x512 1 [
        ⟨S512x128, ropeTile (extractStridedSlice S512x128 ![0, 0] z slices_S512x512_o0_0_S512x128) c s k a⟩,
        ⟨S512x128, ropeTile (extractStridedSlice S512x128 ![0, 128] z slices_S512x512_o0_128_S512x128) c s k a⟩,
        ⟨S512x128, ropeTile (extractStridedSlice S512x128 ![0, 256] z slices_S512x512_o0_256_S512x128) c s k a⟩,
        ⟨S512x128, ropeTile (extractStridedSlice S512x128 ![0, 384] z slices_S512x512_o0_384_S512x128) c s k a⟩]
        concatenates_S512x128_S512x128_S512x128_S512x128_S512x512_d1 (ix2 r j) : EReal) =
      (HMul.hMul (α := EReal) (z (ix2 r j)) (c (ix2 r (⟨j.val % 128, by omega⟩ : Fin 128))) +
        HMul.hMul (α := EReal) (z (ix2 r (mate j))) (s (ix2 r (⟨j.val % 128, by omega⟩ : Fin 128)))) * (a : EReal) := by
  refine (four_at _ _ _ _ r j).trans ?_
  have hj := j.isLt
  split
  · exact tile_at _ z 0 (by omega) rfl (fun r l => (sl0_at z r l).trans (congrArg (fun q => (z (ix2 r q) : EReal)) (Fin.ext (by simp only; omega)))) c s k a hk r j (by omega)
  · split
    · exact tile_at _ z 128 (by omega) rfl (sl1_at z) c s k a hk r j (by omega)
    · split
      · exact tile_at _ z 256 (by omega) rfl (sl2_at z) c s k a hk r j (by omega)
      · exact tile_at _ z 384 (by omega) rfl (sl3_at z) c s k a hk r j (by omega)

section
variable {d : Data} {R : Fin 512 → Fin 65536} {x0 : Vec Ideal S512x1024 .f32} {x1 : Vec Ideal S512x1 .i32} {x2 : Vec Ideal S1x1024 .f32}
    {x3 : Vec Ideal S1024x2688 .bf16} {x4 : Vec Ideal S512x1024 .bf16} {x5 : Vec Ideal S128x256 .bf16} {x6 : Vec Ideal S1x256 .f32}
    {x7 : Vec Ideal S1x128 .f32} {x8 : Vec Ideal S1x128 .f32} (H : Feeds d R x0 x1 x2 x3 x4 x5 x6 x7 x8)
include H

/-- The tile's rotation of columns is the row's. -/
theorem rot_eq (z : FVec Ideal S512x512 .f32) (r : Fin 512) (j : Fin 512) (f : Fin 512 → EReal) (hz : ∀ i, (z (ix2 r i) : EReal) = f i) :
    (HMul.hMul (α := EReal) (z (ix2 r j)) (k0_pay40 x0 x1 x2 x3 x4 x5 x6 x7 x8 (ix2 r (⟨j.val % 128, by omega⟩ : Fin 128))) +
        HMul.hMul (α := EReal) (z (ix2 r (mate j))) (k0_pay41 x0 x1 x2 x3 x4 x5 x6 x7 x8 (ix2 r (⟨j.val % 128, by omega⟩ : Fin 128)))) = d.rot (R r) f j := by
  rw [hz, hz, c_at H, s_at H]
  show f j * Ideal.cos (d.ang (R r) (j.val % 128 % 32)) + f (mate j) * (Ideal.sin (d.ang (R r) (j.val % 128 % 32)) * (if j.val % 128 % 64 < 32 then (-1 : EReal) else (1 : EReal))) = _
  have hj := j.isLt
  unfold Data.rot
  by_cases h : j.val % 64 < 32
  · rw [if_pos h, if_pos (show j.val % 128 % 64 < 32 by omega), show j.val % 128 % 32 = j.val % 64 by omega, mul_neg, mul_one, mul_neg, sub_eq_add_neg]
    refine congrArg (fun q => f j * Ideal.cos (d.ang (R r) (j.val % 64)) + -(f q * Ideal.sin (d.ang (R r) (j.val % 64)))) ?_
    exact Fin.ext (by simp only [mate, if_pos h]; omega)
  · rw [if_neg h, if_neg (show ¬ j.val % 128 % 64 < 32 by omega), show j.val % 128 % 32 = j.val % 64 - 32 by omega, mul_one]
    refine congrArg (fun q => f j * Ideal.cos (d.ang (R r) (j.val % 64 - 32)) + (f q * Ideal.sin (d.ang (R r) (j.val % 64 - 32)))) ?_
    exact Fin.ext (by simp only [mate, if_neg h])

theorem out14_at (r : Fin 512) (j : Fin 512) : (out0_14 x0 x1 x2 x3 x4 x5 x6 x7 x8 (ix2 r j) : EReal) = d.dq (R r) j := by
  unfold out0_14
  rw [one_512, pay27_eq]
  refine (rope_at _ _ _ _ _ pay20_at r j).trans ?_
  rw [rot_eq H _ r j (fun i => d.z (R r) ⟨1552 + i.val, by omega⟩) (fun i => by
    rw [pay24_at]
    simp only [u_at H, w7_at H]
    rfl)]
  unfold Data.dq
  rw [mul_assoc, scale_eq]
  rfl

theorem out15_at (r : Fin 512) (j : Fin 512) : (out0_15 x0 x1 x2 x3 x4 x5 x6 x7 x8 (ix2 r j) : EReal) = d.dk (R r) j := by
  unfold out0_15
  rw [one_512, pay30_eq]
  refine (rope_at _ _ _ _ _ pay20_at r j).trans ?_
  rw [rot_eq H _ r j (fun i => d.z (R r) ⟨2064 + i.val, by omega⟩) (fun i => by
    unfold k0_pay43
    rw [pay28_at]
    simp only [u_at H, w9_at H]
    rfl)]
  unfold Data.dk
  show _ * Ideal.ofBits FTy.f32 0x3F800000#32 = _
  rw [word_one, EReal.coe_one, mul_one]

end

end Cert.Kernel3Ideal.Gen
end
-- ==== Proof.IFold.lean ====
module
public import proofs.«01_k».proof.Proof.IHost
public import proofs.«01_k».proof.Proof.IRope
@[expose] public section
set_option maxRecDepth 16384
noncomputable section
namespace Cert.Kernel3Ideal.Gen
open Idealize.ShloMosaic Idealize.ShloMosaic.TcCoe Idealize.ShloMosaic.Tactic
open Idealize.SL Idealize.SL.Sem Cert.Tail Cert.Inp
open Idealize.ShloMosaic.Pipeline (Dat Cfg Window BodyObligation cellOf)

variable (m : (ℓ : Loc nD τ sig) → Buf (Elt Ideal) ℓ) (c : Dev nD)

/-- Row `s` of tile `t` among the 65536. -/
abbrev row (t : ℕ) (s : ℕ) : Fin 65536 := ⟨(512 * t + s) % 65536, Nat.mod_lt _ (by norm_num)⟩

theorem blk_0 (t : Fin cfg0.N) (r : Fin 512) (j : Fin 1024) :
    (iblk m c 0 t (ix2 r j) : EReal) = m ((c : Thread nD τ).loc main_arg0) (ix3 (⟨(row t.val r.val).val / 4096, by omega⟩ : Fin 16) (⟨(row t.val r.val).val % 4096, by omega⟩ : Fin 4096) j) := by
  have ht := t_lt t
  have e := idx t
  have hv : V m c main_v22 = fun i : S65536x1024.Idx => (m ((c : Thread nD τ).loc main_arg0) (ix3 (⟨(i 0).val / 4096, by have h : (i 0).val < 65536 := (i 0).isLt; omega⟩ : Fin 16) (⟨(i 0).val % 4096, by omega⟩ : Fin 4096) (i 1)) : EReal) :=
    funext fun i => (congrArg (V m c main_v22) (eq_ix2 i)).trans (V_v22 m c (i 0) (i 1))
  unfold iblk
  rw [show V m c (Pipeline.arrRef spec0 0) = V m c main_v22 from rfl, hv]
  blk_ext [e]

theorem blk_1 (t : Fin cfg0.N) (r : Fin 512) (j : Fin 1) :
    (iblk m c 1 t (ix2 r j) : BitVec 32) = m ((c : Thread nD τ).loc main_arg1) (ix2 (⟨(row t.val r.val).val / 4096, by omega⟩ : Fin 16) (⟨(row t.val r.val).val % 4096, by omega⟩ : Fin 4096)) := by
  have ht := t_lt t
  have e := idx t
  have hv : V m c main_v23 = fun i : S65536x1.Idx => (m ((c : Thread nD τ).loc main_arg1) (ix2 (⟨(i 0).val / 4096, by have h : (i 0).val < 65536 := (i 0).isLt; omega⟩ : Fin 16) (⟨(i 0).val % 4096, by omega⟩ : Fin 4096)) : BitVec 32) :=
    funext fun i => (congrArg (V m c main_v23) (eq_ix2 i)).trans (V_v23 m c (i 0) (i 1))
  unfold iblk
  rw [show V m c (Pipeline.arrRef spec0 1) = V m c main_v23 from rfl, hv]
  blk_ext [e]

theorem blk_2 (t : Fin cfg0.N) (r : Fin 1) (j : Fin 1024) :
    (iblk m c 2 t (ix2 r j) : EReal) = m ((c : Thread nD τ).loc main_arg2) (ix2 (0 : Fin 1) j) := by
  have ht := t_lt t
  have e := idx t
  have hv : V m c main_v39 = fun i : S1x1024.Idx => (m ((c : Thread nD τ).loc main_arg2) (ix2 (0 : Fin 1) (i 1)) : EReal) :=
    funext fun i => (congrArg (V m c main_v39) (eq_ix2 i)).trans (V_v39 m c (i 0) (i 1))
  unfold iblk
  rw [show V m c (Pipeline.arrRef spec0 2) = V m c main_v39 from rfl, hv]
  blk_ext [e]

theorem blk_3 (t : Fin cfg0.N) (r : Fin 1024) (j : Fin 2688) :
    (iblk m c 3 t (ix2 r j) : EReal) = packW (m ((c : Thread nD τ).loc main_arg3)) (ix2 r j) := by
  have ht := t_lt t
  have e := idx t
  have hv : V m c main_v30 = fun i : S1024x2688.Idx => (packW (m ((c : Thread nD τ).loc main_arg3)) (ix2 (i 0) (i 1)) : EReal) :=
    funext fun i => (congrArg (V m c main_v30) (eq_ix2 i)).trans (congrFun (V_v30_eq m c) _)
  unfold iblk
  rw [show V m c (Pipeline.arrRef spec0 3) = V m c main_v30 from rfl, hv]
  blk_ext [e]

theorem blk_4 (t : Fin cfg0.N) (r : Fin 512) (j : Fin 1024) :
    (iblk m c 4 t (ix2 r j) : EReal) = m ((c : Thread nD τ).loc main_arg3) (ix3 (0 : Fin 1) j (⟨2576 + r.val, by omega⟩ : Fin 3088)) := by
  have ht := t_lt t
  have e := idx t
  have hv : V m c main_v33 = fun i : S512x1024.Idx => (m ((c : Thread nD τ).loc main_arg3) (ix3 (0 : Fin 1) (i 1) (⟨2576 + (i 0).val, by have h : (i 0).val < 512 := (i 0).isLt; omega⟩ : Fin 3088)) : EReal) :=
    funext fun i => (congrArg (V m c main_v33) (eq_ix2 i)).trans (V_v33 m c (i 0) (i 1))
  unfold iblk
  rw [show V m c (Pipeline.arrRef spec0 4) = V m c main_v33 from rfl, hv]
  blk_ext [e]

theorem blk_6 (t : Fin cfg0.N) (r : Fin 1) (j : Fin 256) :
    (iblk m c 6 t (ix2 r j) : EReal) = m ((c : Thread nD τ).loc main_arg5) (ix2 (0 : Fin 1) j) := by
  have ht := t_lt t
  have e := idx t
  have hv : V m c main_v41 = fun i : S1x256.Idx => (m ((c : Thread nD τ).loc main_arg5) (ix2 (0 : Fin 1) (i 1)) : EReal) :=
    funext fun i => (congrArg (V m c main_v41) (eq_ix2 i)).trans (V_v41 m c (i 0) (i 1))
  unfold iblk
  rw [show V m c (Pipeline.arrRef spec0 6) = V m c main_v41 from rfl, hv]
  blk_ext [e]

theorem blk_5 (t : Fin cfg0.N) (r : Fin 128) (j : Fin 256) :
    (iblk m c 5 t (ix2 r j) : EReal) = V m c main_v37 (ix2 r j) := by
  have ht := t_lt t
  have e := idx t
  unfold iblk
  rw [show V m c (Pipeline.arrRef spec0 5) = V m c main_v37 from rfl]
  generalize V m c main_v37 = W
  blk_ext [e]

theorem blk_7 (t : Fin cfg0.N) (r : Fin 1) (j : Fin 128) :
    (iblk m c 7 t (ix2 r j) : EReal) = V m c main_v13 (ix2 r j) := by
  have ht := t_lt t
  have e := idx t
  unfold iblk
  rw [show V m c (Pipeline.arrRef spec0 7) = V m c main_v13 from rfl]
  generalize V m c main_v13 = W
  blk_ext [e]

theorem blk_8 (t : Fin cfg0.N) (r : Fin 1) (j : Fin 128) :
    (iblk m c 8 t (ix2 r j) : EReal) = V m c main_v21 (ix2 r j) := by
  have ht := t_lt t
  have e := idx t
  unfold iblk
  rw [show V m c (Pipeline.arrRef spec0 8) = V m c main_v21 from rfl]
  generalize V m c main_v21 = W
  blk_ext [e]

theorem feeds (t : Fin cfg0.N) :
    Feeds (data m c) (fun r => row t.val r.val) (iblk m c 0 t) (iblk m c 1 t) (iblk m c 2 t) (iblk m c 3 t) (iblk m c 4 t) (iblk m c 5 t) (iblk m c 6 t)
      (iblk m c 7 t) (iblk m c 8 t) where
  h0 r k := blk_0 m c t r k
  h1 r := congrArg (fun q : BitVec 32 => (FloatOps.sitofp (F := Ideal) FTy.f32 q : EReal)) (blk_1 m c t r 0)
  h2 k := blk_2 m c t 0 k
  h3 k j := (blk_3 m c t k j).trans (packW_at _ k j)
  h4 a k := blk_4 m c t a k
  h5 l j := (blk_5 m c t l j).trans (V_v37 m c l j)
  h6 j := blk_6 m c t 0 j
  h7 l := (blk_7 m c t 0 l).trans (V_v13 m c 0 l)
  h8 l := (blk_8 m c t 0 l).trans (V_v21 m c 0 l)

theorem mem_blk9 (t : Fin cfg0.N) (i : S65536x256.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v42_0).slice (win0_9.rect t)).set ↔ _
  rw [View.set_slice_whole, Rect.mem_set_unit]
  exact Iff.rfl

def arr9 : FVec Ideal S65536x256 .bf16 := fun i => ((data m c).gq (i 0) (i 1) : EReal)

theorem final9 : (dats m 0 c).arrAt 9 cfg0.N = arr9 m c := by
  refine (dats m 0 c).arrAt_eq_of_cover 9 _ (fun t hf => ?_) (fun i => ?_)
  · rw [Cert.Kernel3Ideal.Value.flushed9]
    have ht := t_lt t
    have e := (idxo t).1
    funext y
    have hy0 : (y 0).val < 512 := (y 0).isLt
    refine ((congrArg (out0_9 _ _ _ _ _ _ _ _ _) (eq_ix2 y)).trans (out9_at (feeds m c t) (y 0) (y 1))).trans ?_
    show (data m c).gq (row t.val (y 0).val) (y 1) = (data m c).gq (((cfg0.win 9).blk t).view.emb y 0) (((cfg0.win 9).blk t).view.emb y 1)
    refine congrArg₂ (data m c).gq ?_ ?_
    · refine Fin.ext ?_
      show (512 * t.val + (y 0).val) % 65536 = win0_9.index t (0 : Fin 2) * 512 + 1 * (y 0).val
      rw [e.1]
      omega
    · refine Fin.ext ?_
      show (y 1).val = win0_9.index t (1 : Fin 2) * 256 + 1 * (y 1).val
      rw [e.2]
      omega
  · have h0 : (i 0).val < 65536 := (i 0).isLt
    have h1 : (i 1).val < 256 := (i 1).isLt
    have e := (idxo ⟨(i 0).val / 512, lt_of_lt_of_eq (by omega) N_0.symm⟩).1
    refine ⟨⟨(i 0).val / 512, lt_of_lt_of_eq (by omega) N_0.symm⟩, (flusho _).1, ?_⟩
    rw [mem_blk9]
    intro a
    match a with
    | ⟨0, _⟩ =>
      show win0_9.index _ (0 : Fin 2) * 512 ≤ (i 0).val ∧ (i 0).val < win0_9.index _ (0 : Fin 2) * 512 + 512
      rw [e.1]
      show (i 0).val / 512 * 512 ≤ (i 0).val ∧ (i 0).val < (i 0).val / 512 * 512 + 512
      omega
    | ⟨1, _⟩ =>
      show win0_9.index _ (1 : Fin 2) * 256 ≤ (i 1).val ∧ (i 1).val < win0_9.index _ (1 : Fin 2) * 256 + 256
      rw [e.2]
      omega

theorem mem_blk10 (t : Fin cfg0.N) (i : S65536x256.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v42_1).slice (win0_10.rect t)).set ↔ _
  rw [View.set_slice_whole, Rect.mem_set_unit]
  exact Iff.rfl

def arr10 : FVec Ideal S65536x256 .bf16 := fun i => ((data m c).gk (i 0) (i 1) : EReal)

theorem final10 : (dats m 0 c).arrAt 10 cfg0.N = arr10 m c := by
  refine (dats m 0 c).arrAt_eq_of_cover 10 _ (fun t hf => ?_) (fun i => ?_)
  · rw [Cert.Kernel3Ideal.Value.flushed10]
    have ht := t_lt t
    have e := (idxo t).2.1
    funext y
    have hy0 : (y 0).val < 512 := (y 0).isLt
    refine ((congrArg (out0_10 _ _ _ _ _ _ _ _ _) (eq_ix2 y)).trans (out10_at (feeds m c t) (y 0) (y 1))).trans ?_
    show (data m c).gk (row t.val (y 0).val) (y 1) = (data m c).gk (((cfg0.win 10).blk t).view.emb y 0) (((cfg0.win 10).blk t).view.emb y 1)
    refine congrArg₂ (data m c).gk ?_ ?_
    · refine Fin.ext ?_
      show (512 * t.val + (y 0).val) % 65536 = win0_10.index t (0 : Fin 2) * 512 + 1 * (y 0).val
      rw [e.1]
      omega
    · refine Fin.ext ?_
      show (y 1).val = win0_10.index t (1 : Fin 2) * 256 + 1 * (y 1).val
      rw [e.2]
      omega
  · have h0 : (i 0).val < 65536 := (i 0).isLt
    have h1 : (i 1).val < 256 := (i 1).isLt
    have e := (idxo ⟨(i 0).val / 512, lt_of_lt_of_eq (by omega) N_0.symm⟩).2.1
    refine ⟨⟨(i 0).val / 512, lt_of_lt_of_eq (by omega) N_0.symm⟩, (flusho _).2.1, ?_⟩
    rw [mem_blk10]
    intro a
    match a with
    | ⟨0, _⟩ =>
      show win0_10.index _ (0 : Fin 2) * 512 ≤ (i 0).val ∧ (i 0).val < win0_10.index _ (0 : Fin 2) * 512 + 512
      rw [e.1]
      show (i 0).val / 512 * 512 ≤ (i 0).val ∧ (i 0).val < (i 0).val / 512 * 512 + 512
      omega
    | ⟨1, _⟩ =>
      show win0_10.index _ (1 : Fin 2) * 256 ≤ (i 1).val ∧ (i 1).val < win0_10.index _ (1 : Fin 2) * 256 + 256
      rw [e.2]
      omega

theorem mem_blk11 (t : Fin cfg0.N) (i : S65536x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v42_2).slice (win0_11.rect t)).set ↔ _
  rw [View.set_slice_whole, Rect.mem_set_unit]
  exact Iff.rfl

def arr11 : FVec Ideal S65536x512 .bf16 := fun i => ((data m c).gv (i 0) (i 1) : EReal)

theorem final11 : (dats m 0 c).arrAt 11 cfg0.N = arr11 m c := by
  refine (dats m 0 c).arrAt_eq_of_cover 11 _ (fun t hf => ?_) (fun i => ?_)
  · rw [Cert.Kernel3Ideal.Value.flushed11]
    have ht := t_lt t
    have e := (idxo t).2.2.1
    funext y
    have hy0 : (y 0).val < 512 := (y 0).isLt
    refine ((congrArg (out0_11 _ _ _ _ _ _ _ _ _) (eq_ix2 y)).trans (out11_at (feeds m c t) (y 0) (y 1))).trans ?_
    show (data m c).gv (row t.val (y 0).val) (y 1) = (data m c).gv (((cfg0.win 11).blk t).view.emb y 0) (((cfg0.win 11).blk t).view.emb y 1)
    refine congrArg₂ (data m c).gv ?_ ?_
    · refine Fin.ext ?_
      show (512 * t.val + (y 0).val) % 65536 = win0_11.index t (0 : Fin 2) * 512 + 1 * (y 0).val
      rw [e.1]
      omega
    · refine Fin.ext ?_
      show (y 1).val = win0_11.index t (1 : Fin 2) * 512 + 1 * (y 1).val
      rw [e.2]
      omega
  · have h0 : (i 0).val < 65536 := (i 0).isLt
    have h1 : (i 1).val < 512 := (i 1).isLt
    have e := (idxo ⟨(i 0).val / 512, lt_of_lt_of_eq (by omega) N_0.symm⟩).2.2.1
    refine ⟨⟨(i 0).val / 512, lt_of_lt_of_eq (by omega) N_0.symm⟩, (flusho _).2.2.1, ?_⟩
    rw [mem_blk11]
    intro a
    match a with
    | ⟨0, _⟩ =>
      show win0_11.index _ (0 : Fin 2) * 512 ≤ (i 0).val ∧ (i 0).val < win0_11.index _ (0 : Fin 2) * 512 + 512
      rw [e.1]
      show (i 0).val / 512 * 512 ≤ (i 0).val ∧ (i 0).val < (i 0).val / 512 * 512 + 512
      omega
    | ⟨1, _⟩ =>
      show win0_11.index _ (1 : Fin 2) * 512 ≤ (i 1).val ∧ (i 1).val < win0_11.index _ (1 : Fin 2) * 512 + 512
      rw [e.2]
      omega

theorem mem_blk12 (t : Fin cfg0.N) (i : S65536x512.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v42_3).slice (win0_12.rect t)).set ↔ _
  rw [View.set_slice_whole, Rect.mem_set_unit]
  exact Iff.rfl

def arr12 : FVec Ideal S65536x512 .bf16 := fun i => ((data m c).gg (i 0) (i 1) : EReal)

theorem final12 : (dats m 0 c).arrAt 12 cfg0.N = arr12 m c := by
  refine (dats m 0 c).arrAt_eq_of_cover 12 _ (fun t hf => ?_) (fun i => ?_)
  · rw [Cert.Kernel3Ideal.Value.flushed12]
    have ht := t_lt t
    have e := (idxo t).2.2.2.1
    funext y
    have hy0 : (y 0).val < 512 := (y 0).isLt
    refine ((congrArg (out0_12 _ _ _ _ _ _ _ _ _) (eq_ix2 y)).trans (out12_at (feeds m c t) (y 0) (y 1))).trans ?_
    show (data m c).gg (row t.val (y 0).val) (y 1) = (data m c).gg (((cfg0.win 12).blk t).view.emb y 0) (((cfg0.win 12).blk t).view.emb y 1)
    refine congrArg₂ (data m c).gg ?_ ?_
    · refine Fin.ext ?_
      show (512 * t.val + (y 0).val) % 65536 = win0_12.index t (0 : Fin 2) * 512 + 1 * (y 0).val
      rw [e.1]
      omega
    · refine Fin.ext ?_
      show (y 1).val = win0_12.index t (1 : Fin 2) * 512 + 1 * (y 1).val
      rw [e.2]
      omega
  · have h0 : (i 0).val < 65536 := (i 0).isLt
    have h1 : (i 1).val < 512 := (i 1).isLt
    have e := (idxo ⟨(i 0).val / 512, lt_of_lt_of_eq (by omega) N_0.symm⟩).2.2.2.1
    refine ⟨⟨(i 0).val / 512, lt_of_lt_of_eq (by omega) N_0.symm⟩, (flusho _).2.2.2.1, ?_⟩
    rw [mem_blk12]
    intro a
    match a with
    | ⟨0, _⟩ =>
      show win0_12.index _ (0 : Fin 2) * 512 ≤ (i 0).val ∧ (i 0).val < win0_12.index _ (0 : Fin 2) * 512 + 512
      rw [e.1]
      show (i 0).val / 512 * 512 ≤ (i 0).val ∧ (i 0).val < (i 0).val / 512 * 512 + 512
      omega
    | ⟨1, _⟩ =>
      show win0_12.index _ (1 : Fin 2) * 512 ≤ (i 1).val ∧ (i 1).val < win0_12.index _ (1 : Fin 2) * 512 + 512
      rw [e.2]
      omega

theorem mem_blk13 (t : Fin cfg0.N) (i : S65536x256.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v42_4).slice (win0_13.rect t)).set ↔ _
  rw [View.set_slice_whole, Rect.mem_set_unit]
  exact Iff.rfl

def arr13 : FVec Ideal S65536x256 .f32 := fun i => ((data m c).la (i 0) (i 1) : EReal)

theorem final13 : (dats m 0 c).arrAt 13 cfg0.N = arr13 m c := by
  refine (dats m 0 c).arrAt_eq_of_cover 13 _ (fun t hf => ?_) (fun i => ?_)
  · rw [Cert.Kernel3Ideal.Value.flushed13]
    have ht := t_lt t
    have e := (idxo t).2.2.2.2.1
    funext y
    have hy0 : (y 0).val < 512 := (y 0).isLt
    refine ((congrArg (out0_13 _ _ _ _ _ _ _ _ _) (eq_ix2 y)).trans (out13_at (feeds m c t) (y 0) (y 1))).trans ?_
    show (data m c).la (row t.val (y 0).val) (y 1) = (data m c).la (((cfg0.win 13).blk t).view.emb y 0) (((cfg0.win 13).blk t).view.emb y 1)
    refine congrArg₂ (data m c).la ?_ ?_
    · refine Fin.ext ?_
      show (512 * t.val + (y 0).val) % 65536 = win0_13.index t (0 : Fin 2) * 512 + 1 * (y 0).val
      rw [e.1]
      omega
    · refine Fin.ext ?_
      show (y 1).val = win0_13.index t (1 : Fin 2) * 256 + 1 * (y 1).val
      rw [e.2]
      omega
  · have h0 : (i 0).val < 65536 := (i 0).isLt
    have h1 : (i 1).val < 256 := (i 1).isLt
    have e := (idxo ⟨(i 0).val / 512, lt_of_lt_of_eq (by omega) N_0.symm⟩).2.2.2.2.1
    refine ⟨⟨(i 0).val / 512, lt_of_lt_of_eq (by omega) N_0.symm⟩, (flusho _).2.2.2.2.1, ?_⟩
    rw [mem_blk13]
    intro a
    match a with
    | ⟨0, _⟩ =>
      show win0_13.index _ (0 : Fin 2) * 512 ≤ (i 0).val ∧ (i 0).val < win0_13.index _ (0 : Fin 2) * 512 + 512
      rw [e.1]
      show (i 0).val / 512 * 512 ≤ (i 0).val ∧ (i 0).val < (i 0).val / 512 * 512 + 512
      omega
    | ⟨1, _⟩ =>
      show win0_13.index _ (1 : Fin 2) * 256 ≤ (i 1).val ∧ (i 1).val < win0_13.index _ (1 : Fin 2) * 256 + 256
      rw [e.2]
      omega

theorem mem_blk14 (t : Fin cfg0.N) (i : S65536x512.Idx) :
    i ∈ ((cfg0.win 14).blk t).view.set ↔ ∀ a : Fin 2, win0_14.index t a * S512x512.size a ≤ (i a).val ∧ (i a).val < win0_14.index t a * S512x512.size a + S512x512.size a := by
  show i ∈ ((View.whole main_v42_5).slice (win0_14.rect t)).set ↔ _
  rw [View.set_slice_whole, Rect.mem_set_unit]
  exact Iff.rfl

def arr14 : FVec Ideal S65536x512 .bf16 := fun i => ((data m c).dq (i 0) (i 1) : EReal)

theorem final14 : (dats m 0 c).arrAt 14 cfg0.N = arr14 m c := by
  refine (dats m 0 c).arrAt_eq_of_cover 14 _ (fun t hf => ?_) (fun i => ?_)
  · rw [Cert.Kernel3Ideal.Value.flushed14]
    have ht := t_lt t
    have e := (idxo t).2.2.2.2.2.1
    funext y
    have hy0 : (y 0).val < 512 := (y 0).isLt
    refine ((congrArg (out0_14 _ _ _ _ _ _ _ _ _) (eq_ix2 y)).trans (out14_at (feeds m c t) (y 0) (y 1))).trans ?_
    show (data m c).dq (row t.val (y 0).val) (y 1) = (data m c).dq (((cfg0.win 14).blk t).view.emb y 0) (((cfg0.win 14).blk t).view.emb y 1)
    refine congrArg₂ (data m c).dq ?_ ?_
    · refine Fin.ext ?_
      show (512 * t.val + (y 0).val) % 65536 = win0_14.index t (0 : Fin 2) * 512 + 1 * (y 0).val
      rw [e.1]
      omega
    · refine Fin.ext ?_
      show (y 1).val = win0_14.index t (1 : Fin 2) * 512 + 1 * (y 1).val
      rw [e.2]
      omega
  · have h0 : (i 0).val < 65536 := (i 0).isLt
    have h1 : (i 1).val < 512 := (i 1).isLt
    have e := (idxo ⟨(i 0).val / 512, lt_of_lt_of_eq (by omega) N_0.symm⟩).2.2.2.2.2.1
    refine ⟨⟨(i 0).val / 512, lt_of_lt_of_eq (by omega) N_0.symm⟩, (flusho _).2.2.2.2.2.1, ?_⟩
    rw [mem_blk14]
    intro a
    match a with
    | ⟨0, _⟩ =>
      show win0_14.index _ (0 : Fin 2) * 512 ≤ (i 0).val ∧ (i 0).val < win0_14.index _ (0 : Fin 2) * 512 + 512
      rw [e.1]
      show (i 0).val / 512 * 512 ≤ (i 0).val ∧ (i 0).val < (i 0).val / 512 * 512 + 512
      omega
    | ⟨1, _⟩ =>
      show win0_14.index _ (1 : Fin 2) * 512 ≤ (i 1).val ∧ (i 1).val < win0_14.index _ (1 : Fin 2) * 512 + 512
      rw [e.2]
      omega

theorem mem_blk15 (t : Fin cfg0.N) (i : S65536x512.Idx) :
    i ∈ ((cfg0.win 15).blk t).view.set ↔ ∀ a : Fin 2, win0_15.index t a * S512x512.size a ≤ (i a).val ∧ (i a).val < win0_15.index t a * S512x512.size a + S512x512.size a := by
  show i ∈ ((View.whole main_v42_6).slice (win0_15.rect t)).set ↔ _
  rw [View.set_slice_whole, Rect.mem_set_unit]
  exact Iff.rfl

def arr15 : FVec Ideal S65536x512 .bf16 := fun i => ((data m c).dk (i 0) (i 1) : EReal)

theorem final15 : (dats m 0 c).arrAt 15 cfg0.N = arr15 m c := by
  refine (dats m 0 c).arrAt_eq_of_cover 15 _ (fun t hf => ?_) (fun i => ?_)
  · rw [Cert.Kernel3Ideal.Value.flushed15]
    have ht := t_lt t
    have e := (idxo t).2.2.2.2.2.2.1
    funext y
    have hy0 : (y 0).val < 512 := (y 0).isLt
    refine ((congrArg (out0_15 _ _ _ _ _ _ _ _ _) (eq_ix2 y)).trans (out15_at (feeds m c t) (y 0) (y 1))).trans ?_
    show (data m c).dk (row t.val (y 0).val) (y 1) = (data m c).dk (((cfg0.win 15).blk t).view.emb y 0) (((cfg0.win 15).blk t).view.emb y 1)
    refine congrArg₂ (data m c).dk ?_ ?_
    · refine Fin.ext ?_
      show (512 * t.val + (y 0).val) % 65536 = win0_15.index t (0 : Fin 2) * 512 + 1 * (y 0).val
      rw [e.1]
      omega
    · refine Fin.ext ?_
      show (y 1).val = win0_15.index t (1 : Fin 2) * 512 + 1 * (y 1).val
      rw [e.2]
      omega
  · have h0 : (i 0).val < 65536 := (i 0).isLt
    have h1 : (i 1).val < 512 := (i 1).isLt
    have e := (idxo ⟨(i 0).val / 512, lt_of_lt_of_eq (by omega) N_0.symm⟩).2.2.2.2.2.2.1
    refine ⟨⟨(i 0).val / 512, lt_of_lt_of_eq (by omega) N_0.symm⟩, (flusho _).2.2.2.2.2.2.1, ?_⟩
    rw [mem_blk15]
    intro a
    match a with
    | ⟨0, _⟩ =>
      show win0_15.index _ (0 : Fin 2) * 512 ≤ (i 0).val ∧ (i 0).val < win0_15.index _ (0 : Fin 2) * 512 + 512
      rw [e.1]
      show (i 0).val / 512 * 512 ≤ (i 0).val ∧ (i 0).val < (i 0).val / 512 * 512 + 512
      omega
    | ⟨1, _⟩ =>
      show win0_15.index _ (1 : Fin 2) * 512 ≤ (i 1).val ∧ (i 1).val < win0_15.index _ (1 : Fin 2) * 512 + 512
      rw [e.2]
      omega

theorem mem_blk16 (t : Fin cfg0.N) (i : S256x512x256.Idx) :
    i ∈ ((cfg0.win 16).blk t).view.set ↔ ∀ a : Fin 3, win0_16.index t a * S2x512x256.size a ≤ (i a).val ∧ (i a).val < win0_16.index t a * S2x512x256.size a + S2x512x256.size a := by
  show i ∈ ((View.whole main_v42_7).slice (win0_16.rect t)).set ↔ _
  rw [View.set_slice_whole, Rect.mem_set_unit]
  exact Iff.rfl

def arr16 : FVec Ideal S256x512x256 .bf16 := fun i => ((data m c).dvt (i 0) (i 1) (i 2) : EReal)

theorem final16 : (dats m 0 c).arrAt 16 cfg0.N = arr16 m c := by
  refine (dats m 0 c).arrAt_eq_of_cover 16 _ (fun t hf => ?_) (fun i => ?_)
  · rw [Cert.Kernel3Ideal.Value.flushed16]
    have ht := t_lt t
    have e := (idxo t).2.2.2.2.2.2.2
    funext y
    have hy0 : (y 0).val < 2 := (y 0).isLt
    have hy2 : (y 2).val < 256 := (y 2).isLt
    refine ((congrArg (out0_16 _ _ _ _ _ _ _ _ _) (eq_ix3 y)).trans (out16_at (feeds m c t) (y 0) (y 1) (y 2))).trans ?_
    show (data m c).z (row t.val ((y 0).val * 256 + (y 2).val)) _ = (data m c).dvt (((cfg0.win 16).blk t).view.emb y 0) (((cfg0.win 16).blk t).view.emb y 1) (((cfg0.win 16).blk t).view.emb y 2)
    unfold Data.dvt
    have e0 : (((cfg0.win 16).blk t).view.emb y 0).val = win0_16.index t (0 : Fin 3) * 2 + 1 * (y 0).val := rfl
    have e1 : (((cfg0.win 16).blk t).view.emb y 1).val = win0_16.index t (1 : Fin 3) * 512 + 1 * (y 1).val := rfl
    have e2 : (((cfg0.win 16).blk t).view.emb y 2).val = win0_16.index t (2 : Fin 3) * 256 + 1 * (y 2).val := rfl
    refine congrArg₂ (data m c).z (Fin.ext ?_) (Fin.ext ?_)
    · show (512 * t.val + ((y 0).val * 256 + (y 2).val)) % 65536 = 256 * (((cfg0.win 16).blk t).view.emb y 0).val + (((cfg0.win 16).blk t).view.emb y 2).val
      rw [e0, e2, e.1, e.2.2]
      omega
    · show 2576 + (y 1).val = 2576 + (((cfg0.win 16).blk t).view.emb y 1).val
      rw [e1, e.2.1]
      omega
  · have h0 : (i 0).val < 256 := (i 0).isLt
    have h1 : (i 1).val < 512 := (i 1).isLt
    have h2 : (i 2).val < 256 := (i 2).isLt
    have e := (idxo ⟨(i 0).val / 2, lt_of_lt_of_eq (by omega) N_0.symm⟩).2.2.2.2.2.2.2
    refine ⟨⟨(i 0).val / 2, lt_of_lt_of_eq (by omega) N_0.symm⟩, (flusho _).2.2.2.2.2.2.2, ?_⟩
    rw [mem_blk16]
    intro a
    match a with
    | ⟨0, _⟩ =>
      show win0_16.index _ (0 : Fin 3) * 2 ≤ (i 0).val ∧ (i 0).val < win0_16.index _ (0 : Fin 3) * 2 + 2
      rw [e.1]
      show (i 0).val / 2 * 2 ≤ (i 0).val ∧ (i 0).val < (i 0).val / 2 * 2 + 2
      omega
    | ⟨1, _⟩ =>
      show win0_16.index _ (1 : Fin 3) * 512 ≤ (i 1).val ∧ (i 1).val < win0_16.index _ (1 : Fin 3) * 512 + 512
      rw [e.2.1]
      omega
    | ⟨2, _⟩ =>
      show win0_16.index _ (2 : Fin 3) * 256 ≤ (i 2).val ∧ (i 2).val < win0_16.index _ (2 : Fin 3) * 256 + 256
      rw [e.2.2]
      omega

end Cert.Kernel3Ideal.Gen
end
-- ==== Proof.IRef.lean ====
module
public import proofs.«01_k».proof.Proof.Inp
public import proofs.«01_k».proof.Proof.Gen.Reference3Ideal.Run
public import Idealize.ShloMosaic.Lib.Pipeline.ValueKit
public import Idealize.ShloMosaic.Lib.Quiescent
@[expose] public section
set_option maxRecDepth 16384
noncomputable section
namespace Cert.Reference3Ideal.Value
open Idealize.ShloMosaic Idealize.ShloMosaic.TcCoe Idealize.ShloMosaic.Tactic Idealize.ShloMosaic.StableHlo
open Cert.Reference3Ideal.Gen Idealize.SL Idealize.SL.Sem Cert.Tail Cert.Inp

/-- The projection of the normed rows. -/
def zA (a0 : FVec Ideal S16x4096x1024 .f32) (a2 : FVec Ideal S1x1024 .f32) (a3 : FVec Ideal S1x1024x3088 .f32) : FVec Ideal S16x4096x3088 .f32 :=
  Host.dotGeneral dot_S16x4096x1024_S1024x3088_S16x4096x3088_2_0_01_1_n_n none (mulf (F := Ideal) (φ := .f32) (mulf (F := Ideal) (φ := .f32) a0 (broadcastInDim S16x4096x1024 ![0, 1, 2] bcast_S16x4096x1_S16x4096x1024_0_1_2 (Host.rsqrt (addf (F := Ideal) (φ := .f32) (Host.divf (broadcastInDim S16x4096x1 ![0, 1] bcast_S16x4096_S16x4096x1_0_1 (Host.reduceAdd (mulf (F := Ideal) (φ := .f32) a0 a0) (constant (F := Ideal) S_ .f32 0x00000000#32) reducesTo_S16x4096x1024_S16x4096_d2 h_S_)) (broadcastInDim S16x4096x1 ![] bcast_S_S16x4096x1 (constant (F := Ideal) S_ .f32 0x44800000#32))) (broadcastInDim S16x4096x1 ![] bcast_S_S16x4096x1 (constant (F := Ideal) S_ .f32 0x358637BD#32)))))) (broadcastInDim S16x4096x1024 ![0, 1, 2] bcast_S1x1x1024_S16x4096x1024_0_1_2 (broadcastInDim S1x1x1024 ![2] bcast_S1024_S1x1x1024_2 (shapeCast _ a2 shapeCasts_S1x1024_S1024)))) (shapeCast _ a3 shapeCasts_S1x1024x3088_S1024x3088)

def gqA (Z : FVec Ideal S16x4096x3088 .f32) : FVec Ideal S65536x256 .bf16 :=
  truncf (F := Ideal) .bf16 (shapeCast _ (mulf (F := Ideal) (φ := .f32) (extractStridedSlice S16x4096x256 ![0, 0, 0] Z slices_S16x4096x3088_S16x4096x256_0_0_0) (broadcastInDim S16x4096x256 ![] bcast_S_S16x4096x256 (constant (F := Ideal) S_ .f32 0x3E000000#32))) shapeCasts_S16x4096x256_S65536x256) bitsLt_bf16_f32

def gkA (Z : FVec Ideal S16x4096x3088 .f32) : FVec Ideal S65536x256 .bf16 :=
  truncf (F := Ideal) .bf16 (shapeCast _ (extractStridedSlice S16x4096x256 ![0, 0, 256] Z slices_S16x4096x3088_S16x4096x256_0_0_256) shapeCasts_S16x4096x256_S65536x256) bitsLt_bf16_f32

def gvA (Z : FVec Ideal S16x4096x3088 .f32) : FVec Ideal S65536x512 .bf16 :=
  truncf (F := Ideal) .bf16 (shapeCast _ (extractStridedSlice S16x4096x512 ![0, 0, 512] Z slices_S16x4096x3088_S16x4096x512_0_0_512) shapeCasts_S16x4096x512_S65536x512) bitsLt_bf16_f32

def ggA (Z : FVec Ideal S16x4096x3088 .f32) : FVec Ideal S65536x512 .bf16 :=
  truncf (F := Ideal) .bf16 (shapeCast _ (extractStridedSlice S16x4096x512 ![0, 0, 1024] Z slices_S16x4096x3088_S16x4096x512_0_0_1024) shapeCasts_S16x4096x512_S65536x512) bitsLt_bf16_f32

def dvtA (Z : FVec Ideal S16x4096x3088 .f32) : FVec Ideal S256x512x256 .bf16 :=
  truncf (F := Ideal) .bf16 (transpose S256x512x256 [0, 2, 1] (shapeCast _ (extractStridedSlice S16x4096x512 ![0, 0, 2576] Z slices_S16x4096x3088_S16x4096x512_0_0_2576) shapeCasts_S16x4096x512_S256x256x512) transposes_S256x256x512_S256x512x256_0_2_1) bitsLt_bf16_f32

/-- The low-rank gate before its logarithm. -/
def preA (Z : FVec Ideal S16x4096x3088 .f32) (a4 : FVec Ideal S1x16x256 .f32) (a5 : FVec Ideal S1x256 .f32) : FVec Ideal S16x4096x256 .f32 :=
  addf (F := Ideal) (φ := .f32) (Host.dotGeneral dot_S16x4096x16_S16x256_S16x4096x256_2_0_01_1_n_n none (extractStridedSlice S16x4096x16 ![0, 0, 1536] Z slices_S16x4096x3088_S16x4096x16_0_0_1536) (shapeCast _ a4 shapeCasts_S1x16x256_S16x256)) (broadcastInDim S16x4096x256 ![0, 1, 2] bcast_S1x1x256_S16x4096x256_0_1_2 (broadcastInDim S1x1x256 ![2] bcast_S256_S1x1x256_2 (shapeCast _ a5 shapeCasts_S1x256_S256)))

def laA (P : FVec Ideal S16x4096x256 .f32) : FVec Ideal S65536x256 .f32 :=
  shapeCast _ (Host.divf (Host.negf (select (cmpf .une (subf (F := Ideal) (φ := .f32) (Host.negf P) (broadcastInDim S16x4096x256 ![] bcast_S_S16x4096x256 (constant (F := Ideal) S_ .f32 0x00000000#32))) (subf (F := Ideal) (φ := .f32) (Host.negf P) (broadcastInDim S16x4096x256 ![] bcast_S_S16x4096x256 (constant (F := Ideal) S_ .f32 0x00000000#32)))) (addf (F := Ideal) (φ := .f32) (Host.negf P) (broadcastInDim S16x4096x256 ![] bcast_S_S16x4096x256 (constant (F := Ideal) S_ .f32 0x00000000#32))) (addf (F := Ideal) (φ := .f32) (maximumf (Host.negf P) (broadcastInDim S16x4096x256 ![] bcast_S_S16x4096x256 (constant (F := Ideal) S_ .f32 0x00000000#32))) (Host.log1p (Host.exp (Host.negf (Host.absf (subf (F := Ideal) (φ := .f32) (Host.negf P) (broadcastInDim S16x4096x256 ![] bcast_S_S16x4096x256 (constant (F := Ideal) S_ .f32 0x00000000#32)))))))))) (broadcastInDim S16x4096x256 ![] bcast_S_S16x4096x256 (constant (F := Ideal) S_ .f32 0x41800000#32))) shapeCasts_S16x4096x256_S65536x256

/-- The rotation's angles. -/
def angA (a1 : IVec S16x4096 32) : FVec Ideal S16x4096x32 .f32 :=
  mulf (F := Ideal) (φ := .f32) (broadcastInDim S16x4096x32 ![0, 1, 2] bcast_S16x4096x1_S16x4096x32_0_1_2 (broadcastInDim S16x4096x1 ![0, 1] bcast_S16x4096_S16x4096x1_0_1 (sitofp (F := Ideal) .f32 a1))) (broadcastInDim S16x4096x32 ![0, 1, 2] bcast_S1x1x32_S16x4096x32_0_1_2 (broadcastInDim S1x1x32 ![2] bcast_S32_S1x1x32_2 (Host.powf (broadcastInDim S32 ![] bcast_S_S32 (constant (F := Ideal) S_ .f32 0x461C4000#32)) (Host.divf (Host.negf (addf (F := Ideal) (φ := .f32) (broadcastInDim S32 ![] bcast_S_S32 (constant (F := Ideal) S_ .f32 0x00000000#32)) (mulf (F := Ideal) (φ := .f32) (broadcastInDim S32 ![] bcast_S_S32 (constant (F := Ideal) S_ .f32 0x40000000#32)) (sitofp (F := Ideal) .f32 (iotaInDim S32 32 0))))) (broadcastInDim S32 ![] bcast_S_S32 (constant (F := Ideal) S_ .f32 0x42800000#32))))))

def dqA (s : FVec Ideal S16x4096x512 .f32) (C S : FVec Ideal S16x4096x32 .f32) : FVec Ideal S65536x512 .bf16 :=
  truncf (F := Ideal) .bf16 (shapeCast _ (mulf (F := Ideal) (φ := .f32) (mulf (F := Ideal) (φ := .f32) (concatenate S16x4096x8x64 3 [⟨S16x4096x8x32, (subf (F := Ideal) (φ := .f32) (mulf (F := Ideal) (φ := .f32) (extractStridedSlice S16x4096x8x32 ![0, 0, 0, 0] (shapeCast _ s shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 C))) (mulf (F := Ideal) (φ := .f32) (extractStridedSlice S16x4096x8x32 ![0, 0, 0, 32] (shapeCast _ s shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 S))))⟩, ⟨S16x4096x8x32, (addf (F := Ideal) (φ := .f32) (mulf (F := Ideal) (φ := .f32) (extractStridedSlice S16x4096x8x32 ![0, 0, 0, 32] (shapeCast _ s shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 C))) (mulf (F := Ideal) (φ := .f32) (extractStridedSlice S16x4096x8x32 ![0, 0, 0, 0] (shapeCast _ s shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 S))))⟩] concatenates_S16x4096x8x32_S16x4096x8x32_S16x4096x8x64_d3) (broadcastInDim S16x4096x8x64 ![] bcast_S_S16x4096x8x64 (constant (F := Ideal) S_ .f32 0x3E000000#32))) (broadcastInDim S16x4096x8x64 ![] bcast_S_S16x4096x8x64 (constant (F := Ideal) S_ .f32 0x3FB8AA3B#32))) shapeCasts_S16x4096x8x64_S65536x512) bitsLt_bf16_f32

def dkA (s : FVec Ideal S16x4096x512 .f32) (C S : FVec Ideal S16x4096x32 .f32) : FVec Ideal S65536x512 .bf16 :=
  truncf (F := Ideal) .bf16 (shapeCast _ (concatenate S16x4096x8x64 3 [⟨S16x4096x8x32, (subf (F := Ideal) (φ := .f32) (mulf (F := Ideal) (φ := .f32) (extractStridedSlice S16x4096x8x32 ![0, 0, 0, 0] (shapeCast _ s shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 C))) (mulf (F := Ideal) (φ := .f32) (extractStridedSlice S16x4096x8x32 ![0, 0, 0, 32] (shapeCast _ s shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 S))))⟩, ⟨S16x4096x8x32, (addf (F := Ideal) (φ := .f32) (mulf (F := Ideal) (φ := .f32) (extractStridedSlice S16x4096x8x32 ![0, 0, 0, 32] (shapeCast _ s shapeCasts_S16x4096x512_S16x4096x8x64) slices_S16x4096x8x64_S16x4096x8x32_0_0_0_32) (broadcastInDim S16x4096x8x32 ![0, 1, 2, 3] bcast_S16x4096x1x32_S16x4096x8x32_0_1_2_3 (broadcastInDim S16x4096x1x32 ![0, 1, 3] bcast_S16x4096x32_S16x4096x1x32_0_1_3 C))) (mulf (F := Ideal) (φ := .f32) (extractStridedSlice S16x4096x8x32 ![0, 0, 0, 0] (shapeCast _ s shapeCasts_S16x4096x512_S16x4096x8x64) slices_S16x4096x8x64_S16x4096x8x32_0_0_0_0) (broadcastInDim S16x4096x8x32 ![0, 1, 2, 3] bcast_S16x4096x1x32_S16x4096x8x32_0_1_2_3 (broadcastInDim S16x4096x1x32 ![0, 1, 3] bcast_S16x4096x32_S16x4096x1x32_0_1_3 S))))⟩] concatenates_S16x4096x8x32_S16x4096x8x32_S16x4096x8x64_d3) shapeCasts_S16x4096x8x64_S65536x512) bitsLt_bf16_f32

def sqA (Z : FVec Ideal S16x4096x3088 .f32) : FVec Ideal S16x4096x512 .f32 :=
  extractStridedSlice S16x4096x512 ![0, 0, 1552] Z slices_S16x4096x3088_S16x4096x512_0_0_1552

def skA (Z : FVec Ideal S16x4096x3088 .f32) : FVec Ideal S16x4096x512 .f32 :=
  extractStridedSlice S16x4096x512 ![0, 0, 2064] Z slices_S16x4096x3088_S16x4096x512_0_0_2064

theorem zA_at (a0 : FVec Ideal S16x4096x1024 .f32) (a2 : FVec Ideal S1x1024 .f32) (a3 : FVec Ideal S1x1024x3088 .f32)
    (b : Fin 16) (t : Fin 4096) (j : Fin 3088) :
    (zA a0 a2 a3 (ix3 b t j) : EReal) = ∑ k : Fin 1024, rmsRow (fun y => a0 (ix3 b t y)) (fun y => a2 (ix2 (0 : Fin 1) y)) k * (a3 (ix3 (0 : Fin 1) k j) : EReal) := by
  unfold zA rmsRow
  pointwise []

theorem gqA_at (Z : FVec Ideal S16x4096x3088 .f32) (r : Fin 65536) (j : Fin 256) :
    (gqA Z (ix2 r j) : EReal) = HMul.hMul (α := EReal) (Z (ix3 (⟨r.val / 4096, by omega⟩ : Fin 16) (⟨r.val % 4096, by omega⟩ : Fin 4096) (⟨j.val, by omega⟩ : Fin 3088))) (Ideal.ofBits FTy.f32 0x3E000000#32) := by
  unfold gqA
  pointwise []

theorem gkA_at (Z : FVec Ideal S16x4096x3088 .f32) (r : Fin 65536) (j : Fin 256) :
    (gkA Z (ix2 r j) : EReal) = Z (ix3 (⟨r.val / 4096, by omega⟩ : Fin 16) (⟨r.val % 4096, by omega⟩ : Fin 4096) (⟨256 + j.val, by omega⟩ : Fin 3088)) := by
  unfold gkA
  pointwise []

theorem gvA_at (Z : FVec Ideal S16x4096x3088 .f32) (r : Fin 65536) (j : Fin 512) :
    (gvA Z (ix2 r j) : EReal) = Z (ix3 (⟨r.val / 4096, by omega⟩ : Fin 16) (⟨r.val % 4096, by omega⟩ : Fin 4096) (⟨512 + j.val, by omega⟩ : Fin 3088)) := by
  unfold gvA
  pointwise []

theorem ggA_at (Z : FVec Ideal S16x4096x3088 .f32) (r : Fin 65536) (j : Fin 512) :
    (ggA Z (ix2 r j) : EReal) = Z (ix3 (⟨r.val / 4096, by omega⟩ : Fin 16) (⟨r.val % 4096, by omega⟩ : Fin 4096) (⟨1024 + j.val, by omega⟩ : Fin 3088)) := by
  unfold ggA
  pointwise []

theorem sqA_at (Z : FVec Ideal S16x4096x3088 .f32) (b : Fin 16) (t : Fin 4096) (j : Fin 512) :
    (sqA Z (ix3 b t j) : EReal) = Z (ix3 b t (⟨1552 + j.val, by omega⟩ : Fin 3088)) := by
  unfold sqA
  pointwise []

theorem skA_at (Z : FVec Ideal S16x4096x3088 .f32) (b : Fin 16) (t : Fin 4096) (j : Fin 512) :
    (skA Z (ix3 b t j) : EReal) = Z (ix3 b t (⟨2064 + j.val, by omega⟩ : Fin 3088)) := by
  unfold skA
  pointwise []

theorem dvtA_at (Z : FVec Ideal S16x4096x3088 .f32) (b : Fin 256) (j : Fin 512) (t : Fin 256) :
    (dvtA Z (ix3 b j t) : EReal) = Z (ix3 (⟨(256 * b.val + t.val) / 4096, by omega⟩ : Fin 16) (⟨(256 * b.val + t.val) % 4096, by omega⟩ : Fin 4096) (⟨2576 + j.val, by omega⟩ : Fin 3088)) := by
  unfold dvtA
  pointwise []
  refine congrArg Z ?_
  congr 1
  · exact Fin.ext (by simp only; omega)
  · exact Fin.ext (by simp only; omega)

theorem preA_at (Z : FVec Ideal S16x4096x3088 .f32) (a4 : FVec Ideal S1x16x256 .f32) (a5 : FVec Ideal S1x256 .f32) (b : Fin 16) (t : Fin 4096) (j : Fin 256) :
    (preA Z a4 a5 (ix3 b t j) : EReal) = (∑ l : Fin 16, HMul.hMul (α := EReal) (Z (ix3 b t (⟨1536 + l.val, by omega⟩ : Fin 3088))) (a4 (ix3 (0 : Fin 1) l j))) + (a5 (ix2 (0 : Fin 1) j) : EReal) := by
  unfold preA
  pointwise []

theorem laA_at (P : FVec Ideal S16x4096x256 .f32) (r : Fin 65536) (j : Fin 256) (p : EReal)
    (hp : p = P (ix3 (⟨r.val / 4096, by omega⟩ : Fin 16) (⟨r.val % 4096, by omega⟩ : Fin 4096) j)) :
    (laA P (ix2 r j) : EReal) = Ideal.div (-(max (-p) 0 + Ideal.log1p (Ideal.exp (-(max (-p) p))))) (Ideal.ofBits FTy.f32 0x41800000#32) := by
  unfold laA
  pointwise []
  rw [← hp, if_neg (not_not.mpr rfl)]
  show Ideal.div (-(max (-p) 0 + Ideal.log1p (Ideal.exp (-(max (-p) (-(-p))))))) _ = _
  rw [neg_neg]

theorem angA_at (a1 : IVec S16x4096 32) (b : Fin 16) (t : Fin 4096) (i : Fin 32) :
    (angA a1 (ix3 b t i) : EReal) = HMul.hMul (α := EReal) (FloatOps.sitofp (F := Ideal) FTy.f32 (a1 (ix2 b t))) (Data.freq i.val) := by
  unfold angA Data.freq
  pointwise []

/-- The rotation of a row's columns from its tables of angles. -/
def rotT (s : Fin 512 → EReal) (C S : ℕ → EReal) (j : Fin 512) : EReal :=
  if j.val % 64 < 32 then s j * C (j.val % 64) - s ⟨(j.val / 64 * 64 + (32 + j.val % 64)) % 512, Nat.mod_lt _ (by norm_num)⟩ * S (j.val % 64)
  else s j * C (j.val % 64 - 32) + s ⟨j.val / 64 * 64 + (j.val % 64 - 32), by omega⟩ * S (j.val % 64 - 32)

theorem dkA_at (s : FVec Ideal S16x4096x512 .f32) (C S : FVec Ideal S16x4096x32 .f32) (r : Fin 65536) (j : Fin 512) :
    (dkA s C S (ix2 r j) : EReal) =
      rotT (fun i => s (ix3 (⟨r.val / 4096, by omega⟩ : Fin 16) (⟨r.val % 4096, by omega⟩ : Fin 4096) i))
        (fun i => C (ix3 (⟨r.val / 4096, by omega⟩ : Fin 16) (⟨r.val % 4096, by omega⟩ : Fin 4096) (⟨i % 32, by omega⟩ : Fin 32)))
        (fun i => S (ix3 (⟨r.val / 4096, by omega⟩ : Fin 16) (⟨r.val % 4096, by omega⟩ : Fin 4096) (⟨i % 32, by omega⟩ : Fin 32))) j := by
  unfold dkA rotT
  pointwise []
  have hj := j.isLt
  split
  · refine congrArg₂ (fun a b : EReal => a - b) (congrArg₂ (fun a b : EReal => a * b) rfl ?_) (congrArg₂ (fun a b : EReal => a * b) ?_ ?_)
    · exact congrArg (fun q => (C (ix3 _ _ q) : EReal)) (Fin.ext (by simp only; omega))
    · exact congrArg (fun q => (s (ix3 _ _ q) : EReal)) (Fin.ext (by simp only; omega))
    · exact congrArg (fun q => (S (ix3 _ _ q) : EReal)) (Fin.ext (by simp only; omega))
  · refine congrArg₂ (fun a b : EReal => a + b) (congrArg₂ (fun a b : EReal => a * b) ?_ ?_) (congrArg₂ (fun a b : EReal => a * b) rfl ?_)
    · exact congrArg (fun q => (s (ix3 _ _ q) : EReal)) (Fin.ext (by simp only; omega))
    · exact congrArg (fun q => (C (ix3 _ _ q) : EReal)) (Fin.ext (by simp only; omega))
    · exact congrArg (fun q => (S (ix3 _ _ q) : EReal)) (Fin.ext (by simp only; omega))

theorem dqA_at (s : FVec Ideal S16x4096x512 .f32) (C S : FVec Ideal S16x4096x32 .f32) (r : Fin 65536) (j : Fin 512) :
    (dqA s C S (ix2 r j) : EReal) =
      HMul.hMul (α := EReal) (HMul.hMul (α := EReal) (dkA s C S (ix2 r j)) (Ideal.ofBits FTy.f32 0x3E000000#32)) (Ideal.ofBits FTy.f32 0x3FB8AA3B#32) := by
  unfold dqA dkA
  pointwise []

variable (m : (ℓ : Loc nD τ sig) → Buf (Elt Ideal) ℓ) (c : Dev nD)

/-- What the reference is called on. -/
def data : Data where
  x r k := m ((c.tc : Thread nD τ).loc main_arg0) (ix3 (⟨r.val / 4096, by omega⟩ : Fin 16) (⟨r.val % 4096, by omega⟩ : Fin 4096) k)
  pos r := (FloatOps.sitofp (F := Ideal) FTy.f32 (m ((c.tc : Thread nD τ).loc main_arg1) (ix2 (⟨r.val / 4096, by omega⟩ : Fin 16) (⟨r.val % 4096, by omega⟩ : Fin 4096)) : BitVec 32) : EReal)
  nm k := m ((c.tc : Thread nD τ).loc main_arg2) (ix2 (0 : Fin 1) k)
  wi k j := m ((c.tc : Thread nD τ).loc main_arg3) (ix3 (0 : Fin 1) k j)
  wa l j := m ((c.tc : Thread nD τ).loc main_arg4) (ix3 (0 : Fin 1) l j)
  ba j := m ((c.tc : Thread nD τ).loc main_arg5) (ix2 (0 : Fin 1) j)

def zM : FVec Ideal S16x4096x3088 .f32 :=
  zA (m ((c.tc : Thread nD τ).loc main_arg0)) (m ((c.tc : Thread nD τ).loc main_arg2)) (m ((c.tc : Thread nD τ).loc main_arg3))

theorem zM_at (r : Fin 65536) (j : Fin 3088) :
    (zM m c (ix3 (⟨r.val / 4096, by omega⟩ : Fin 16) (⟨r.val % 4096, by omega⟩ : Fin 4096) j) : EReal) = (data m c).z r j :=
  zA_at _ _ _ _ _ _

theorem gq_at (r : Fin 65536) (j : Fin 256) : (gqA (zM m c) (ix2 r j) : EReal) = (data m c).gq r j := by
  rw [gqA_at, zM_at]; rfl
theorem gk_at (r : Fin 65536) (j : Fin 256) : (gkA (zM m c) (ix2 r j) : EReal) = (data m c).gk r j := by
  rw [gkA_at, zM_at]; rfl
theorem gv_at (r : Fin 65536) (j : Fin 512) : (gvA (zM m c) (ix2 r j) : EReal) = (data m c).gv r j := by
  rw [gvA_at, zM_at]; rfl
theorem gg_at (r : Fin 65536) (j : Fin 512) : (ggA (zM m c) (ix2 r j) : EReal) = (data m c).gg r j := by
  rw [ggA_at, zM_at]; rfl
theorem dvt_at (b : Fin 256) (j : Fin 512) (t : Fin 256) : (dvtA (zM m c) (ix3 b j t) : EReal) = (data m c).dvt b j t := by
  rw [dvtA_at]
  exact zM_at m c ⟨256 * b.val + t.val, by omega⟩ _

theorem la_at (r : Fin 65536) (j : Fin 256) :
    (laA (preA (zM m c) (m ((c.tc : Thread nD τ).loc main_arg4)) (m ((c.tc : Thread nD τ).loc main_arg5))) (ix2 r j) : EReal) = (data m c).la r j := by
  refine laA_at _ r j ((data m c).pre r j) ?_
  rw [preA_at]
  unfold Data.pre
  simp only [zM_at]
  rfl

def cM : FVec Ideal S16x4096x32 .f32 := Host.cos (angA (m ((c.tc : Thread nD τ).loc main_arg1)))
def sM : FVec Ideal S16x4096x32 .f32 := Host.sin (angA (m ((c.tc : Thread nD τ).loc main_arg1)))

theorem cM_at (r : Fin 65536) (i : Fin 32) :
    (cM m c (ix3 (⟨r.val / 4096, by omega⟩ : Fin 16) (⟨r.val % 4096, by omega⟩ : Fin 4096) i) : EReal) = Ideal.cos ((data m c).ang r i.val) :=
  congrArg Ideal.cos (angA_at _ _ _ _)
theorem sM_at (r : Fin 65536) (i : Fin 32) :
    (sM m c (ix3 (⟨r.val / 4096, by omega⟩ : Fin 16) (⟨r.val % 4096, by omega⟩ : Fin 4096) i) : EReal) = Ideal.sin ((data m c).ang r i.val) :=
  congrArg Ideal.sin (angA_at _ _ _ _)

theorem rot_at (s : FVec Ideal S16x4096x512 .f32) (r : Fin 65536) (j : Fin 512) :
    (dkA s (cM m c) (sM m c) (ix2 r j) : EReal) =
      (data m c).rot r (fun i => s (ix3 (⟨r.val / 4096, by omega⟩ : Fin 16) (⟨r.val % 4096, by omega⟩ : Fin 4096) i)) j := by
  rw [dkA_at]
  unfold rotT Data.rot
  simp only [cM_at, sM_at]
  have h1 : j.val % 64 < 32 → j.val % 64 % 32 = j.val % 64 := fun h => by omega
  have h2 : (j.val % 64 - 32) % 32 = j.val % 64 - 32 := by omega
  split
  · rename_i h
    rw [h1 h]
  · rw [h2]

theorem dk_at (r : Fin 65536) (j : Fin 512) : (dkA (skA (zM m c)) (cM m c) (sM m c) (ix2 r j) : EReal) = (data m c).dk r j := by
  rw [rot_at]
  simp only [skA_at, zM_at]
  rfl

theorem dq_at (r : Fin 65536) (j : Fin 512) : (dqA (sqA (zM m c)) (cM m c) (sM m c) (ix2 r j) : EReal) = (data m c).dq r j := by
  rw [dqA_at, rot_at]
  simp only [sqA_at, zM_at]
  rfl

theorem run_out (ρ : Dev nD → PrngReg) :
    θ_run (defs (F := Ideal)) (onTc (τ := τ) (main (F := Ideal))) ⟨m, fun _ => 0, ρ⟩ fun r => ∀ c : Dev nD,
      r.2.mem ((c.tc : Thread nD τ).loc main_v110) = gqA (zM m c)
      ∧ r.2.mem ((c.tc : Thread nD τ).loc main_v112) = gkA (zM m c)
      ∧ r.2.mem ((c.tc : Thread nD τ).loc main_v114) = gvA (zM m c)
      ∧ r.2.mem ((c.tc : Thread nD τ).loc main_v116) = ggA (zM m c)
      ∧ r.2.mem ((c.tc : Thread nD τ).loc main_v117) = laA (preA (zM m c) (m ((c.tc : Thread nD τ).loc main_arg4)) (m ((c.tc : Thread nD τ).loc main_arg5)))
      ∧ r.2.mem ((c.tc : Thread nD τ).loc main_v119) = dqA (sqA (zM m c)) (cM m c) (sM m c)
      ∧ r.2.mem ((c.tc : Thread nD τ).loc main_v121) = dkA (skA (zM m c)) (cM m c) (sM m c)
      ∧ r.2.mem ((c.tc : Thread nD τ).loc main_v122) = dvtA (zM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1, (h c).2.2.1, (h c).2.2.2.1, (h c).2.2.2.2.1.trans rfl, (h c).2.2.2.2.2.1.trans rfl, (h c).2.2.2.2.2.2.1.trans rfl, (h c).2.2.2.2.2.2.2.1,
    (h c).2.2.2.2.2.2.2.2⟩) (run m ρ)

/-- The reference's frame: no counter exists, so each is at zero. -/
theorem frame (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2.2.2.2.2, sem_eq_zero_of_no_sems rfl r.2⟩) (run_out m ρ)

end Cert.Reference3Ideal.Value
end
-- ==== Proof.ITop.lean ====
module
public import proofs.«01_k».proof.Defs
public import proofs.«01_k».proof.Proof.IFold
public import proofs.«01_k».proof.Proof.IRef
@[expose] public section
set_option maxRecDepth 16384
noncomputable section
namespace Cert.Proof
open Idealize.ShloMosaic Idealize.ShloMosaic.TcCoe Idealize.SL.Sem Idealize.ShloMosaic.StableHlo

/-- The projection's eight results and its reference's, from the same rows and weights, are the same arrays. -/
theorem algebraic_proj : Cert.algebraic_Kernel3Ideal_Reference3Ideal := by
  intro m g m' g' _ hm
  have hd : ∀ c, Cert.Reference3Ideal.Value.data m' c = Cert.Kernel3Ideal.Gen.data m c := fun c => by
    obtain ⟨h0, h1, h2, h3, h4, h5⟩ := hm c
    unfold Cert.Reference3Ideal.Value.data Cert.Kernel3Ideal.Gen.data
    simp only [← h0, ← h1, ← h2, ← h3, ← h4, ← h5]
  refine ⟨fun c => Cert.Kernel3Ideal.Gen.arr9 m c, fun c => Cert.Kernel3Ideal.Gen.arr10 m c, fun c => Cert.Kernel3Ideal.Gen.arr11 m c,
    fun c => Cert.Kernel3Ideal.Gen.arr12 m c, fun c => Cert.Kernel3Ideal.Gen.arr13 m c, fun c => Cert.Kernel3Ideal.Gen.arr14 m c,
    fun c => Cert.Kernel3Ideal.Gen.arr15 m c, fun c => Cert.Kernel3Ideal.Gen.arr16 m c, ?_, ?_⟩
  · refine (θ_run _ _ _).mono (fun r h c => ?_) (Cert.Kernel3Ideal.Value.run_blocks m g)
    obtain ⟨h0, h1, h2, h3, h4, h5, h6, h7, ha⟩ := h c
    exact ⟨h0.trans (Cert.Kernel3Ideal.Gen.final9 m c), h1.trans (Cert.Kernel3Ideal.Gen.final10 m c), h2.trans (Cert.Kernel3Ideal.Gen.final11 m c),
      h3.trans (Cert.Kernel3Ideal.Gen.final12 m c), h4.trans (Cert.Kernel3Ideal.Gen.final13 m c), h5.trans (Cert.Kernel3Ideal.Gen.final14 m c),
      h6.trans (Cert.Kernel3Ideal.Gen.final15 m c), h7.trans (Cert.Kernel3Ideal.Gen.final16 m c), ha⟩
  · refine (θ_run _ _ _).mono (fun r h c => ?_) (Cert.Reference3Ideal.Value.run_out m' g')
    obtain ⟨h0, h1, h2, h3, h4, h5, h6, h7, ha⟩ := h c
    refine ⟨h0.trans ?_, h1.trans ?_, h2.trans ?_, h3.trans ?_, h4.trans ?_, h5.trans ?_, h6.trans ?_, h7.trans ?_, ha⟩
    · funext i
      refine ((congrArg (Cert.Reference3Ideal.Value.gqA _) (eq_ix2 i)).trans (Cert.Reference3Ideal.Value.gq_at m' c (i 0) (i 1))).trans ?_
      rw [hd c]
      rfl
    · funext i
      refine ((congrArg (Cert.Reference3Ideal.Value.gkA _) (eq_ix2 i)).trans (Cert.Reference3Ideal.Value.gk_at m' c (i 0) (i 1))).trans ?_
      rw [hd c]
      rfl
    · funext i
      refine ((congrArg (Cert.Reference3Ideal.Value.gvA _) (eq_ix2 i)).trans (Cert.Reference3Ideal.Value.gv_at m' c (i 0) (i 1))).trans ?_
      rw [hd c]
      rfl
    · funext i
      refine ((congrArg (Cert.Reference3Ideal.Value.ggA _) (eq_ix2 i)).trans (Cert.Reference3Ideal.Value.gg_at m' c (i 0) (i 1))).trans ?_
      rw [hd c]
      rfl
    · funext i
      refine ((congrArg (Cert.Reference3Ideal.Value.laA _) (eq_ix2 i)).trans (Cert.Reference3Ideal.Value.la_at m' c (i 0) (i 1))).trans ?_
      rw [hd c]
      rfl
    · funext i
      refine ((congrArg (Cert.Reference3Ideal.Value.dqA _ _ _) (eq_ix2 i)).trans (Cert.Reference3Ideal.Value.dq_at m' c (i 0) (i 1))).trans ?_
      rw [hd c]
      rfl
    · funext i
      refine ((congrArg (Cert.Reference3Ideal.Value.dkA _ _ _) (eq_ix2 i)).trans (Cert.Reference3Ideal.Value.dk_at m' c (i 0) (i 1))).trans ?_
      rw [hd c]
      rfl
    · funext i
      refine ((congrArg (Cert.Reference3Ideal.Value.dvtA _) (eq_ix3 i)).trans (Cert.Reference3Ideal.Value.dvt_at m' c (i 0) (i 1) (i 2))).trans ?_
      rw [hd c]
      rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Top
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal.Run
public import proofs.«01_k».proof.Proof.TTop
public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.ITop
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    fun m ρ _ => Cert.Kernel2.Gen.frame m ρ,
    fun m ρ _ => Cert.Kernel2Ideal.Gen.frame m ρ,
    fun m ρ _ => Cert.Reference2Ideal.Value.frame m ρ,
    fun m ρ _ => Cert.Kernel3.Gen.frame m ρ,
    fun m ρ _ => Cert.Kernel3Ideal.Gen.frame m ρ,
    fun m ρ _ => Cert.Reference3Ideal.Value.frame m ρ,
    trivial,
    (letI := preFacts
    algebraic),
    preserves_tail,
    algebraic_tail,
    trivial,
    algebraic_proj⟩

end Cert.Proof

end
